-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_in_range [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixRefIdeal (m : (ℓ : Loc Cert.PremixRefIdeal.nD Cert.PremixRefIdeal.τ Cert.PremixRefIdeal.sig) → Buf (Elt Ideal) ℓ) : Prop :=
  True

def Pre_Postmix (m : (ℓ : Loc Cert.Postmix.nD Cert.Postmix.τ Cert.Postmix.sig) → Buf (Elt Bits) ℓ) : Prop :=
  True

def Pre_PostmixIdeal (m : (ℓ : Loc Cert.PostmixIdeal.nD Cert.PostmixIdeal.τ Cert.PostmixIdeal.sig) → Buf (Elt Ideal) ℓ) : Prop :=
  True

def Pre_PostmixIdeal_finite_router [hPre_finite_router : Cert.Pre_finite_router.Facts] (m : (ℓ : Loc Cert.PostmixIdeal.nD Cert.PostmixIdeal.τ Cert.PostmixIdeal.sig) → Buf (Elt Ideal) ℓ) : Prop :=
  ∀ c : Dev Cert.PostmixIdeal.nD,
    (Cert.Pre_finite_router.fn (F := Ideal) (m ((c.tc : Thread Cert.PostmixIdeal.nD Cert.PostmixIdeal.τ).loc Cert.PostmixIdeal.main_arg0)) (m ((c.tc : Thread Cert.PostmixIdeal.nD Cert.PostmixIdeal.τ).loc Cert.PostmixIdeal.main_arg1)) (m ((c.tc : Thread Cert.PostmixIdeal.nD Cert.PostmixIdeal.τ).loc Cert.PostmixIdeal.main_arg2)) (m ((c.tc : Thread Cert.PostmixIdeal.nD Cert.PostmixIdeal.τ).loc Cert.PostmixIdeal.main_arg3)) (m ((c.tc : Thread Cert.PostmixIdeal.nD Cert.PostmixIdeal.τ).loc Cert.PostmixIdeal.main_arg4)) (m ((c.tc : Thread Cert.PostmixIdeal.nD Cert.PostmixIdeal.τ).loc Cert.PostmixIdeal.main_arg5)) (m ((c.tc : Thread Cert.PostmixIdeal.nD Cert.PostmixIdeal.τ).loc Cert.PostmixIdeal.main_arg6)) (m ((c.tc : Thread Cert.PostmixIdeal.nD Cert.PostmixIdeal.τ).loc Cert.PostmixIdeal.main_arg7)) (m ((c.tc : Thread Cert.PostmixIdeal.nD Cert.PostmixIdeal.τ).loc Cert.PostmixIdeal.main_arg8))) = (fun _ => 1#1)

def Pre_PostmixRefIdeal (m : (ℓ : Loc Cert.PostmixRefIdeal.nD Cert.PostmixRefIdeal.τ Cert.PostmixRefIdeal.sig) → Buf (Elt Ideal) ℓ) : Prop :=
  True

def Pre_PostmixRefIdeal_finite_router [hPre_finite_router : Cert.Pre_finite_router.Facts] (m : (ℓ : Loc Cert.PostmixRefIdeal.nD Cert.PostmixRefIdeal.τ Cert.PostmixRefIdeal.sig) → Buf (Elt Ideal) ℓ) : Prop :=
  ∀ c : Dev Cert.PostmixRefIdeal.nD,
    (Cert.Pre_finite_router.fn (F := Ideal) (m ((c.tc : Thread Cert.PostmixRefIdeal.nD Cert.PostmixRefIdeal.τ).loc Cert.PostmixRefIdeal.main_arg0)) (m ((c.tc : Thread Cert.PostmixRefIdeal.nD Cert.PostmixRefIdeal.τ).loc Cert.PostmixRefIdeal.main_arg1)) (m ((c.tc : Thread Cert.PostmixRefIdeal.nD Cert.PostmixRefIdeal.τ).loc Cert.PostmixRefIdeal.main_arg2)) (m ((c.tc : Thread Cert.PostmixRefIdeal.nD Cert.PostmixRefIdeal.τ).loc Cert.PostmixRefIdeal.main_arg3)) (m ((c.tc : Thread Cert.PostmixRefIdeal.nD Cert.PostmixRefIdeal.τ).loc Cert.PostmixRefIdeal.main_arg4)) (m ((c.tc : Thread Cert.PostmixRefIdeal.nD Cert.PostmixRefIdeal.τ).loc Cert.PostmixRefIdeal.main_arg5)) (m ((c.tc : Thread Cert.PostmixRefIdeal.nD Cert.PostmixRefIdeal.τ).loc Cert.PostmixRefIdeal.main_arg6)) (m ((c.tc : Thread Cert.PostmixRefIdeal.nD Cert.PostmixRefIdeal.τ).loc Cert.PostmixRefIdeal.main_arg7)) (m ((c.tc : Thread Cert.PostmixRefIdeal.nD Cert.PostmixRefIdeal.τ).loc Cert.PostmixRefIdeal.main_arg8))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerRefIdeal (m : (ℓ : Loc Cert.ConformerRefIdeal.nD Cert.ConformerRefIdeal.τ Cert.ConformerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables_in_range [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4)
      ∧ r.2.mem ((c.tc : Thread Cert.Premix.nD Cert.Premix.τ).loc Cert.Premix.main_arg5) = m ((c.tc : Thread Cert.Premix.nD Cert.Premix.τ).loc Cert.Premix.main_arg5))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
      ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5))
      ∧ r.2.sem = fun _ => 0)

def quiescent_PremixRefIdeal [hPremixRefIdeal : Cert.PremixRefIdeal.Facts] : Prop :=
  ∀ (m : (ℓ : Loc Cert.PremixRefIdeal.nD Cert.PremixRefIdeal.τ Cert.PremixRefIdeal.sig) → Buf (Elt Ideal) ℓ) (g : Dev Cert.PremixRefIdeal.nD → PrngReg), Pre_PremixRefIdeal m →
    θ_run (Cert.PremixRefIdeal.defs (F := Ideal)) (onTc (τ := Cert.PremixRefIdeal.τ) (Cert.PremixRefIdeal.main (F := Ideal))) ⟨m, fun _ => 0, g⟩ (fun r => (∀ c : Dev Cert.PremixRefIdeal.nD,
      r.2.mem ((c.tc : Thread Cert.PremixRefIdeal.nD Cert.PremixRefIdeal.τ).loc Cert.PremixRefIdeal.main_arg0) = m ((c.tc : Thread Cert.PremixRefIdeal.nD Cert.PremixRefIdeal.τ).loc Cert.PremixRefIdeal.main_arg0)
      ∧ r.2.mem ((c.tc : Thread Cert.PremixRefIdeal.nD Cert.PremixRefIdeal.τ).loc Cert.PremixRefIdeal.main_arg1) = m ((c.tc : Thread Cert.PremixRefIdeal.nD Cert.PremixRefIdeal.τ).loc Cert.PremixRefIdeal.main_arg1)
      ∧ r.2.mem ((c.tc : Thread Cert.PremixRefIdeal.nD Cert.PremixRefIdeal.τ).loc Cert.PremixRefIdeal.main_arg2) = m ((c.tc : Thread Cert.PremixRefIdeal.nD Cert.PremixRefIdeal.τ).loc Cert.PremixRefIdeal.main_arg2)
      ∧ r.2.mem ((c.tc : Thread Cert.PremixRefIdeal.nD Cert.PremixRefIdeal.τ).loc Cert.PremixRefIdeal.main_arg3) = m ((c.tc : Thread Cert.PremixRefIdeal.nD Cert.PremixRefIdeal.τ).loc Cert.PremixRefIdeal.main_arg3)
      ∧ r.2.mem ((c.tc : Thread Cert.PremixRefIdeal.nD Cert.PremixRefIdeal.τ).loc Cert.PremixRefIdeal.main_arg4) = m ((c.tc : Thread Cert.PremixRefIdeal.nD Cert.PremixRefIdeal.τ).loc Cert.PremixRefIdeal.main_arg4)
      ∧ r.2.mem ((c.tc : Thread Cert.PremixRefIdeal.nD Cert.PremixRefIdeal.τ).loc Cert.PremixRefIdeal.main_arg5) = m ((c.tc : Thread Cert.PremixRefIdeal.nD Cert.PremixRefIdeal.τ).loc Cert.PremixRefIdeal.main_arg5))
      ∧ r.2.sem = fun _ => 0)

def quiescent_Postmix [hPostmix : Cert.Postmix.Facts] : Prop :=
  ∀ (m : (ℓ : Loc Cert.Postmix.nD Cert.Postmix.τ Cert.Postmix.sig) → Buf (Elt Bits) ℓ) (g : Dev Cert.Postmix.nD → PrngReg), Pre_Postmix m →
    θ_run (Cert.Postmix.defs (F := Bits)) (onTc (τ := Cert.Postmix.τ) (Cert.Postmix.main (F := Bits))) ⟨m, fun _ => 0, g⟩ (fun r => (∀ c : Dev Cert.Postmix.nD,
      r.2.mem ((c.tc : Thread Cert.Postmix.nD Cert.Postmix.τ).loc Cert.Postmix.main_arg0) = m ((c.tc : Thread Cert.Postmix.nD Cert.Postmix.τ).loc Cert.Postmix.main_arg0)
      ∧ r.2.mem ((c.tc : Thread Cert.Postmix.nD Cert.Postmix.τ).loc Cert.Postmix.main_arg1) = m ((c.tc : Thread Cert.Postmix.nD Cert.Postmix.τ).loc Cert.Postmix.main_arg1)
      ∧ r.2.mem ((c.tc : Thread Cert.Postmix.nD Cert.Postmix.τ).loc Cert.Postmix.main_arg2) = m ((c.tc : Thread Cert.Postmix.nD Cert.Postmix.τ).loc Cert.Postmix.main_arg2)
      ∧ r.2.mem ((c.tc : Thread Cert.Postmix.nD Cert.Postmix.τ).loc Cert.Postmix.main_arg3) = m ((c.tc : Thread Cert.Postmix.nD Cert.Postmix.τ).loc Cert.Postmix.main_arg3)
      ∧ r.2.mem ((c.tc : Thread Cert.Postmix.nD Cert.Postmix.τ).loc Cert.Postmix.main_arg4) = m ((c.tc : Thread Cert.Postmix.nD Cert.Postmix.τ).loc Cert.Postmix.main_arg4)
      ∧ r.2.mem ((c.tc : Thread Cert.Postmix.nD Cert.Postmix.τ).loc Cert.Postmix.main_arg5) = m ((c.tc : Thread Cert.Postmix.nD Cert.Postmix.τ).loc Cert.Postmix.main_arg5)
      ∧ r.2.mem ((c.tc : Thread Cert.Postmix.nD Cert.Postmix.τ).loc Cert.Postmix.main_arg6) = m ((c.tc : Thread Cert.Postmix.nD Cert.Postmix.τ).loc Cert.Postmix.main_arg6)
      ∧ r.2.mem ((c.tc : Thread Cert.Postmix.nD Cert.Postmix.τ).loc Cert.Postmix.main_arg7) = m ((c.tc : Thread Cert.Postmix.nD Cert.Postmix.τ).loc Cert.Postmix.main_arg7)
      ∧ r.2.mem ((c.tc : Thread Cert.Postmix.nD Cert.Postmix.τ).loc Cert.Postmix.main_arg8) = m ((c.tc : Thread Cert.Postmix.nD Cert.Postmix.τ).loc Cert.Postmix.main_arg8))
      ∧ r.2.sem = fun _ => 0)

def quiescent_PostmixIdeal [hPostmixIdeal : Cert.PostmixIdeal.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
      ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8))
      ∧ r.2.sem = fun _ => 0)

def quiescent_PostmixIdeal_pre_finite_router [hPostmixIdeal : Cert.PostmixIdeal.Facts] [hPre_finite_router : Cert.Pre_finite_router.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal_finite_router m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
      ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8))
      ∧ r.2.sem = fun _ => 0)

def quiescent_PostmixRefIdeal [hPostmixRefIdeal : Cert.PostmixRefIdeal.Facts] : Prop :=
  ∀ (m : (ℓ : Loc Cert.PostmixRefIdeal.nD Cert.PostmixRefIdeal.τ Cert.PostmixRefIdeal.sig) → Buf (Elt Ideal) ℓ) (g : Dev Cert.PostmixRefIdeal.nD → PrngReg), Pre_PostmixRefIdeal m →
    θ_run (Cert.PostmixRefIdeal.defs (F := Ideal)) (onTc (τ := Cert.PostmixRefIdeal.τ) (Cert.PostmixRefIdeal.main (F := Ideal))) ⟨m, fun _ => 0, g⟩ (fun r => (∀ c : Dev Cert.PostmixRefIdeal.nD,
      r.2.mem ((c.tc : Thread Cert.PostmixRefIdeal.nD Cert.PostmixRefIdeal.τ).loc Cert.PostmixRefIdeal.main_arg0) = m ((c.tc : Thread Cert.PostmixRefIdeal.nD Cert.PostmixRefIdeal.τ).loc Cert.PostmixRefIdeal.main_arg0)
      ∧ r.2.mem ((c.tc : Thread Cert.PostmixRefIdeal.nD Cert.PostmixRefIdeal.τ).loc Cert.PostmixRefIdeal.main_arg1) = m ((c.tc : Thread Cert.PostmixRefIdeal.nD Cert.PostmixRefIdeal.τ).loc Cert.PostmixRefIdeal.main_arg1)
      ∧ r.2.mem ((c.tc : Thread Cert.PostmixRefIdeal.nD Cert.PostmixRefIdeal.τ).loc Cert.PostmixRefIdeal.main_arg2) = m ((c.tc : Thread Cert.PostmixRefIdeal.nD Cert.PostmixRefIdeal.τ).loc Cert.PostmixRefIdeal.main_arg2)
      ∧ r.2.mem ((c.tc : Thread Cert.PostmixRefIdeal.nD Cert.PostmixRefIdeal.τ).loc Cert.PostmixRefIdeal.main_arg3) = m ((c.tc : Thread Cert.PostmixRefIdeal.nD Cert.PostmixRefIdeal.τ).loc Cert.PostmixRefIdeal.main_arg3)
      ∧ r.2.mem ((c.tc : Thread Cert.PostmixRefIdeal.nD Cert.PostmixRefIdeal.τ).loc Cert.PostmixRefIdeal.main_arg4) = m ((c.tc : Thread Cert.PostmixRefIdeal.nD Cert.PostmixRefIdeal.τ).loc Cert.PostmixRefIdeal.main_arg4)
      ∧ r.2.mem ((c.tc : Thread Cert.PostmixRefIdeal.nD Cert.PostmixRefIdeal.τ).loc Cert.PostmixRefIdeal.main_arg5) = m ((c.tc : Thread Cert.PostmixRefIdeal.nD Cert.PostmixRefIdeal.τ).loc Cert.PostmixRefIdeal.main_arg5)
      ∧ r.2.mem ((c.tc : Thread Cert.PostmixRefIdeal.nD Cert.PostmixRefIdeal.τ).loc Cert.PostmixRefIdeal.main_arg6) = m ((c.tc : Thread Cert.PostmixRefIdeal.nD Cert.PostmixRefIdeal.τ).loc Cert.PostmixRefIdeal.main_arg6)
      ∧ r.2.mem ((c.tc : Thread Cert.PostmixRefIdeal.nD Cert.PostmixRefIdeal.τ).loc Cert.PostmixRefIdeal.main_arg7) = m ((c.tc : Thread Cert.PostmixRefIdeal.nD Cert.PostmixRefIdeal.τ).loc Cert.PostmixRefIdeal.main_arg7)
      ∧ r.2.mem ((c.tc : Thread Cert.PostmixRefIdeal.nD Cert.PostmixRefIdeal.τ).loc Cert.PostmixRefIdeal.main_arg8) = m ((c.tc : Thread Cert.PostmixRefIdeal.nD Cert.PostmixRefIdeal.τ).loc Cert.PostmixRefIdeal.main_arg8))
      ∧ r.2.sem = fun _ => 0)

def quiescent_PostmixRefIdeal_pre_finite_router [hPostmixRefIdeal : Cert.PostmixRefIdeal.Facts] [hPre_finite_router : Cert.Pre_finite_router.Facts] : Prop :=
  ∀ (m : (ℓ : Loc Cert.PostmixRefIdeal.nD Cert.PostmixRefIdeal.τ Cert.PostmixRefIdeal.sig) → Buf (Elt Ideal) ℓ) (g : Dev Cert.PostmixRefIdeal.nD → PrngReg), Pre_PostmixRefIdeal_finite_router m →
    θ_run (Cert.PostmixRefIdeal.defs (F := Ideal)) (onTc (τ := Cert.PostmixRefIdeal.τ) (Cert.PostmixRefIdeal.main (F := Ideal))) ⟨m, fun _ => 0, g⟩ (fun r => (∀ c : Dev Cert.PostmixRefIdeal.nD,
      r.2.mem ((c.tc : Thread Cert.PostmixRefIdeal.nD Cert.PostmixRefIdeal.τ).loc Cert.PostmixRefIdeal.main_arg0) = m ((c.tc : Thread Cert.PostmixRefIdeal.nD Cert.PostmixRefIdeal.τ).loc Cert.PostmixRefIdeal.main_arg0)
      ∧ r.2.mem ((c.tc : Thread Cert.PostmixRefIdeal.nD Cert.PostmixRefIdeal.τ).loc Cert.PostmixRefIdeal.main_arg1) = m ((c.tc : Thread Cert.PostmixRefIdeal.nD Cert.PostmixRefIdeal.τ).loc Cert.PostmixRefIdeal.main_arg1)
      ∧ r.2.mem ((c.tc : Thread Cert.PostmixRefIdeal.nD Cert.PostmixRefIdeal.τ).loc Cert.PostmixRefIdeal.main_arg2) = m ((c.tc : Thread Cert.PostmixRefIdeal.nD Cert.PostmixRefIdeal.τ).loc Cert.PostmixRefIdeal.main_arg2)
      ∧ r.2.mem ((c.tc : Thread Cert.PostmixRefIdeal.nD Cert.PostmixRefIdeal.τ).loc Cert.PostmixRefIdeal.main_arg3) = m ((c.tc : Thread Cert.PostmixRefIdeal.nD Cert.PostmixRefIdeal.τ).loc Cert.PostmixRefIdeal.main_arg3)
      ∧ r.2.mem ((c.tc : Thread Cert.PostmixRefIdeal.nD Cert.PostmixRefIdeal.τ).loc Cert.PostmixRefIdeal.main_arg4) = m ((c.tc : Thread Cert.PostmixRefIdeal.nD Cert.PostmixRefIdeal.τ).loc Cert.PostmixRefIdeal.main_arg4)
      ∧ r.2.mem ((c.tc : Thread Cert.PostmixRefIdeal.nD Cert.PostmixRefIdeal.τ).loc Cert.PostmixRefIdeal.main_arg5) = m ((c.tc : Thread Cert.PostmixRefIdeal.nD Cert.PostmixRefIdeal.τ).loc Cert.PostmixRefIdeal.main_arg5)
      ∧ r.2.mem ((c.tc : Thread Cert.PostmixRefIdeal.nD Cert.PostmixRefIdeal.τ).loc Cert.PostmixRefIdeal.main_arg6) = m ((c.tc : Thread Cert.PostmixRefIdeal.nD Cert.PostmixRefIdeal.τ).loc Cert.PostmixRefIdeal.main_arg6)
      ∧ r.2.mem ((c.tc : Thread Cert.PostmixRefIdeal.nD Cert.PostmixRefIdeal.τ).loc Cert.PostmixRefIdeal.main_arg7) = m ((c.tc : Thread Cert.PostmixRefIdeal.nD Cert.PostmixRefIdeal.τ).loc Cert.PostmixRefIdeal.main_arg7)
      ∧ r.2.mem ((c.tc : Thread Cert.PostmixRefIdeal.nD Cert.PostmixRefIdeal.τ).loc Cert.PostmixRefIdeal.main_arg8) = m ((c.tc : Thread Cert.PostmixRefIdeal.nD Cert.PostmixRefIdeal.τ).loc Cert.PostmixRefIdeal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ r.2.sem = fun _ => 0)

def quiescent_ConformerRefIdeal [hConformerRefIdeal : Cert.ConformerRefIdeal.Facts] : Prop :=
  ∀ (m : (ℓ : Loc Cert.ConformerRefIdeal.nD Cert.ConformerRefIdeal.τ Cert.ConformerRefIdeal.sig) → Buf (Elt Ideal) ℓ) (g : Dev Cert.ConformerRefIdeal.nD → PrngReg), Pre_ConformerRefIdeal m →
    θ_run (Cert.ConformerRefIdeal.defs (F := Ideal)) (onTc (τ := Cert.ConformerRefIdeal.τ) (Cert.ConformerRefIdeal.main (F := Ideal))) ⟨m, fun _ => 0, g⟩ (fun r => (∀ c : Dev Cert.ConformerRefIdeal.nD,
      r.2.mem ((c.tc : Thread Cert.ConformerRefIdeal.nD Cert.ConformerRefIdeal.τ).loc Cert.ConformerRefIdeal.main_arg0) = m ((c.tc : Thread Cert.ConformerRefIdeal.nD Cert.ConformerRefIdeal.τ).loc Cert.ConformerRefIdeal.main_arg0)
      ∧ r.2.mem ((c.tc : Thread Cert.ConformerRefIdeal.nD Cert.ConformerRefIdeal.τ).loc Cert.ConformerRefIdeal.main_arg1) = m ((c.tc : Thread Cert.ConformerRefIdeal.nD Cert.ConformerRefIdeal.τ).loc Cert.ConformerRefIdeal.main_arg1)
      ∧ r.2.mem ((c.tc : Thread Cert.ConformerRefIdeal.nD Cert.ConformerRefIdeal.τ).loc Cert.ConformerRefIdeal.main_arg2) = m ((c.tc : Thread Cert.ConformerRefIdeal.nD Cert.ConformerRefIdeal.τ).loc Cert.ConformerRefIdeal.main_arg2)
      ∧ r.2.mem ((c.tc : Thread Cert.ConformerRefIdeal.nD Cert.ConformerRefIdeal.τ).loc Cert.ConformerRefIdeal.main_arg3) = m ((c.tc : Thread Cert.ConformerRefIdeal.nD Cert.ConformerRefIdeal.τ).loc Cert.ConformerRefIdeal.main_arg3)
      ∧ r.2.mem ((c.tc : Thread Cert.ConformerRefIdeal.nD Cert.ConformerRefIdeal.τ).loc Cert.ConformerRefIdeal.main_arg4) = m ((c.tc : Thread Cert.ConformerRefIdeal.nD Cert.ConformerRefIdeal.τ).loc Cert.ConformerRefIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v34) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Premix_PremixIdeal : Prop :=
  True

def algebraic_PremixIdeal_PremixRefIdeal [hPremixIdeal : Cert.PremixIdeal.Facts] [hPremixRefIdeal : Cert.PremixRefIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixRefIdeal.nD Cert.PremixRefIdeal.τ Cert.PremixRefIdeal.sig) → Buf (Elt Ideal) ℓ) (g' : Dev Cert.PremixRefIdeal.nD → PrngReg), Pre_PremixIdeal m →
    (∀ c : Dev Cert.PremixIdeal.nD,
      m' ((c.tc : Thread Cert.PremixRefIdeal.nD Cert.PremixRefIdeal.τ).loc Cert.PremixRefIdeal.main_arg0) = m ((c.tc : Thread Cert.PremixIdeal.nD Cert.PremixIdeal.τ).loc Cert.PremixIdeal.main_arg0)
      ∧ m' ((c.tc : Thread Cert.PremixRefIdeal.nD Cert.PremixRefIdeal.τ).loc Cert.PremixRefIdeal.main_arg1) = m ((c.tc : Thread Cert.PremixIdeal.nD Cert.PremixIdeal.τ).loc Cert.PremixIdeal.main_arg1)
      ∧ m' ((c.tc : Thread Cert.PremixRefIdeal.nD Cert.PremixRefIdeal.τ).loc Cert.PremixRefIdeal.main_arg2) = m ((c.tc : Thread Cert.PremixIdeal.nD Cert.PremixIdeal.τ).loc Cert.PremixIdeal.main_arg2)
      ∧ m' ((c.tc : Thread Cert.PremixRefIdeal.nD Cert.PremixRefIdeal.τ).loc Cert.PremixRefIdeal.main_arg3) = m ((c.tc : Thread Cert.PremixIdeal.nD Cert.PremixIdeal.τ).loc Cert.PremixIdeal.main_arg3)
      ∧ m' ((c.tc : Thread Cert.PremixRefIdeal.nD Cert.PremixRefIdeal.τ).loc Cert.PremixRefIdeal.main_arg4) = m ((c.tc : Thread Cert.PremixIdeal.nD Cert.PremixIdeal.τ).loc Cert.PremixIdeal.main_arg4)
      ∧ m' ((c.tc : Thread Cert.PremixRefIdeal.nD Cert.PremixRefIdeal.τ).loc Cert.PremixRefIdeal.main_arg5) = m ((c.tc : Thread Cert.PremixIdeal.nD Cert.PremixIdeal.τ).loc Cert.PremixIdeal.main_arg5)) →
    ∃ (v0 : (c : Dev Cert.PremixIdeal.nD) → Buf (Elt Ideal) ((c.tc : Thread Cert.PremixIdeal.nD Cert.PremixIdeal.τ).loc Cert.PremixIdeal.main_v2_0)) (v1 : (c : Dev Cert.PremixIdeal.nD) → Buf (Elt Ideal) ((c.tc : Thread Cert.PremixIdeal.nD Cert.PremixIdeal.τ).loc Cert.PremixIdeal.main_v2_1)) (v2 : (c : Dev Cert.PremixIdeal.nD) → Buf (Elt Ideal) ((c.tc : Thread Cert.PremixIdeal.nD Cert.PremixIdeal.τ).loc Cert.PremixIdeal.main_v2_2)) (v3 : (c : Dev Cert.PremixIdeal.nD) → Buf (Elt Ideal) ((c.tc : Thread Cert.PremixIdeal.nD Cert.PremixIdeal.τ).loc Cert.PremixIdeal.main_v2_3)) (v4 : (c : Dev Cert.PremixIdeal.nD) → Buf (Elt Ideal) ((c.tc : Thread Cert.PremixIdeal.nD Cert.PremixIdeal.τ).loc Cert.PremixIdeal.main_v2_4)) (v5 : (c : Dev Cert.PremixIdeal.nD) → Buf (Elt Ideal) ((c.tc : Thread Cert.PremixIdeal.nD Cert.PremixIdeal.τ).loc Cert.PremixIdeal.main_v2_5)) (v6 : (c : Dev Cert.PremixIdeal.nD) → Buf (Elt Ideal) ((c.tc : Thread Cert.PremixIdeal.nD Cert.PremixIdeal.τ).loc Cert.PremixIdeal.main_v2_6)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v2_0) = v0 c
          ∧ r.2.mem ((c.tc : Thread Cert.PremixIdeal.nD Cert.PremixIdeal.τ).loc Cert.PremixIdeal.main_v2_1) = v1 c
          ∧ r.2.mem ((c.tc : Thread Cert.PremixIdeal.nD Cert.PremixIdeal.τ).loc Cert.PremixIdeal.main_v2_2) = v2 c
          ∧ r.2.mem ((c.tc : Thread Cert.PremixIdeal.nD Cert.PremixIdeal.τ).loc Cert.PremixIdeal.main_v2_3) = v3 c
          ∧ r.2.mem ((c.tc : Thread Cert.PremixIdeal.nD Cert.PremixIdeal.τ).loc Cert.PremixIdeal.main_v2_4) = v4 c
          ∧ r.2.mem ((c.tc : Thread Cert.PremixIdeal.nD Cert.PremixIdeal.τ).loc Cert.PremixIdeal.main_v2_5) = v5 c
          ∧ r.2.mem ((c.tc : Thread Cert.PremixIdeal.nD Cert.PremixIdeal.τ).loc Cert.PremixIdeal.main_v2_6) = v6 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
          ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5))
      ∧ θ_run (Cert.PremixRefIdeal.defs (F := Ideal)) (onTc (τ := Cert.PremixRefIdeal.τ) (Cert.PremixRefIdeal.main (F := Ideal))) ⟨m', fun _ => 0, g'⟩ (fun r => ∀ c : Dev Cert.PremixRefIdeal.nD,
          r.2.mem ((c.tc : Thread Cert.PremixRefIdeal.nD Cert.PremixRefIdeal.τ).loc Cert.PremixRefIdeal.main_v46) = v0 c
          ∧ r.2.mem ((c.tc : Thread Cert.PremixRefIdeal.nD Cert.PremixRefIdeal.τ).loc Cert.PremixRefIdeal.main_v48) = v1 c
          ∧ r.2.mem ((c.tc : Thread Cert.PremixRefIdeal.nD Cert.PremixRefIdeal.τ).loc Cert.PremixRefIdeal.main_v49) = v2 c
          ∧ r.2.mem ((c.tc : Thread Cert.PremixRefIdeal.nD Cert.PremixRefIdeal.τ).loc Cert.PremixRefIdeal.main_v50) = v3 c
          ∧ r.2.mem ((c.tc : Thread Cert.PremixRefIdeal.nD Cert.PremixRefIdeal.τ).loc Cert.PremixRefIdeal.main_v51) = v4 c
          ∧ r.2.mem ((c.tc : Thread Cert.PremixRefIdeal.nD Cert.PremixRefIdeal.τ).loc Cert.PremixRefIdeal.main_v37) = v5 c
          ∧ r.2.mem ((c.tc : Thread Cert.PremixRefIdeal.nD Cert.PremixRefIdeal.τ).loc Cert.PremixRefIdeal.main_v44) = v6 c
          ∧ r.2.mem ((c.tc : Thread Cert.PremixRefIdeal.nD Cert.PremixRefIdeal.τ).loc Cert.PremixRefIdeal.main_arg0) = m' ((c.tc : Thread Cert.PremixRefIdeal.nD Cert.PremixRefIdeal.τ).loc Cert.PremixRefIdeal.main_arg0)
          ∧ r.2.mem ((c.tc : Thread Cert.PremixRefIdeal.nD Cert.PremixRefIdeal.τ).loc Cert.PremixRefIdeal.main_arg1) = m' ((c.tc : Thread Cert.PremixRefIdeal.nD Cert.PremixRefIdeal.τ).loc Cert.PremixRefIdeal.main_arg1)
          ∧ r.2.mem ((c.tc : Thread Cert.PremixRefIdeal.nD Cert.PremixRefIdeal.τ).loc Cert.PremixRefIdeal.main_arg2) = m' ((c.tc : Thread Cert.PremixRefIdeal.nD Cert.PremixRefIdeal.τ).loc Cert.PremixRefIdeal.main_arg2)
          ∧ r.2.mem ((c.tc : Thread Cert.PremixRefIdeal.nD Cert.PremixRefIdeal.τ).loc Cert.PremixRefIdeal.main_arg3) = m' ((c.tc : Thread Cert.PremixRefIdeal.nD Cert.PremixRefIdeal.τ).loc Cert.PremixRefIdeal.main_arg3)
          ∧ r.2.mem ((c.tc : Thread Cert.PremixRefIdeal.nD Cert.PremixRefIdeal.τ).loc Cert.PremixRefIdeal.main_arg4) = m' ((c.tc : Thread Cert.PremixRefIdeal.nD Cert.PremixRefIdeal.τ).loc Cert.PremixRefIdeal.main_arg4)
          ∧ r.2.mem ((c.tc : Thread Cert.PremixRefIdeal.nD Cert.PremixRefIdeal.τ).loc Cert.PremixRefIdeal.main_arg5) = m' ((c.tc : Thread Cert.PremixRefIdeal.nD Cert.PremixRefIdeal.τ).loc Cert.PremixRefIdeal.main_arg5))

def preserves_Postmix_PostmixIdeal : Prop :=
  True

def algebraic_PostmixIdeal_PostmixRefIdeal_pre_finite_router [hPostmixIdeal : Cert.PostmixIdeal.Facts] [hPostmixRefIdeal : Cert.PostmixRefIdeal.Facts] [hPre_finite_router : Cert.Pre_finite_router.Facts] : Prop :=
  ∀ (m : (ℓ : Loc Cert.PostmixIdeal.nD Cert.PostmixIdeal.τ Cert.PostmixIdeal.sig) → Buf (Elt Ideal) ℓ) (g : Dev Cert.PostmixIdeal.nD → PrngReg)
    (m' : (ℓ : Loc Cert.PostmixRefIdeal.nD Cert.PostmixRefIdeal.τ Cert.PostmixRefIdeal.sig) → Buf (Elt Ideal) ℓ) (g' : Dev Cert.PostmixRefIdeal.nD → PrngReg), Pre_PostmixIdeal_finite_router m →
    (∀ c : Dev Cert.PostmixIdeal.nD,
      m' ((c.tc : Thread Cert.PostmixRefIdeal.nD Cert.PostmixRefIdeal.τ).loc Cert.PostmixRefIdeal.main_arg0) = m ((c.tc : Thread Cert.PostmixIdeal.nD Cert.PostmixIdeal.τ).loc Cert.PostmixIdeal.main_arg0)
      ∧ m' ((c.tc : Thread Cert.PostmixRefIdeal.nD Cert.PostmixRefIdeal.τ).loc Cert.PostmixRefIdeal.main_arg1) = m ((c.tc : Thread Cert.PostmixIdeal.nD Cert.PostmixIdeal.τ).loc Cert.PostmixIdeal.main_arg1)
      ∧ m' ((c.tc : Thread Cert.PostmixRefIdeal.nD Cert.PostmixRefIdeal.τ).loc Cert.PostmixRefIdeal.main_arg2) = m ((c.tc : Thread Cert.PostmixIdeal.nD Cert.PostmixIdeal.τ).loc Cert.PostmixIdeal.main_arg2)
      ∧ m' ((c.tc : Thread Cert.PostmixRefIdeal.nD Cert.PostmixRefIdeal.τ).loc Cert.PostmixRefIdeal.main_arg3) = m ((c.tc : Thread Cert.PostmixIdeal.nD Cert.PostmixIdeal.τ).loc Cert.PostmixIdeal.main_arg3)
      ∧ m' ((c.tc : Thread Cert.PostmixRefIdeal.nD Cert.PostmixRefIdeal.τ).loc Cert.PostmixRefIdeal.main_arg4) = m ((c.tc : Thread Cert.PostmixIdeal.nD Cert.PostmixIdeal.τ).loc Cert.PostmixIdeal.main_arg4)
      ∧ m' ((c.tc : Thread Cert.PostmixRefIdeal.nD Cert.PostmixRefIdeal.τ).loc Cert.PostmixRefIdeal.main_arg5) = m ((c.tc : Thread Cert.PostmixIdeal.nD Cert.PostmixIdeal.τ).loc Cert.PostmixIdeal.main_arg5)
      ∧ m' ((c.tc : Thread Cert.PostmixRefIdeal.nD Cert.PostmixRefIdeal.τ).loc Cert.PostmixRefIdeal.main_arg6) = m ((c.tc : Thread Cert.PostmixIdeal.nD Cert.PostmixIdeal.τ).loc Cert.PostmixIdeal.main_arg6)
      ∧ m' ((c.tc : Thread Cert.PostmixRefIdeal.nD Cert.PostmixRefIdeal.τ).loc Cert.PostmixRefIdeal.main_arg7) = m ((c.tc : Thread Cert.PostmixIdeal.nD Cert.PostmixIdeal.τ).loc Cert.PostmixIdeal.main_arg7)
      ∧ m' ((c.tc : Thread Cert.PostmixRefIdeal.nD Cert.PostmixRefIdeal.τ).loc Cert.PostmixRefIdeal.main_arg8) = m ((c.tc : Thread Cert.PostmixIdeal.nD Cert.PostmixIdeal.τ).loc Cert.PostmixIdeal.main_arg8)) →
    ∃ (v0 : (c : Dev Cert.PostmixIdeal.nD) → Buf (Elt Ideal) ((c.tc : Thread Cert.PostmixIdeal.nD Cert.PostmixIdeal.τ).loc Cert.PostmixIdeal.main_v3_0)) (v1 : (c : Dev Cert.PostmixIdeal.nD) → Buf (Elt Ideal) ((c.tc : Thread Cert.PostmixIdeal.nD Cert.PostmixIdeal.τ).loc Cert.PostmixIdeal.main_v3_1)) (v2 : (c : Dev Cert.PostmixIdeal.nD) → Buf (Elt Ideal) ((c.tc : Thread Cert.PostmixIdeal.nD Cert.PostmixIdeal.τ).loc Cert.PostmixIdeal.main_v3_2)),
      θ_run (Cert.PostmixIdeal.defs (F := Ideal)) (onTc (τ := Cert.PostmixIdeal.τ) (Cert.PostmixIdeal.main (F := Ideal))) ⟨m, fun _ => 0, g⟩ (fun r => ∀ c : Dev Cert.PostmixIdeal.nD,
          r.2.mem ((c.tc : Thread Cert.PostmixIdeal.nD Cert.PostmixIdeal.τ).loc Cert.PostmixIdeal.main_v3_0) = v0 c
          ∧ r.2.mem ((c.tc : Thread Cert.PostmixIdeal.nD Cert.PostmixIdeal.τ).loc Cert.PostmixIdeal.main_v3_1) = v1 c
          ∧ r.2.mem ((c.tc : Thread Cert.PostmixIdeal.nD Cert.PostmixIdeal.τ).loc Cert.PostmixIdeal.main_v3_2) = v2 c
          ∧ r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
          ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
          ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
          ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
          ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
          ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
          ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
          ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
          ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8))
      ∧ θ_run (Cert.PostmixRefIdeal.defs (F := Ideal)) (onTc (τ := Cert.PostmixRefIdeal.τ) (Cert.PostmixRefIdeal.main (F := Ideal))) ⟨m', fun _ => 0, g'⟩ (fun r => ∀ c : Dev Cert.PostmixRefIdeal.nD,
          r.2.mem ((c.tc : Thread Cert.PostmixRefIdeal.nD Cert.PostmixRefIdeal.τ).loc Cert.PostmixRefIdeal.main_v52) = v0 c
          ∧ r.2.mem ((c.tc : Thread Cert.PostmixRefIdeal.nD Cert.PostmixRefIdeal.τ).loc Cert.PostmixRefIdeal.main_v53) = v1 c
          ∧ r.2.mem ((c.tc : Thread Cert.PostmixRefIdeal.nD Cert.PostmixRefIdeal.τ).loc Cert.PostmixRefIdeal.main_v54) = v2 c
          ∧ r.2.mem ((c.tc : Thread Cert.PostmixRefIdeal.nD Cert.PostmixRefIdeal.τ).loc Cert.PostmixRefIdeal.main_arg0) = m' ((c.tc : Thread Cert.PostmixRefIdeal.nD Cert.PostmixRefIdeal.τ).loc Cert.PostmixRefIdeal.main_arg0)
          ∧ r.2.mem ((c.tc : Thread Cert.PostmixRefIdeal.nD Cert.PostmixRefIdeal.τ).loc Cert.PostmixRefIdeal.main_arg1) = m' ((c.tc : Thread Cert.PostmixRefIdeal.nD Cert.PostmixRefIdeal.τ).loc Cert.PostmixRefIdeal.main_arg1)
          ∧ r.2.mem ((c.tc : Thread Cert.PostmixRefIdeal.nD Cert.PostmixRefIdeal.τ).loc Cert.PostmixRefIdeal.main_arg2) = m' ((c.tc : Thread Cert.PostmixRefIdeal.nD Cert.PostmixRefIdeal.τ).loc Cert.PostmixRefIdeal.main_arg2)
          ∧ r.2.mem ((c.tc : Thread Cert.PostmixRefIdeal.nD Cert.PostmixRefIdeal.τ).loc Cert.PostmixRefIdeal.main_arg3) = m' ((c.tc : Thread Cert.PostmixRefIdeal.nD Cert.PostmixRefIdeal.τ).loc Cert.PostmixRefIdeal.main_arg3)
          ∧ r.2.mem ((c.tc : Thread Cert.PostmixRefIdeal.nD Cert.PostmixRefIdeal.τ).loc Cert.PostmixRefIdeal.main_arg4) = m' ((c.tc : Thread Cert.PostmixRefIdeal.nD Cert.PostmixRefIdeal.τ).loc Cert.PostmixRefIdeal.main_arg4)
          ∧ r.2.mem ((c.tc : Thread Cert.PostmixRefIdeal.nD Cert.PostmixRefIdeal.τ).loc Cert.PostmixRefIdeal.main_arg5) = m' ((c.tc : Thread Cert.PostmixRefIdeal.nD Cert.PostmixRefIdeal.τ).loc Cert.PostmixRefIdeal.main_arg5)
          ∧ r.2.mem ((c.tc : Thread Cert.PostmixRefIdeal.nD Cert.PostmixRefIdeal.τ).loc Cert.PostmixRefIdeal.main_arg6) = m' ((c.tc : Thread Cert.PostmixRefIdeal.nD Cert.PostmixRefIdeal.τ).loc Cert.PostmixRefIdeal.main_arg6)
          ∧ r.2.mem ((c.tc : Thread Cert.PostmixRefIdeal.nD Cert.PostmixRefIdeal.τ).loc Cert.PostmixRefIdeal.main_arg7) = m' ((c.tc : Thread Cert.PostmixRefIdeal.nD Cert.PostmixRefIdeal.τ).loc Cert.PostmixRefIdeal.main_arg7)
          ∧ r.2.mem ((c.tc : Thread Cert.PostmixRefIdeal.nD Cert.PostmixRefIdeal.τ).loc Cert.PostmixRefIdeal.main_arg8) = m' ((c.tc : Thread Cert.PostmixRefIdeal.nD Cert.PostmixRefIdeal.τ).loc Cert.PostmixRefIdeal.main_arg8))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v5) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Conformer_ConformerIdeal : Prop :=
  True

def algebraic_ConformerIdeal_ConformerRefIdeal [hConformerIdeal : Cert.ConformerIdeal.Facts] [hConformerRefIdeal : Cert.ConformerRefIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerRefIdeal.nD Cert.ConformerRefIdeal.τ Cert.ConformerRefIdeal.sig) → Buf (Elt Ideal) ℓ) (g' : Dev Cert.ConformerRefIdeal.nD → PrngReg), Pre_ConformerIdeal m →
    (∀ c : Dev Cert.ConformerIdeal.nD,
      m' ((c.tc : Thread Cert.ConformerRefIdeal.nD Cert.ConformerRefIdeal.τ).loc Cert.ConformerRefIdeal.main_arg0) = m ((c.tc : Thread Cert.ConformerIdeal.nD Cert.ConformerIdeal.τ).loc Cert.ConformerIdeal.main_arg0)
      ∧ m' ((c.tc : Thread Cert.ConformerRefIdeal.nD Cert.ConformerRefIdeal.τ).loc Cert.ConformerRefIdeal.main_arg1) = m ((c.tc : Thread Cert.ConformerIdeal.nD Cert.ConformerIdeal.τ).loc Cert.ConformerIdeal.main_arg1)
      ∧ m' ((c.tc : Thread Cert.ConformerRefIdeal.nD Cert.ConformerRefIdeal.τ).loc Cert.ConformerRefIdeal.main_arg2) = m ((c.tc : Thread Cert.ConformerIdeal.nD Cert.ConformerIdeal.τ).loc Cert.ConformerIdeal.main_arg2)
      ∧ m' ((c.tc : Thread Cert.ConformerRefIdeal.nD Cert.ConformerRefIdeal.τ).loc Cert.ConformerRefIdeal.main_arg3) = m ((c.tc : Thread Cert.ConformerIdeal.nD Cert.ConformerIdeal.τ).loc Cert.ConformerIdeal.main_arg3)
      ∧ m' ((c.tc : Thread Cert.ConformerRefIdeal.nD Cert.ConformerRefIdeal.τ).loc Cert.ConformerRefIdeal.main_arg4) = m ((c.tc : Thread Cert.ConformerIdeal.nD Cert.ConformerIdeal.τ).loc Cert.ConformerIdeal.main_arg4)) →
    ∃ (v0 : (c : Dev Cert.ConformerIdeal.nD) → Buf (Elt Ideal) ((c.tc : Thread Cert.ConformerIdeal.nD Cert.ConformerIdeal.τ).loc Cert.ConformerIdeal.main_v3)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v3) = v0 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ θ_run (Cert.ConformerRefIdeal.defs (F := Ideal)) (onTc (τ := Cert.ConformerRefIdeal.τ) (Cert.ConformerRefIdeal.main (F := Ideal))) ⟨m', fun _ => 0, g'⟩ (fun r => ∀ c : Dev Cert.ConformerRefIdeal.nD,
          r.2.mem ((c.tc : Thread Cert.ConformerRefIdeal.nD Cert.ConformerRefIdeal.τ).loc Cert.ConformerRefIdeal.main_v257) = v0 c
          ∧ r.2.mem ((c.tc : Thread Cert.ConformerRefIdeal.nD Cert.ConformerRefIdeal.τ).loc Cert.ConformerRefIdeal.main_arg0) = m' ((c.tc : Thread Cert.ConformerRefIdeal.nD Cert.ConformerRefIdeal.τ).loc Cert.ConformerRefIdeal.main_arg0)
          ∧ r.2.mem ((c.tc : Thread Cert.ConformerRefIdeal.nD Cert.ConformerRefIdeal.τ).loc Cert.ConformerRefIdeal.main_arg1) = m' ((c.tc : Thread Cert.ConformerRefIdeal.nD Cert.ConformerRefIdeal.τ).loc Cert.ConformerRefIdeal.main_arg1)
          ∧ r.2.mem ((c.tc : Thread Cert.ConformerRefIdeal.nD Cert.ConformerRefIdeal.τ).loc Cert.ConformerRefIdeal.main_arg2) = m' ((c.tc : Thread Cert.ConformerRefIdeal.nD Cert.ConformerRefIdeal.τ).loc Cert.ConformerRefIdeal.main_arg2)
          ∧ r.2.mem ((c.tc : Thread Cert.ConformerRefIdeal.nD Cert.ConformerRefIdeal.τ).loc Cert.ConformerRefIdeal.main_arg3) = m' ((c.tc : Thread Cert.ConformerRefIdeal.nD Cert.ConformerRefIdeal.τ).loc Cert.ConformerRefIdeal.main_arg3)
          ∧ r.2.mem ((c.tc : Thread Cert.ConformerRefIdeal.nD Cert.ConformerRefIdeal.τ).loc Cert.ConformerRefIdeal.main_arg4) = m' ((c.tc : Thread Cert.ConformerRefIdeal.nD Cert.ConformerRefIdeal.τ).loc Cert.ConformerRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hPremix : Cert.Premix.Facts) (hPremixIdeal : Cert.PremixIdeal.Facts) (hPremixRefIdeal : Cert.PremixRefIdeal.Facts) (hPostmix : Cert.Postmix.Facts) (hPostmixIdeal : Cert.PostmixIdeal.Facts) (hPostmixRefIdeal : Cert.PostmixRefIdeal.Facts) (hModulation : Cert.Modulation.Facts) (hModulationIdeal : Cert.ModulationIdeal.Facts) (hModulationRefIdeal : Cert.ModulationRefIdeal.Facts) (hConformer : Cert.Conformer.Facts) (hConformerIdeal : Cert.ConformerIdeal.Facts) (hConformerRefIdeal : Cert.ConformerRefIdeal.Facts) (hPre_finite_inputs : Cert.Pre_finite_inputs.Facts) (hPre_tables_in_range : Cert.Pre_tables_in_range.Facts) (hPre_finite_router : Cert.Pre_finite_router.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal)
    ∧ quiescent_ExpertsRefIdeal_pre_tables_in_range (hExpertsRefIdeal := hExpertsRefIdeal) (hPre_tables_in_range := hPre_tables_in_range)
    ∧ quiescent_Premix (hPremix := hPremix)
    ∧ quiescent_PremixIdeal (hPremixIdeal := hPremixIdeal)
    ∧ quiescent_PremixRefIdeal (hPremixRefIdeal := hPremixRefIdeal)
    ∧ quiescent_Postmix (hPostmix := hPostmix)
    ∧ quiescent_PostmixIdeal (hPostmixIdeal := hPostmixIdeal)
    ∧ quiescent_PostmixIdeal_pre_finite_router (hPostmixIdeal := hPostmixIdeal) (hPre_finite_router := hPre_finite_router)
    ∧ quiescent_PostmixRefIdeal (hPostmixRefIdeal := hPostmixRefIdeal)
    ∧ quiescent_PostmixRefIdeal_pre_finite_router (hPostmixRefIdeal := hPostmixRefIdeal) (hPre_finite_router := hPre_finite_router)
    ∧ quiescent_Modulation (hModulation := hModulation)
    ∧ quiescent_ModulationIdeal (hModulationIdeal := hModulationIdeal)
    ∧ quiescent_ModulationRefIdeal (hModulationRefIdeal := hModulationRefIdeal)
    ∧ quiescent_Conformer (hConformer := hConformer)
    ∧ quiescent_ConformerIdeal (hConformerIdeal := hConformerIdeal)
    ∧ quiescent_ConformerRefIdeal (hConformerRefIdeal := hConformerRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_tables_in_range := hPre_tables_in_range)
    ∧ preserves_Premix_PremixIdeal
    ∧ algebraic_PremixIdeal_PremixRefIdeal (hPremixIdeal := hPremixIdeal) (hPremixRefIdeal := hPremixRefIdeal)
    ∧ preserves_Postmix_PostmixIdeal
    ∧ algebraic_PostmixIdeal_PostmixRefIdeal_pre_finite_router (hPostmixIdeal := hPostmixIdeal) (hPostmixRefIdeal := hPostmixRefIdeal) (hPre_finite_router := hPre_finite_router)
    ∧ preserves_Modulation_ModulationIdeal
    ∧ algebraic_ModulationIdeal_ModulationRefIdeal (hModulationIdeal := hModulationIdeal) (hModulationRefIdeal := hModulationRefIdeal)
    ∧ preserves_Conformer_ConformerIdeal
    ∧ algebraic_ConformerIdeal_ConformerRefIdeal (hConformerIdeal := hConformerIdeal) (hConformerRefIdeal := hConformerRefIdeal)
-- ==== Pre_finite_inputs.lean ====
abbrev S8192x512 : Shape := ⟨2, ![8192, 512]⟩
abbrev S8x2x4x512x128 : Shape := ⟨5, ![8, 2, 4, 512, 128]⟩
abbrev S2x64 : Shape := ⟨2, ![2, 64]⟩
abbrev S2x128 : Shape := ⟨2, ![2, 128]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x2x4x512x128 : S_.BroadcastsInDim S8x2x4x512x128 (![] : Fin 0 → Fin S8x2x4x512x128.rank)
  reducesTo_S8x2x4x512x128_S_d0_1_2_3_4 : S8x2x4x512x128.ReducesTo [0, 1, 2, 3, 4] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg7 : FVec F S2x64 .f32) (main_arg8 : FVec F S2x64 .f32) (main_v31 : IVec S_ 1) (main_v34 : IVec S2x64 1) : IVec S_ 1 :=
  let main_c_11 : IVec S_ 1 := constantI S_ 1 1#1
  let main_v35 : IVec S_ 1 := (fun x v => Host.reduce IntOp.andi x v reducesTo_S2x64_S_d0_1 h_S_) main_v34 main_c_11
  let main_v36 : IVec S_ 1 := andi main_v31 main_v35
  let main_v37 : FVec F S2x64 .f32 := Host.absf main_arg7
  let main_cst_12 : FVec F S_ .f32 := constant S_ .f32 0x7F800000#32
  let main_v38 : FVec F S2x64 .f32 := broadcastInDim S2x64 ![] bcast_S_S2x64 main_cst_12
  let main_v39 : IVec S2x64 1 := cmpf .olt main_v37 main_v38
  let main_c_13 : IVec S_ 1 := constantI S_ 1 1#1
  let main_v40 : IVec S_ 1 := (fun x v => Host.reduce IntOp.andi x v reducesTo_S2x64_S_d0_1 h_S_) main_v39 main_c_13
  let main_v41 : IVec S_ 1 := andi main_v36 main_v40
  let main_v42 : FVec F S2x64 .f32 := Host.absf main_arg8
  let main_cst_14 : FVec F S_ .f32 := constant S_ .f32 0x7F800000#32
  let main_v43 : FVec F S2x64 .f32 := broadcastInDim S2x64 ![] bcast_S_S2x64 main_cst_14
  let main_v44 : IVec S2x64 1 := cmpf .olt main_v42 main_v43
  let main_c_15 : IVec S_ 1 := constantI S_ 1 1#1
  let main_v45 : IVec S_ 1 := (fun x v => Host.reduce IntOp.andi x v reducesTo_S2x64_S_d0_1 h_S_) main_v44 main_c_15
  let main_v46 : IVec S_ 1 := andi main_v41 main_v45
  main_v46

def fn_part1 {F : FTy → Type} [FloatOps F] (main_arg4 : FVec F S8x2x4x512x128 .f32) (main_arg5 : FVec F S2x64 .f32) (main_arg6 : FVec F S2x64 .f32) (main_arg7 : FVec F S2x64 .f32) (main_arg8 : FVec F S2x64 .f32) (main_v16 : IVec S_ 1) (main_v17 : FVec F S8x2x4x512x128 .f32) : IVec S_ 1 :=
  let main_cst_4 : FVec F S_ .f32 := constant S_ .f32 0x7F800000#32
  let main_v18 : FVec F S8x2x4x512x128 .f32 := broadcastInDim S8x2x4x512x128 ![] bcast_S_S8x2x4x512x128 main_cst_4
  let main_v19 : IVec S8x2x4x512x128 1 := cmpf .olt main_v17 main_v18
  let main_c_5 : IVec S_ 1 := constantI S_ 1 1#1
  let main_v20 : IVec S_ 1 := (fun x v => Host.reduce IntOp.andi x v reducesTo_S8x2x4x512x128_S_d0_1_2_3_4 h_S_) main_v19 main_c_5
  let main_v21 : IVec S_ 1 := andi main_v16 main_v20
  let main_v22 : FVec F S8x2x4x512x128 .f32 := Host.absf main_arg4
  let main_cst_6 : FVec F S_ .f32 := constant S_ .f32 0x7F800000#32
  let main_v23 : FVec F S8x2x4x512x128 .f32 := broadcastInDim S8x2x4x512x128 ![] bcast_S_S8x2x4x512x128 main_cst_6
  let main_v24 : IVec S8x2x4x512x128 1 := cmpf .olt main_v22 main_v23
  let main_c_7 : IVec S_ 1 := constantI S_ 1 1#1
  let main_v25 : IVec S_ 1 := (fun x v => Host.reduce IntOp.andi x v reducesTo_S8x2x4x512x128_S_d0_1_2_3_4 h_S_) main_v24 main_c_7
  let main_v26 : IVec S_ 1 := andi main_v21 main_v25
  let main_v27 : FVec F S2x64 .f32 := Host.absf main_arg5
  let main_cst_8 : FVec F S_ .f32 := constant S_ .f32 0x7F800000#32
  let main_v28 : FVec F S2x64 .f32 := broadcastInDim S2x64 ![] bcast_S_S2x64 main_cst_8
  let main_v29 : IVec S2x64 1 := cmpf .olt main_v27 main_v28
  let main_c_9 : IVec S_ 1 := constantI S_ 1 1#1
  let main_v30 : IVec S_ 1 := (fun x v => Host.reduce IntOp.andi x v reducesTo_S2x64_S_d0_1 h_S_) main_v29 main_c_9
  let main_v31 : IVec S_ 1 := andi main_v26 main_v30
  let main_v32 : FVec F S2x64 .f32 := Host.absf main_arg6
  let main_cst_10 : FVec F S_ .f32 := constant S_ .f32 0x7F800000#32
  let main_v33 : FVec F S2x64 .f32 := broadcastInDim S2x64 ![] bcast_S_S2x64 main_cst_10
  let main_v34 : IVec S2x64 1 := cmpf .olt main_v32 main_v33
  fn_part2 (F := F) main_arg7 main_arg8 main_v31 main_v34

def fn {F : FTy → Type} [FloatOps F] (main_arg0 : FVec F S8192x512 .bf16) (main_arg1 : FVec F S8192x512 .bf16) (main_arg2 : FVec F S8192x512 .bf16) (main_arg3 : FVec F S8x2x4x512x128 .f32) (main_arg4 : FVec F S8x2x4x512x128 .f32) (main_arg5 : FVec F S2x64 .f32) (main_arg6 : FVec F S2x64 .f32) (main_arg7 : FVec F S2x64 .f32) (main_arg8 : FVec F S2x64 .f32) (main_arg9 : FVec F S2x128 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8x2x4x512x128 .f32 := Host.absf main_arg3
  fn_part1 (F := F) main_arg4 main_arg5 main_arg6 main_arg7 main_arg8 main_v16 main_v17
-- ==== Pre_finite_router.lean ====
abbrev S8192x256 : Shape := ⟨2, ![8192, 256]⟩
abbrev S8192x512 : Shape := ⟨2, ![8192, 512]⟩
abbrev S8192x1024 : Shape := ⟨2, ![8192, 1024]⟩
abbrev S16x6x1024 : Shape := ⟨3, ![16, 6, 1024]⟩
abbrev S1024 : Shape := ⟨1, ![1024]⟩
abbrev S1024x1024 : Shape := ⟨2, ![1024, 1024]⟩
abbrev S1024x64 : Shape := ⟨2, ![1024, 64]⟩
abbrev S8x2x1024 : Shape := ⟨3, ![8, 2, 1024]⟩
abbrev S_ : Shape := ⟨0, ![]⟩

class Facts : Prop where
  slices_S16x6x1024_S8x2x1024_1_3_0 : S16x6x1024.Slices ![1, 3, 0] S8x2x1024
  bcast_S_S8x2x1024 : S_.BroadcastsInDim S8x2x1024 (![] : Fin 0 → Fin S8x2x1024.rank)
  reducesTo_S8x2x1024_S_d0_1_2 : S8x2x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S8192x256 .bf16) (main_arg1 : FVec F S8192x256 .bf16) (main_arg2 : FVec F S8192x512 .bf16) (main_arg3 : FVec F S8192x1024 .f32) (main_arg4 : FVec F S16x6x1024 .f32) (main_arg5 : FVec F S1024 .f32) (main_arg6 : FVec F S1024 .f32) (main_arg7 : FVec F S1024x1024 .f32) (main_arg8 : FVec F S1024x64 .f32) : IVec S_ 1 :=
  let main_v0 : FVec F S8x2x1024 .f32 := (extractStridedSlice S8x2x1024 ![1, 3, 0] · slices_S16x6x1024_S8x2x1024_1_3_0) main_arg4
  let main_v1 : FVec F S8x2x1024 .f32 := Host.absf main_v0
  let main_cst : FVec F S_ .f32 := constant S_ .f32 0x7F800000#32
  let main_v2 : FVec F S8x2x1024 .f32 := broadcastInDim S8x2x1024 ![] bcast_S_S8x2x1024 main_cst
  let main_v3 : IVec S8x2x1024 1 := cmpf .olt main_v1 main_v2
  let main_c : IVec S_ 1 := constantI S_ 1 1#1
  let main_v4 : IVec S_ 1 := (fun x v => Host.reduce IntOp.andi x v reducesTo_S8x2x1024_S_d0_1_2 h_S_) main_v3 main_c
  let main_v5 : FVec F S1024 .f32 := Host.absf main_arg6
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x64 .f32 := Host.absf main_arg8
  let main_cst_2 : FVec F S_ .f32 := constant S_ .f32 0x7F800000#32
  let main_v11 : FVec F S1024x64 .f32 := broadcastInDim S1024x64 ![] bcast_S_S1024x64 main_cst_2
  let main_v12 : IVec S1024x64 1 := cmpf .olt main_v10 main_v11
  let main_c_3 : IVec S_ 1 := constantI S_ 1 1#1
  let main_v13 : IVec S_ 1 := (fun x v => Host.reduce IntOp.andi x v reducesTo_S1024x64_S_d0_1 h_S_) main_v12 main_c_3
  let main_v14 : IVec S_ 1 := andi main_v9 main_v13
  main_v14
-- ==== Pre_tables_in_range.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S576 : S_.BroadcastsInDim S576 (![] : Fin 0 → Fin S576.rank)

variable [Facts]

def fn {F : FTy → Type} [FloatOps F] (main_arg0 : FVec F S147456x1024 .bf16) (main_arg1 : IVec S576 32) (main_arg2 : IVec S1 32) (main_arg3 : FVec F S64x1024x256 .f32) (main_arg4 : FVec F S64x1024x256 .f32) (main_arg5 : FVec F S64x256x1024 .f32) : IVec S576 1 :=
  let main_c : IVec S_ 32 := constantI S_ 32 0#32
  let main_v0 : IVec S576 32 := broadcastInDim S576 ![] bcast_S_S576 main_c
  let main_v1 : IVec S576 1 := cmpi .sge main_arg1 main_v0
  let main_c_0 : IVec S_ 32 := constantI S_ 32 64#32
  let main_v2 : IVec S576 32 := broadcastInDim S576 ![] bcast_S_S576 main_c_0
  let main_v3 : IVec S576 1 := cmpi .slt main_arg1 main_v2
  let main_v4 : IVec S576 1 := andi main_v1 main_v3
  main_v4
-- ==== Kernel.lean ====
abbrev S8192x512 : Shape := ⟨2, ![8192, 512]⟩
abbrev S8x2x4x512x128 : Shape := ⟨5, ![8, 2, 4, 512, 128]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S4x64 : Shape := ⟨2, ![4, 64]⟩
abbrev S1x128 : Shape := ⟨2, ![1, 128]⟩
abbrev S128 : Shape := ⟨1, ![128]⟩
abbrev S8x1024x512 : Shape := ⟨3, ![8, 1024, 512]⟩
abbrev S1x256x128 : Shape := ⟨3, ![1, 256, 128]⟩
abbrev S1x1024x128 : Shape := ⟨3, ![1, 1024, 128]⟩
abbrev S1x1x1x512x128 : Shape := ⟨5, ![1, 1, 1, 512, 128]⟩
abbrev S1 : Shape := ⟨1, ![1]⟩
abbrev S1x1 : Shape := ⟨2, ![1, 1]⟩
abbrev S256x128 : Shape := ⟨2, ![256, 128]⟩
abbrev S1024x128 : Shape := ⟨2, ![1024, 128]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 30
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x2x4x512x128, .f32⟩
  | .hbm, ⟨4, _⟩ => ⟨S8x2x4x512x128, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S1x128, .f32⟩
  | .hbm, ⟨24, _⟩ => ⟨S128, .f32⟩
  | .hbm, ⟨25, _⟩ => ⟨S8x1024x512, .bf16⟩
  | .hbm, ⟨26, _⟩ => ⟨S8x1024x512, .bf16⟩
  | .hbm, ⟨27, _⟩ => ⟨S8x1024x512, .bf16⟩
  | .hbm, ⟨28, _⟩ => ⟨S1x128, .f32⟩
  | .hbm, ⟨29, _⟩ => ⟨S8x1024x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1x1x512x128, .f32⟩
  | .local _ .vmem, ⟨7, _⟩ => ⟨S1x1x1x512x128, .f32⟩
  | .local _ .vmem, ⟨8, _⟩ => ⟨S1x1x1x512x128, .f32⟩
  | .local _ .vmem, ⟨9, _⟩ => ⟨S1x1x1x512x128, .f32⟩
  | .local _ .vmem, ⟨10, _⟩ => ⟨S4x64, .f32⟩
  | .local _ .vmem, ⟨11, _⟩ => ⟨S1x128, .f32⟩
  | .local _ .vmem, ⟨12, _⟩ => ⟨S1x256x128, .bf16⟩
  | .local _ .vmem, ⟨13, _⟩ => ⟨S1x256x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8192x512 : Shape := ⟨2, ![8192, 512]⟩
abbrev S8x2x4x512x128 : Shape := ⟨5, ![8, 2, 4, 512, 128]⟩
abbrev S2x64 : Shape := ⟨2, ![2, 64]⟩
abbrev S2x128 : Shape := ⟨2, ![2, 128]⟩
abbrev S8x1024x4x2x64 : Shape := ⟨5, ![8, 1024, 4, 2, 64]⟩
abbrev S8x4x1024x2x64 : Shape := ⟨5, ![8, 4, 1024, 2, 64]⟩
abbrev S8x1024x4x128 : Shape := ⟨4, ![8, 1024, 4, 128]⟩
abbrev S8x4x1024x128 : Shape := ⟨4, ![8, 4, 1024, 128]⟩
abbrev S8x1x4x512x128 : Shape := ⟨5, ![8, 1, 4, 512, 128]⟩
abbrev S8x4x512x128 : Shape := ⟨4, ![8, 4, 512, 128]⟩
abbrev S8x4x512x2x64 : Shape := ⟨5, ![8, 4, 512, 2, 64]⟩
abbrev S8x4x1536x2x64 : Shape := ⟨5, ![8, 4, 1536, 2, 64]⟩
abbrev S8x4x1536x128 : Shape := ⟨4, ![8, 4, 1536, 128]⟩
abbrev S1x64 : Shape := ⟨2, ![1, 64]⟩
abbrev S64 : Shape := ⟨1, ![64]⟩
abbrev S_ : Shape := ⟨0, ![]⟩
abbrev S2x8x4x1024x1536 : Shape := ⟨5, ![2, 8, 4, 1024, 1536]⟩
abbrev S2x8x4x1024 : Shape := ⟨4, ![2, 8, 4, 1024]⟩
abbrev S2x8x4x1024x1 : Shape := ⟨5, ![2, 8, 4, 1024, 1]⟩
abbrev S1x8x4x1024x1536 : Shape := ⟨5, ![1, 8, 4, 1024, 1536]⟩
abbrev S8x4x1024x1536 : Shape := ⟨4, ![8, 4, 1024, 1536]⟩
abbrev S8x4x1024 : Shape := ⟨3, ![8, 4, 1024]⟩
abbrev S8x4x1024x1 : Shape := ⟨4, ![8, 4, 1024, 1]⟩
abbrev S1x128 : Shape := ⟨2, ![1, 128]⟩
abbrev S128 : Shape := ⟨1, ![128]⟩
abbrev S1x1x1x128 : Shape := ⟨4, ![1, 1, 1, 128]⟩
abbrev S8x1024x512 : Shape := ⟨3, ![8, 1024, 512]⟩

abbrev nBuf : Space → Nat
  | .hbm => 92
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x2x4x512x128, .f32⟩
  | .hbm, ⟨4, _⟩ => ⟨S8x2x4x512x128, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x128, .f32⟩
  | .hbm, ⟨10, _⟩ => ⟨S8192x512, .f32⟩
  | .hbm, ⟨11, _⟩ => ⟨S8x1024x4x2x64, .f32⟩
  | .hbm, ⟨12, _⟩ => ⟨S8x4x1024x2x64, .f32⟩
  | .hbm, ⟨13, _⟩ => ⟨S8192x512, .f32⟩
  | .hbm, ⟨14, _⟩ => ⟨S8x1024x4x2x64, .f32⟩
  | .hbm, ⟨15, _⟩ => ⟨S8x4x1024x2x64, .f32⟩
  | .hbm, ⟨16, _⟩ => ⟨S8192x512, .f32⟩
  | .hbm, ⟨17, _⟩ => ⟨S8x1024x4x128, .f32⟩
  | .hbm, ⟨18, _⟩ => ⟨S8x4x1024x128, .f32⟩
  | .hbm, ⟨19, _⟩ => ⟨S8x1x4x512x128, .f32⟩
  | .hbm, ⟨20, _⟩ => ⟨S8x4x512x128, .f32⟩
  | .hbm, ⟨21, _⟩ => ⟨S8x4x512x2x64, .f32⟩
  | .hbm, ⟨22, _⟩ => ⟨S8x4x1536x2x64, .f32⟩
  | .hbm, ⟨23, _⟩ => ⟨S8x1x4x512x128, .f32⟩
  | .hbm, ⟨24, _⟩ => ⟨S8x4x512x128, .f32⟩
  | .hbm, ⟨25, _⟩ => ⟨S8x4x1536x128, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x8x4x1024x1536, .f32⟩
  | .hbm, ⟨46, _⟩ => ⟨S_, .f32⟩
  | .hbm, ⟨47, _⟩ => ⟨S2x8x4x1024, .f32⟩
  | .hbm, ⟨48, _⟩ => ⟨S_, .f32⟩
  | .hbm, ⟨49, _⟩ => ⟨S2x8x4x1024, .f32⟩
  | .hbm, ⟨50, _⟩ => ⟨S2x8x4x1024, .f32⟩
  | .hbm, ⟨51, _⟩ => ⟨S2x8x4x1024x1, .f32⟩
  | .hbm, ⟨52, _⟩ => ⟨S2x8x4x1024x1536, .f32⟩
  | .hbm, ⟨53, _⟩ => ⟨S2x8x4x1024x1536, .f32⟩
  | .hbm, ⟨54, _⟩ => ⟨S2x8x4x1024x1536, .f32⟩
  | .hbm, ⟨55, _⟩ => ⟨S_, .f32⟩
  | .hbm, ⟨56, _⟩ => ⟨S2x8x4x1024, .f32⟩
  | .hbm, ⟨57, _⟩ => ⟨S2x8x4x1024x1, .f32⟩
  | .hbm, ⟨58, _⟩ => ⟨S2x8x4x1024x1536, .f32⟩
  | .hbm, ⟨59, _⟩ => ⟨S2x8x4x1024x1536, .f32⟩
  | .hbm, ⟨60, _⟩ => ⟨S1x8x4x1024x1536, .f32⟩
  | .hbm, ⟨61, _⟩ => ⟨S8x4x1024x1536, .f32⟩
  | .hbm, ⟨62, _⟩ => ⟨S1x8x4x1024x1536, .f32⟩
  | .hbm, ⟨63, _⟩ => ⟨S8x4x1024x1536, .f32⟩
  | .hbm, ⟨64, _⟩ => ⟨S8x4x1024x1536, .f32⟩
  | .hbm, ⟨65, _⟩ => ⟨S8x4x1024x1536, .f32⟩
  | .hbm, ⟨66, _⟩ => ⟨S8x4x1024x1536, .f32⟩
  | .hbm, ⟨67, _⟩ => ⟨S8x4x1024x128, .f32⟩
  | .hbm, ⟨68, _⟩ => ⟨S8x4x1024x128, .f32⟩
  | .hbm, ⟨69, _⟩ => ⟨S_, .f32⟩
  | .hbm, ⟨70, _⟩ => ⟨S8x4x1024, .f32⟩
  | .hbm, ⟨71, _⟩ => ⟨S8x4x1024x1, .f32⟩
  | .hbm, ⟨72, _⟩ => ⟨S_, .f32⟩
  | .hbm, ⟨73, _⟩ => ⟨S8x4x1024x1, .f32⟩
  | .hbm, ⟨74, _⟩ => ⟨S8x4x1024x1, .f32⟩
  | .hbm, ⟨75, _⟩ => ⟨S_, .f32⟩
  | .hbm, ⟨76, _⟩ => ⟨S8x4x1024x1, .f32⟩
  | .hbm, ⟨77, _⟩ => ⟨S8x4x1024x1, .f32⟩
  | .hbm, ⟨78, _⟩ => ⟨S8x4x1024x1, .f32⟩
  | .hbm, ⟨79, _⟩ => ⟨S8x4x1024x128, .f32⟩
  | .hbm, ⟨80, _⟩ => ⟨S8x4x1024x128, .f32⟩
  | .hbm, ⟨81, _⟩ => ⟨S1x128, .f32⟩
  | .hbm, ⟨82, _⟩ => ⟨S128, .f32⟩
  | .hbm, ⟨83, _⟩ => ⟨S1x1x1x128, .f32⟩
  | .hbm, ⟨84, _⟩ => ⟨S8x4x1024x128, .f32⟩
  | .hbm, ⟨85, _⟩ => ⟨S8x4x1024x128, .f32⟩
  | .hbm, ⟨86, _⟩ => ⟨S_, .f32⟩
  | .hbm, ⟨87, _⟩ => ⟨S8x4x1024x128, .f32⟩
  | .hbm, ⟨88, _⟩ => ⟨S8x4x1024x128, .f32⟩
  | .hbm, ⟨89, _⟩ => ⟨S8x1024x4x128, .f32⟩
  | .hbm, ⟨90, _⟩ => ⟨S8x1024x512, .f32⟩
  | .hbm, ⟨91, _⟩ => ⟨S8x1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Ffn.lean ====
abbrev S8192x1024 : Shape := ⟨2, ![8192, 1024]⟩
abbrev S16x6x1024 : Shape := ⟨3, ![16, 6, 1024]⟩
abbrev S1024 : Shape := ⟨1, ![1024]⟩
abbrev S1024x256 : Shape := ⟨2, ![1024, 256]⟩
abbrev S256x1024 : Shape := ⟨2, ![256, 1024]⟩
abbrev S1x1024 : Shape := ⟨2, ![1, 1024]⟩
abbrev S1x6x1024 : Shape := ⟨3, ![1, 6, 1024]⟩
abbrev S256x256 : Shape := ⟨2, ![256, 256]⟩
abbrev S6x1024 : Shape := ⟨2, ![6, 1024]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S16x6x1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024x256, .bf16⟩
  | .hbm, ⟨9, _⟩ => ⟨S1024x256, .bf16⟩
  | .hbm, ⟨10, _⟩ => ⟨S256x1024, .bf16⟩
  | .hbm, ⟨11, _⟩ => ⟨S1x1024, .f32⟩
  | .hbm, ⟨12, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S8192x1024 : Shape := ⟨2, ![8192, 1024]⟩
abbrev S16x6x1024 : Shape := ⟨3, ![16, 6, 1024]⟩
abbrev S1024 : Shape := ⟨1, ![1024]⟩
abbrev S1024x256 : Shape := ⟨2, ![1024, 256]⟩
abbrev S256x1024 : Shape := ⟨2, ![256, 1024]⟩
abbrev S8192x256 : Shape := ⟨2, ![8192, 256]⟩
abbrev S_ : Shape := ⟨0, ![]⟩
abbrev S8x1024x1024 : Shape := ⟨3, ![8, 1024, 1024]⟩
abbrev S8x1x1024 : Shape := ⟨3, ![8, 1, 1024]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S16x6x1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S8192x1024, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x1024, .f32⟩
  | .hbm, ⟨22, _⟩ => ⟨S8192x1024, .f32⟩
  | .hbm, ⟨23, _⟩ => ⟨S8x1024x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x1024x1024, .f32⟩
  | .hbm, ⟨28, _⟩ => ⟨S_, .f32⟩
  | .hbm, ⟨29, _⟩ => ⟨S8x1024, .f32⟩
  | .hbm, ⟨30, _⟩ => ⟨S8x1024x1, .f32⟩
  | .hbm, ⟨31, _⟩ => ⟨S_, .f32⟩
  | .hbm, ⟨32, _⟩ => ⟨S8x1024x1, .f32⟩
  | .hbm, ⟨33, _⟩ => ⟨S8x1024x1, .f32⟩
  | .hbm, ⟨34, _⟩ => ⟨S_, .f32⟩
  | .hbm, ⟨35, _⟩ => ⟨S8x1024x1, .f32⟩
  | .hbm, ⟨36, _⟩ => ⟨S8x1024x1, .f32⟩
  | .hbm, ⟨37, _⟩ => ⟨S8x1024x1, .f32⟩
  | .hbm, ⟨38, _⟩ => ⟨S8x1024x1024, .f32⟩
  | .hbm, ⟨39, _⟩ => ⟨S8x1024x1024, .f32⟩
  | .hbm, ⟨40, _⟩ => ⟨S1x1x1024, .f32⟩
  | .hbm, ⟨41, _⟩ => ⟨S8x1024x1024, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Experts.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 13
  | .smem => 2
  | _ => 0

abbrev bufTy : (tb : Table) → Fin (tcTables nBuf tb) → BufTy
  | .hbm, ⟨0, _⟩ => ⟨S147456x1024, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S147456x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .bf16⟩
  | .local _ .vmem, ⟨9, _⟩ => ⟨S256x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S576, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S147456x1024 : Shape := ⟨2, ![147456, 1024]⟩
abbrev S576 : Shape := ⟨1, ![576]⟩
abbrev S1 : Shape := ⟨1, ![1]⟩
abbrev S64x1024x256 : Shape := ⟨3, ![64, 1024, 256]⟩
abbrev S64x256x1024 : Shape := ⟨3, ![64, 256, 1024]⟩
abbrev S576x256x1024 : Shape := ⟨3, ![576, 256, 1024]⟩
abbrev S_ : Shape := ⟨0, ![]⟩
abbrev S576x1 : Shape := ⟨2, ![576, 1]⟩
abbrev S576x1024x256 : Shape := ⟨3, ![576, 1024, 256]⟩
abbrev S576x256x256 : Shape := ⟨3, ![576, 256, 256]⟩
abbrev S576x1x1 : Shape := ⟨3, ![576, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S576, .i32⟩
  | .hbm, ⟨2, _⟩ => ⟨S1, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S147456x1024, .f32⟩
  | .hbm, ⟨7, _⟩ => ⟨S576x256x1024, .f32⟩
  | .hbm, ⟨8, _⟩ => ⟨S_, .i32⟩
  | .hbm, ⟨9, _⟩ => ⟨S576, .i32⟩
  | .hbm, ⟨10, _⟩ => ⟨S576, .i1⟩
  | .hbm, ⟨11, _⟩ => ⟨S_, .i32⟩
  | .hbm, ⟨12, _⟩ => ⟨S576, .i32⟩
  | .hbm, ⟨13, _⟩ => ⟨S576, .i32⟩
  | .hbm, ⟨14, _⟩ => ⟨S576, .i32⟩
  | .hbm, ⟨15, _⟩ => ⟨S576x1, .i32⟩
  | .hbm, ⟨16, _⟩ => ⟨S576x1024x256, .f32⟩
  | .hbm, ⟨17, _⟩ => ⟨S576x256x256, .f32⟩
  | .hbm, ⟨18, _⟩ => ⟨S_, .i32⟩
  | .hbm, ⟨19, _⟩ => ⟨S576, .i32⟩
  | .hbm, ⟨20, _⟩ => ⟨S576, .i1⟩
  | .hbm, ⟨21, _⟩ => ⟨S_, .i32⟩
  | .hbm, ⟨22, _⟩ => ⟨S576, .i32⟩
  | .hbm, ⟨23, _⟩ => ⟨S576, .i32⟩
  | .hbm, ⟨24, _⟩ => ⟨S576, .i32⟩
  | .hbm, ⟨25, _⟩ => ⟨S576x1, .i32⟩
  | .hbm, ⟨26, _⟩ => ⟨S576x1024x256, .f32⟩
  | .hbm, ⟨27, _⟩ => ⟨S576x256x256, .f32⟩
  | .hbm, ⟨28, _⟩ => ⟨S576x256x256, .f32⟩
  | .hbm, ⟨29, _⟩ => ⟨S576x256x256, .f32⟩
  | .hbm, ⟨30, _⟩ => ⟨S_, .f32⟩
  | .hbm, ⟨31, _⟩ => ⟨S576x256x256, .f32⟩
  | .hbm, ⟨32, _⟩ => ⟨S576x256x256, .f32⟩
  | .hbm, ⟨33, _⟩ => ⟨S_, .f32⟩
  | .hbm, ⟨34, _⟩ => ⟨S576x256x256, .f32⟩
  | .hbm, ⟨35, _⟩ => ⟨S576x256x256, .f32⟩
  | .hbm, ⟨36, _⟩ => ⟨S576x256x256, .f32⟩
  | .hbm, ⟨37, _⟩ => ⟨S576x256x256, .f32⟩
  | .hbm, ⟨38, _⟩ => ⟨S_, .i32⟩
  | .hbm, ⟨39, _⟩ => ⟨S576, .i32⟩
  | .hbm, ⟨40, _⟩ => ⟨S576, .i1⟩
  | .hbm, ⟨41, _⟩ => ⟨S_, .i32⟩
  | .hbm, ⟨42, _⟩ => ⟨S576, .i32⟩
  | .hbm, ⟨43, _⟩ => ⟨S576, .i32⟩
  | .hbm, ⟨44, _⟩ => ⟨S576, .i32⟩
  | .hbm, ⟨45, _⟩ => ⟨S576x1, .i32⟩
  | .hbm, ⟨46, _⟩ => ⟨S576x256x1024, .f32⟩
  | .hbm, ⟨47, _⟩ => ⟨S576x256x1024, .f32⟩
  | .hbm, ⟨48, _⟩ => ⟨S576, .i32⟩
  | .hbm, ⟨49, _⟩ => ⟨S576, .i32⟩
  | .hbm, ⟨50, _⟩ => ⟨S576, .i1⟩
  | .hbm, ⟨51, _⟩ => ⟨S576x1x1, .i1⟩
  | .hbm, ⟨52, _⟩ => ⟨S_, .f32⟩
  | .hbm, ⟨53, _⟩ => ⟨S_, .f32⟩
  | .hbm, ⟨54, _⟩ => ⟨S576x256x1024, .i1⟩
  | .hbm, ⟨55, _⟩ => ⟨S576x256x1024, .f32⟩
  | .hbm, ⟨56, _⟩ => ⟨S576x256x1024, .f32⟩
  | .hbm, ⟨57, _⟩ => ⟨S147456x1024, .f32⟩
  | .hbm, ⟨58, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Premix.lean ====
abbrev S8192x1024 : Shape := ⟨2, ![8192, 1024]⟩
abbrev S16x6x1024 : Shape := ⟨3, ![16, 6, 1024]⟩
abbrev S1024 : Shape := ⟨1, ![1024]⟩
abbrev S1024x2816 : Shape := ⟨2, ![1024, 2816]⟩
abbrev S32x2x4x256x128 : Shape := ⟨5, ![32, 2, 4, 256, 128]⟩
abbrev S1x1024 : Shape := ⟨2, ![1, 1024]⟩
abbrev S8192x512 : Shape := ⟨2, ![8192, 512]⟩
abbrev S8192x768 : Shape := ⟨2, ![8192, 768]⟩
abbrev S256x1024 : Shape := ⟨2, ![256, 1024]⟩
abbrev S1x6x1024 : Shape := ⟨3, ![1, 6, 1024]⟩
abbrev S256x512 : Shape := ⟨2, ![256, 512]⟩
abbrev S256x768 : Shape := ⟨2, ![256, 768]⟩
abbrev S1x1x4x256x128 : Shape := ⟨5, ![1, 1, 4, 256, 128]⟩
abbrev S6x1024 : Shape := ⟨2, ![6, 1024]⟩
abbrev S256 : Shape := ⟨1, ![256]⟩
abbrev S256x1 : Shape := ⟨2, ![256, 1]⟩
abbrev S1024x512 : Shape := ⟨2, ![1024, 512]⟩
abbrev S1024x768 : Shape := ⟨2, ![1024, 768]⟩
abbrev S256x128 : Shape := ⟨2, ![256, 128]⟩
abbrev S1x1x1x256x128 : Shape := ⟨5, ![1, 1, 1, 256, 128]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S32x2x4x256x128, .f32⟩
  | .hbm, ⟨5, _⟩ => ⟨S32x2x4x256x128, .f32⟩
  | .hbm, ⟨6, _⟩ => ⟨S1024x2816, .bf16⟩
  | .hbm, ⟨7, _⟩ => ⟨S1x1024, .f32⟩
  | .hbm, ⟨8, _⟩ => ⟨S8192x512, .bf16⟩
  | .hbm, ⟨9, _⟩ => ⟨S8192x768, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S32x2x4x256x128, .f32⟩
  | .hbm, ⟨14, _⟩ => ⟨S32x2x4x256x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2816, .bf16⟩
  | .local _ .vmem, ⟨5, _⟩ => ⟨S256x512, .bf16⟩
  | .local _ .vmem, ⟨6, _⟩ => ⟨S256x512, .bf16⟩
  | .local _ .vmem, ⟨7, _⟩ => ⟨S256x768, .bf16⟩
  | .local _ .vmem, ⟨8, _⟩ => ⟨S256x768, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x1x4x256x128, .f32⟩
  | .local _ .vmem, ⟨16, _⟩ => ⟨S1x1x4x256x128, .f32⟩
  | .local _ .vmem, ⟨17, _⟩ => ⟨S1x1x4x256x128, .f32⟩
  | .local _ .vmem, ⟨18, _⟩ => ⟨S1x1x4x256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  let c0_i32_14 : BitVec 32 := 0#32
  ![v16.toNat, c1_i32_11.toNat, c0_i32_12.toNat, v26.toNat, c0_i32_13.toNat]

def cc0_transform_12 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  let c0_i32_14 : BitVec 32 := 0#32
  ![v16.toNat, c1_i32_11.toNat, c0_i32_12.toNat, v26.toNat, c0_i32_13.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PremixRefIdeal.lean ====
abbrev S8192x1024 : Shape := ⟨2, ![8192, 1024]⟩
abbrev S16x6x1024 : Shape := ⟨3, ![16, 6, 1024]⟩
abbrev S1024 : Shape := ⟨1, ![1024]⟩
abbrev S1024x2816 : Shape := ⟨2, ![1024, 2816]⟩
abbrev S32x2x4x256x128 : Shape := ⟨5, ![32, 2, 4, 256, 128]⟩
abbrev S1x1x1024 : Shape := ⟨3, ![1, 1, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x512 : Shape := ⟨2, ![8192, 512]⟩
abbrev S32x1x4x256x128 : Shape := ⟨5, ![32, 1, 4, 256, 128]⟩
abbrev S32x4x256x128 : Shape := ⟨4, ![32, 4, 256, 128]⟩
abbrev S32x256x4x128 : Shape := ⟨4, ![32, 256, 4, 128]⟩
abbrev S8192x768 : Shape := ⟨2, ![8192, 768]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S32x2x4x256x128, .f32⟩
  | .hbm, ⟨5, _⟩ => ⟨S32x2x4x256x128, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S32x1x4x256x128, .f32⟩
  | .hbm, ⟨43, _⟩ => ⟨S32x4x256x128, .f32⟩
  | .hbm, ⟨44, _⟩ => ⟨S32x256x4x128, .f32⟩
  | .hbm, ⟨45, _⟩ => ⟨S32x4x256x128, .f32⟩
  | .hbm, ⟨46, _⟩ => ⟨S32x1x4x256x128, .f32⟩
  | .hbm, ⟨47, _⟩ => ⟨S32x1x4x256x128, .f32⟩
  | .hbm, ⟨48, _⟩ => ⟨S32x2x4x256x128, .f32⟩
  | .hbm, ⟨49, _⟩ => ⟨S32x1x4x256x128, .f32⟩
  | .hbm, ⟨50, _⟩ => ⟨S32x4x256x128, .f32⟩
  | .hbm, ⟨51, _⟩ => ⟨S32x256x4x128, .f32⟩
  | .hbm, ⟨52, _⟩ => ⟨S32x4x256x128, .f32⟩
  | .hbm, ⟨53, _⟩ => ⟨S32x1x4x256x128, .f32⟩
  | .hbm, ⟨54, _⟩ => ⟨S32x1x4x256x128, .f32⟩
  | .hbm, ⟨55, _⟩ => ⟨S32x2x4x256x128, .f32⟩
  | .hbm, ⟨56, _⟩ => ⟨S8192x512, .f32⟩
  | .hbm, ⟨57, _⟩ => ⟨S8192x512, .bf16⟩
  | .hbm, ⟨58, _⟩ => ⟨S8192x768, .f32⟩
  | .hbm, ⟨59, _⟩ => ⟨S8192x768, .bf16⟩
  | .hbm, ⟨60, _⟩ => ⟨S8192x512, .bf16⟩
  | .hbm, ⟨61, _⟩ => ⟨S8192x512, .bf16⟩
  | .hbm, ⟨62, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Postmix.lean ====
abbrev S8192x256 : Shape := ⟨2, ![8192, 256]⟩
abbrev S8192x512 : Shape := ⟨2, ![8192, 512]⟩
abbrev S8192x1024 : Shape := ⟨2, ![8192, 1024]⟩
abbrev S16x6x1024 : Shape := ⟨3, ![16, 6, 1024]⟩
abbrev S1024 : Shape := ⟨1, ![1024]⟩
abbrev S1024x1024 : Shape := ⟨2, ![1024, 1024]⟩
abbrev S1024x64 : Shape := ⟨2, ![1024, 64]⟩
abbrev S1x1024 : Shape := ⟨2, ![1, 1024]⟩
abbrev S8192x64 : Shape := ⟨2, ![8192, 64]⟩
abbrev S256x256 : Shape := ⟨2, ![256, 256]⟩
abbrev S256x512 : Shape := ⟨2, ![256, 512]⟩
abbrev S256x1024 : Shape := ⟨2, ![256, 1024]⟩
abbrev S1x6x1024 : Shape := ⟨3, ![1, 6, 1024]⟩
abbrev S256x64 : Shape := ⟨2, ![256, 64]⟩
abbrev S512x1024 : Shape := ⟨2, ![512, 1024]⟩
abbrev S6x1024 : Shape := ⟨2, ![6, 1024]⟩
abbrev S256 : Shape := ⟨1, ![256]⟩
abbrev S256x1 : Shape := ⟨2, ![256, 1]⟩

abbrev nBuf : Space → Nat
  | .hbm => 15
  | .vmem => 20
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x512, .bf16⟩
  | .hbm, ⟨3, _⟩ => ⟨S8192x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x64, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x64, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x64, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x64, .f32⟩
  | .local _ .vmem, ⟨19, _⟩ => ⟨S256x64, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostmixRefIdeal.lean ====
abbrev S8192x256 : Shape := ⟨2, ![8192, 256]⟩
abbrev S8192x512 : Shape := ⟨2, ![8192, 512]⟩
abbrev S8192x1024 : Shape := ⟨2, ![8192, 1024]⟩
abbrev S16x6x1024 : Shape := ⟨3, ![16, 6, 1024]⟩
abbrev S1024 : Shape := ⟨1, ![1024]⟩
abbrev S1024x1024 : Shape := ⟨2, ![1024, 1024]⟩
abbrev S1024x64 : Shape := ⟨2, ![1024, 64]⟩
abbrev S8x1x1024 : Shape := ⟨3, ![8, 1, 1024]⟩
abbrev S8x1024 : Shape := ⟨2, ![8, 1024]⟩
abbrev S8x1024x1024 : Shape := ⟨3, ![8, 1024, 1024]⟩
abbrev S_ : Shape := ⟨0, ![]⟩
abbrev S8x1024x1 : Shape := ⟨3, ![8, 1024, 1]⟩
abbrev S1x1x1024 : Shape := ⟨3, ![1, 1, 1024]⟩
abbrev S8192x64 : Shape := ⟨2, ![8192, 64]⟩

abbrev nBuf : Space → Nat
  | .hbm => 71
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x512, .bf16⟩
  | .hbm, ⟨3, _⟩ => ⟨S8192x1024, .f32⟩
  | .hbm, ⟨4, _⟩ => ⟨S16x6x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x64, .f32⟩
  | .hbm, ⟨9, _⟩ => ⟨S8192x256, .f32⟩
  | .hbm, ⟨10, _⟩ => ⟨S8192x256, .f32⟩
  | .hbm, ⟨11, _⟩ => ⟨S8192x512, .f32⟩
  | .hbm, ⟨12, _⟩ => ⟨S8192x1024, .f32⟩
  | .hbm, ⟨13, _⟩ => ⟨S8192x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S_, .f32⟩
  | .hbm, ⟨27, _⟩ => ⟨S8x1024, .f32⟩
  | .hbm, ⟨28, _⟩ => ⟨S8x1024x1, .f32⟩
  | .hbm, ⟨29, _⟩ => ⟨S_, .f32⟩
  | .hbm, ⟨30, _⟩ => ⟨S8x1024x1, .f32⟩
  | .hbm, ⟨31, _⟩ => ⟨S8x1024x1, .f32⟩
  | .hbm, ⟨32, _⟩ => ⟨S_, .f32⟩
  | .hbm, ⟨33, _⟩ => ⟨S8x1024x1, .f32⟩
  | .hbm, ⟨34, _⟩ => ⟨S8x1024x1, .f32⟩
  | .hbm, ⟨35, _⟩ => ⟨S8x1024x1, .f32⟩
  | .hbm, ⟨36, _⟩ => ⟨S8x1024x1024, .f32⟩
  | .hbm, ⟨37, _⟩ => ⟨S8x1024x1024, .f32⟩
  | .hbm, ⟨38, _⟩ => ⟨S1x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | .hbm, ⟨45, _⟩ => ⟨S_, .f32⟩
  | .hbm, ⟨46, _⟩ => ⟨S8x1024, .f32⟩
  | .hbm, ⟨47, _⟩ => ⟨S8x1024x1, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S_, .f32⟩
  | .hbm, ⟨52, _⟩ => ⟨S8x1024x1, .f32⟩
  | .hbm, ⟨53, _⟩ => ⟨S8x1024x1, .f32⟩
  | .hbm, ⟨54, _⟩ => ⟨S8x1024x1, .f32⟩
  | .hbm, ⟨55, _⟩ => ⟨S8x1024x1024, .f32⟩
  | .hbm, ⟨56, _⟩ => ⟨S8x1024x1024, .f32⟩
  | .hbm, ⟨57, _⟩ => ⟨S1x1x1024, .f32⟩
  | .hbm, ⟨58, _⟩ => ⟨S8x1024x1024, .f32⟩
  | .hbm, ⟨59, _⟩ => ⟨S8x1024x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x1024x1024, .f32⟩
  | .hbm, ⟨64, _⟩ => ⟨S8x1024x1024, .f32⟩
  | .hbm, ⟨65, _⟩ => ⟨S8x1024x1024, .f32⟩
  | .hbm, ⟨66, _⟩ => ⟨S8x1024x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x64, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Conformer.lean ====
abbrev S8192x512 : Shape := ⟨2, ![8192, 512]⟩
abbrev S31x256 : Shape := ⟨2, ![31, 256]⟩
abbrev S256 : Shape := ⟨1, ![256]⟩
abbrev S1x256 : Shape := ⟨2, ![1, 256]⟩
abbrev S8192x256 : Shape := ⟨2, ![8192, 256]⟩
abbrev S256x512 : Shape := ⟨2, ![256, 512]⟩
abbrev S256x256 : Shape := ⟨2, ![256, 256]⟩
abbrev S288x256 : Shape := ⟨2, ![288, 256]⟩
abbrev S8x288x256 : Shape := ⟨3, ![8, 288, 256]⟩
abbrev S16x256 : Shape := ⟨2, ![16, 256]⟩
abbrev S280x256 : Shape := ⟨2, ![280, 256]⟩
abbrev S1x280x256 : Shape := ⟨3, ![1, 280, 256]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S8192x256, .bf16⟩
  | .local _ .vmem, ⟨0, _⟩ => ⟨S256x512, .bf16⟩
  | .local _ .vmem, ⟨1, _⟩ => ⟨S256x512, .bf16⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S288x256, .f32⟩
  | .local _ .vmem, ⟨9, _⟩ => ⟨S8x288x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v48 : BitVec 32 := Scalar.addi c0_i32 c4_i32
  let c1_i32 : BitVec 32 := 1#32
  ⟨c0_i32, v48, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  v49
def k0_off1 (k0_t1 : Fin k0_t1_loop.trips) (c0_i32_40 : BitVec 32) : Fin 3 → Nat :=
  let c1_41 : Index := 1#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v52 : BitVec 32 := Scalar.addi v50 c0_i32_40
  let v53 : Index := Scalar.indexCast v52
  let c0_42 : Index := 0#32
  ![1, v53.toNat, 0]
def k0_off2 (k0_t1 : Fin k0_t1_loop.trips) (c0_i32_45 : BitVec 32) : Fin 3 → Nat :=
  let c2_46 : Index := 2#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v60 : BitVec 32 := Scalar.addi v50 c0_i32_45
  let v61 : Index := Scalar.indexCast v60
  let c0_47 : Index := 0#32
  ![2, v61.toNat, 0]
def k0_off3 (k0_t1 : Fin k0_t1_loop.trips) (c0_i32_50 : BitVec 32) : Fin 3 → Nat :=
  let c3_51 : Index := 3#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v68 : BitVec 32 := Scalar.addi v50 c0_i32_50
  let v69 : Index := Scalar.indexCast v68
  let c0_52 : Index := 0#32
  ![3, v69.toNat, 0]
def k0_off4 (k0_t1 : Fin k0_t1_loop.trips) (c0_i32_55 : BitVec 32) : Fin 3 → Nat :=
  let c4_56 : Index := 4#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v76 : BitVec 32 := Scalar.addi v50 c0_i32_55
  let v77 : Index := Scalar.indexCast v76
  let c0_57 : Index := 0#32
  ![4, v77.toNat, 0]
def k0_off5 (k0_t1 : Fin k0_t1_loop.trips) (c0_i32_60 : BitVec 32) : Fin 3 → Nat :=
  let c5_61 : Index := 5#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v84 : BitVec 32 := Scalar.addi v50 c0_i32_60
  let v85 : Index := Scalar.indexCast v84
  let c0_62 : Index := 0#32
  ![5, v85.toNat, 0]
def k0_off6 (k0_t1 : Fin k0_t1_loop.trips) (c0_i32_65 : BitVec 32) : Fin 3 → Nat :=
  let c6_66 : Index := 6#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v92 : BitVec 32 := Scalar.addi v50 c0_i32_65
  let v93 : Index := Scalar.indexCast v92
  let c0_67 : Index := 0#32
  ![6, v93.toNat, 0]
def k0_off7 (k0_t1 : Fin k0_t1_loop.trips) (c0_i32_70 : BitVec 32) : Fin 3 → Nat :=
  let c7_71 : Index := 7#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v100 : BitVec 32 := Scalar.addi v50 c0_i32_70
  let v101 : Index := Scalar.indexCast v100
  let c0_72 : Index := 0#32
  ![7, v101.toNat, 0]
def k0_off8 (k0_t1 : Fin k0_t1_loop.trips) (c8_i32 : BitVec 32) : Fin 3 → Nat :=
  let c0_75 : Index := 0#32
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v108 : BitVec 32 := Scalar.addi v50 c8_i32
  let v109 : Index := Scalar.indexCast v108
  let c0_76 : Index := 0#32
  ![0, v109.toNat, 0]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v49 : BitVec 32 := Scalar.muli arg9 c64_i32
  let v50 : BitVec 32 := v49
  let v331 : Index := Scalar.indexCast v50
  let c0_181 : Index := 0#32
  ![v331.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConformerRefIdeal.lean ====
abbrev S8192x512 : Shape := ⟨2, ![8192, 512]⟩
abbrev S31x256 : Shape := ⟨2, ![31, 256]⟩
abbrev S256 : Shape := ⟨1, ![256]⟩
abbrev S32x256x512 : Shape := ⟨3, ![32, 256, 512]⟩
abbrev S32x256x256 : Shape := ⟨3, ![32, 256, 256]⟩
abbrev S_ : Shape := ⟨0, ![]⟩
abbrev S32x286x256 : Shape := ⟨3, ![32, 286, 256]⟩
abbrev S1x256 : Shape := ⟨2, ![1, 256]⟩
abbrev S1x1x256 : Shape := ⟨3, ![1, 1, 256]⟩
abbrev S32x256 : Shape := ⟨2, ![32, 256]⟩
abbrev S32x256x1 : Shape := ⟨3, ![32, 256, 1]⟩
abbrev S8192x256 : Shape := ⟨2, ![8192, 256]⟩

abbrev nBuf : Space → Nat
  | .hbm => 281
  | .vmem => 0
  | .smem => 0
  | _ => 0

abbrev hbmTy0_0 (i : Nat) : BufTy := match i % 128 with
  | 0 => ⟨S8192x512, .bf16⟩
  | 1 => ⟨S31x256, .f32⟩
  | 2 => ⟨S256, .f32⟩
  | 3 => ⟨S256, .f32⟩
  | 4 => ⟨S256, .f32⟩
  | 5 => ⟨S8192x512, .f32⟩
  | 6 => ⟨S32x256x512, .f32⟩
  | 7 => ⟨S32x256x256, .f32⟩
  | 8 => ⟨S32x256x256, .f32⟩
  | 9 => ⟨S32x256x256, .f32⟩
  | 10 => ⟨S32x256x256, .f32⟩
  | 11 => ⟨S_, .f32⟩
  | 12 => ⟨S32x256x256, .f32⟩
  | 13 => ⟨S32x256x256, .f32⟩
  | 14 => ⟨S_, .f32⟩
  | 15 => ⟨S32x256x256, .f32⟩
  | 16 => ⟨S32x256x256, .f32⟩
  | 17 => ⟨S32x256x256, .f32⟩
  | 18 => ⟨S_, .i32⟩
  | 19 => ⟨S_, .f32⟩
  | 20 => ⟨S32x286x256, .f32⟩
  | 21 => ⟨S32x256x256, .f32⟩
  | 22 => ⟨S1x256, .f32⟩
  | 23 => ⟨S256, .f32⟩
  | 24 => ⟨S1x1x256, .f32⟩
  | 25 => ⟨S32x256x256, .f32⟩
  | 26 => ⟨S32x256x256, .f32⟩
  | 27 => ⟨S_, .f32⟩
  | 28 => ⟨S32x256x256, .f32⟩
  | 29 => ⟨S32x256x256, .f32⟩
  | 30 => ⟨S32x256x256, .f32⟩
  | 31 => ⟨S1x256, .f32⟩
  | 32 => ⟨S256, .f32⟩
  | 33 => ⟨S1x1x256, .f32⟩
  | 34 => ⟨S32x256x256, .f32⟩
  | 35 => ⟨S32x256x256, .f32⟩
  | 36 => ⟨S32x256x256, .f32⟩
  | 37 => ⟨S32x256x256, .f32⟩
  | 38 => ⟨S1x256, .f32⟩
  | 39 => ⟨S256, .f32⟩
  | 40 => ⟨S1x1x256, .f32⟩
  | 41 => ⟨S32x256x256, .f32⟩
  | 42 => ⟨S32x256x256, .f32⟩
  | 43 => ⟨S32x256x256, .f32⟩
  | 44 => ⟨S32x256x256, .f32⟩
  | 45 => ⟨S1x256, .f32⟩
  | 46 => ⟨S256, .f32⟩
  | 47 => ⟨S1x1x256, .f32⟩
  | 48 => ⟨S32x256x256, .f32⟩
  | 49 => ⟨S32x256x256, .f32⟩
  | 50 => ⟨S32x256x256, .f32⟩
  | 51 => ⟨S32x256x256, .f32⟩
  | 52 => ⟨S1x256, .f32⟩
  | 53 => ⟨S256, .f32⟩
  | 54 => ⟨S1x1x256, .f32⟩
  | 55 => ⟨S32x256x256, .f32⟩
  | 56 => ⟨S32x256x256, .f32⟩
  | 57 => ⟨S32x256x256, .f32⟩
  | 58 => ⟨S32x256x256, .f32⟩
  | 59 => ⟨S1x256, .f32⟩
  | 60 => ⟨S256, .f32⟩
  | 61 => ⟨S1x1x256, .f32⟩
  | 62 => ⟨S32x256x256, .f32⟩
  | 63 => ⟨S32x256x256, .f32⟩
  | 64 => ⟨S32x256x256, .f32⟩
  | 65 => ⟨S32x256x256, .f32⟩
  | 66 => ⟨S1x256, .f32⟩
  | 67 => ⟨S256, .f32⟩
  | 68 => ⟨S1x1x256, .f32⟩
  | 69 => ⟨S32x256x256, .f32⟩
  | 70 => ⟨S32x256x256, .f32⟩
  | 71 => ⟨S32x256x256, .f32⟩
  | 72 => ⟨S32x256x256, .f32⟩
  | 73 => ⟨S1x256, .f32⟩
  | 74 => ⟨S256, .f32⟩
  | 75 => ⟨S1x1x256, .f32⟩
  | 76 => ⟨S32x256x256, .f32⟩
  | 77 => ⟨S32x256x256, .f32⟩
  | 78 => ⟨S32x256x256, .f32⟩
  | 79 => ⟨S32x256x256, .f32⟩
  | 80 => ⟨S1x256, .f32⟩
  | 81 => ⟨S256, .f32⟩
  | 82 => ⟨S1x1x256, .f32⟩
  | 83 => ⟨S32x256x256, .f32⟩
  | 84 => ⟨S32x256x256, .f32⟩
  | 85 => ⟨S32x256x256, .f32⟩
  | 86 => ⟨S32x256x256, .f32⟩
  | 87 => ⟨S1x256, .f32⟩
  | 88 => ⟨S256, .f32⟩
  | 89 => ⟨S1x1x256, .f32⟩
  | 90 => ⟨S32x256x256, .f32⟩
  | 91 => ⟨S32x256x256, .f32⟩
  | 92 => ⟨S32x256x256, .f32⟩
  | 93 => ⟨S32x256x256, .f32⟩
  | 94 => ⟨S1x256, .f32⟩
  | 95 => ⟨S256, .f32⟩
  | 96 => ⟨S1x1x256, .f32⟩
  | 97 => ⟨S32x256x256, .f32⟩
  | 98 => ⟨S32x256x256, .f32⟩
  | 99 => ⟨S32x256x256, .f32⟩
  | 100 => ⟨S32x256x256, .f32⟩
  | 101 => ⟨S1x256, .f32⟩
  | 102 => ⟨S256, .f32⟩
  | 103 => ⟨S1x1x256, .f32⟩
  | 104 => ⟨S32x256x256, .f32⟩
  | 105 => ⟨S32x256x256, .f32⟩
  | 106 => ⟨S32x256x256, .f32⟩
  | 107 => ⟨S32x256x256, .f32⟩
  | 108 => ⟨S1x256, .f32⟩
  | 109 => ⟨S256, .f32⟩
  | 110 => ⟨S1x1x256, .f32⟩
  | 111 => ⟨S32x256x256, .f32⟩
  | 112 => ⟨S32x256x256, .f32⟩
  | 113 => ⟨S32x256x256, .f32⟩
  | 114 => ⟨S32x256x256, .f32⟩
  | 115 => ⟨S1x256, .f32⟩
  | 116 => ⟨S256, .f32⟩
  | 117 => ⟨S1x1x256, .f32⟩
  | 118 => ⟨S32x256x256, .f32⟩
  | 119 => ⟨S32x256x256, .f32⟩
  | 120 => ⟨S32x256x256, .f32⟩
  | 121 => ⟨S32x256x256, .f32⟩
  | 122 => ⟨S1x256, .f32⟩
  | 123 => ⟨S256, .f32⟩
  | 124 => ⟨S1x1x256, .f32⟩
  | 125 => ⟨S32x256x256, .f32⟩
  | 126 => ⟨S32x256x256, .f32⟩
  | 127 => ⟨S32x256x256, .f32⟩
  | _ => ⟨S8192x512, .bf16⟩

abbrev hbmTy0_1 (i : Nat) : BufTy := match i % 128 with
  | 0 => ⟨S32x256x256, .f32⟩
  | 1 => ⟨S1x256, .f32⟩
  | 2 => ⟨S256, .f32⟩
  | 3 => ⟨S1x1x256, .f32⟩
  | 4 => ⟨S32x256x256, .f32⟩
  | 5 => ⟨S32x256x256, .f32⟩
  | 6 => ⟨S32x256x256, .f32⟩
  | 7 => ⟨S32x256x256, .f32⟩
  | 8 => ⟨S1x256, .f32⟩
  | 9 => ⟨S256, .f32⟩
  | 10 => ⟨S1x1x256, .f32⟩
  | 11 => ⟨S32x256x256, .f32⟩
  | 12 => ⟨S32x256x256, .f32⟩
  | 13 => ⟨S32x256x256, .f32⟩
  | 14 => ⟨S32x256x256, .f32⟩
  | 15 => ⟨S1x256, .f32⟩
  | 16 => ⟨S256, .f32⟩
  | 17 => ⟨S1x1x256, .f32⟩
  | 18 => ⟨S32x256x256, .f32⟩
  | 19 => ⟨S32x256x256, .f32⟩
  | 20 => ⟨S32x256x256, .f32⟩
  | 21 => ⟨S32x256x256, .f32⟩
  | 22 => ⟨S1x256, .f32⟩
  | 23 => ⟨S256, .f32⟩
  | 24 => ⟨S1x1x256, .f32⟩
  | 25 => ⟨S32x256x256, .f32⟩
  | 26 => ⟨S32x256x256, .f32⟩
  | 27 => ⟨S32x256x256, .f32⟩
  | 28 => ⟨S32x256x256, .f32⟩
  | 29 => ⟨S1x256, .f32⟩
  | 30 => ⟨S256, .f32⟩
  | 31 => ⟨S1x1x256, .f32⟩
  | 32 => ⟨S32x256x256, .f32⟩
  | 33 => ⟨S32x256x256, .f32⟩
  | 34 => ⟨S32x256x256, .f32⟩
  | 35 => ⟨S32x256x256, .f32⟩
  | 36 => ⟨S1x256, .f32⟩
  | 37 => ⟨S256, .f32⟩
  | 38 => ⟨S1x1x256, .f32⟩
  | 39 => ⟨S32x256x256, .f32⟩
  | 40 => ⟨S32x256x256, .f32⟩
  | 41 => ⟨S32x256x256, .f32⟩
  | 42 => ⟨S32x256x256, .f32⟩
  | 43 => ⟨S1x256, .f32⟩
  | 44 => ⟨S256, .f32⟩
  | 45 => ⟨S1x1x256, .f32⟩
  | 46 => ⟨S32x256x256, .f32⟩
  | 47 => ⟨S32x256x256, .f32⟩
  | 48 => ⟨S32x256x256, .f32⟩
  | 49 => ⟨S32x256x256, .f32⟩
  | 50 => ⟨S1x256, .f32⟩
  | 51 => ⟨S256, .f32⟩
  | 52 => ⟨S1x1x256, .f32⟩
  | 53 => ⟨S32x256x256, .f32⟩
  | 54 => ⟨S32x256x256, .f32⟩
  | 55 => ⟨S32x256x256, .f32⟩
  | 56 => ⟨S32x256x256, .f32⟩
  | 57 => ⟨S1x256, .f32⟩
  | 58 => ⟨S256, .f32⟩
  | 59 => ⟨S1x1x256, .f32⟩
  | 60 => ⟨S32x256x256, .f32⟩
  | 61 => ⟨S32x256x256, .f32⟩
  | 62 => ⟨S32x256x256, .f32⟩
  | 63 => ⟨S32x256x256, .f32⟩
  | 64 => ⟨S1x256, .f32⟩
  | 65 => ⟨S256, .f32⟩
  | 66 => ⟨S1x1x256, .f32⟩
  | 67 => ⟨S32x256x256, .f32⟩
  | 68 => ⟨S32x256x256, .f32⟩
  | 69 => ⟨S32x256x256, .f32⟩
  | 70 => ⟨S32x256x256, .f32⟩
  | 71 => ⟨S1x256, .f32⟩
  | 72 => ⟨S256, .f32⟩
  | 73 => ⟨S1x1x256, .f32⟩
  | 74 => ⟨S32x256x256, .f32⟩
  | 75 => ⟨S32x256x256, .f32⟩
  | 76 => ⟨S32x256x256, .f32⟩
  | 77 => ⟨S32x256x256, .f32⟩
  | 78 => ⟨S1x256, .f32⟩
  | 79 => ⟨S256, .f32⟩
  | 80 => ⟨S1x1x256, .f32⟩
  | 81 => ⟨S32x256x256, .f32⟩
  | 82 => ⟨S32x256x256, .f32⟩
  | 83 => ⟨S32x256x256, .f32⟩
  | 84 => ⟨S32x256x256, .f32⟩
  | 85 => ⟨S1x256, .f32⟩
  | 86 => ⟨S256, .f32⟩
  | 87 => ⟨S1x1x256, .f32⟩
  | 88 => ⟨S32x256x256, .f32⟩
  | 89 => ⟨S32x256x256, .f32⟩
  | 90 => ⟨S32x256x256, .f32⟩
  | 91 => ⟨S32x256x256, .f32⟩
  | 92 => ⟨S1x256, .f32⟩
  | 93 => ⟨S256, .f32⟩
  | 94 => ⟨S1x1x256, .f32⟩
  | 95 => ⟨S32x256x256, .f32⟩
  | 96 => ⟨S32x256x256, .f32⟩
  | 97 => ⟨S32x256x256, .f32⟩
  | 98 => ⟨S32x256x256, .f32⟩
  | 99 => ⟨S1x256, .f32⟩
  | 100 => ⟨S256, .f32⟩
  | 101 => ⟨S1x1x256, .f32⟩
  | 102 => ⟨S32x256x256, .f32⟩
  | 103 => ⟨S32x256x256, .f32⟩
  | 104 => ⟨S32x256x256, .f32⟩
  | 105 => ⟨S32x256x256, .f32⟩
  | 106 => ⟨S1x256, .f32⟩
  | 107 => ⟨S256, .f32⟩
  | 108 => ⟨S1x1x256, .f32⟩
  | 109 => ⟨S32x256x256, .f32⟩
  | 110 => ⟨S32x256x256, .f32⟩
  | 111 => ⟨S32x256x256, .f32⟩
  | 112 => ⟨S1x1x256, .f32⟩
  | 113 => ⟨S32x256x256, .f32⟩
  | 114 => ⟨S32x256x256, .f32⟩
  | 115 => ⟨S_, .f32⟩
  | 116 => ⟨S32x256, .f32⟩
  | 117 => ⟨S32x256x1, .f32⟩
  | 118 => ⟨S_, .f32⟩
  | 119 => ⟨S32x256x1, .f32⟩
  | 120 => ⟨S32x256x1, .f32⟩
  | 121 => ⟨S32x256x256, .f32⟩
  | 122 => ⟨S32x256x256, .f32⟩
  | 123 => ⟨S32x256x256, .f32⟩
  | 124 => ⟨S_, .f32⟩
  | 125 => ⟨S32x256, .f32⟩
  | 126 => ⟨S32x256x1, .f32⟩
  | 127 => ⟨S_, .f32⟩
  | _ => ⟨S8192x512, .bf16⟩

abbrev hbmTy0_2 (i : Nat) : BufTy := match i % 128 with
  | 0 => ⟨S32x256x1, .f32⟩
  | 1 => ⟨S32x256x1, .f32⟩
  | 2 => ⟨S_, .f32⟩
  | 3 => ⟨S32x256x1, .f32⟩
  | 4 => ⟨S32x256x1, .f32⟩
  | 5 => ⟨S32x256x1, .f32⟩
  | 6 => ⟨S32x256x256, .f32⟩
  | 7 => ⟨S32x256x256, .f32⟩
  | 8 => ⟨S1x1x256, .f32⟩
  | 9 => ⟨S32x256x256, .f32⟩
  | 10 => ⟨S32x256x256, .f32⟩
  | 11 => ⟨S1x1x256, .f32⟩
  | 12 => ⟨S32x256x256, .f32⟩
  | 13 => ⟨S32x256x256, .f32⟩
  | 14 => ⟨S32x256x256, .f32⟩
  | 15 => ⟨S32x256x256, .f32⟩
  | 16 => ⟨S_, .f32⟩
  | 17 => ⟨S32x256x256, .f32⟩
  | 18 => ⟨S32x256x256, .f32⟩
  | 19 => ⟨S_, .f32⟩
  | 20 => ⟨S32x256x256, .f32⟩
  | 21 => ⟨S32x256x256, .f32⟩
  | 22 => ⟨S32x256x256, .f32⟩
  | 23 => ⟨S8192x256, .f32⟩
  | 24 => ⟨S8192x256, .bf16⟩
  | _ => ⟨S8192x512, .bf16⟩

abbrev hbmTy (i : Nat) : BufTy := match i / 128 with
  | 0 => hbmTy0_0 i
  | 1 => hbmTy0_1 i
  | 2 => hbmTy0_2 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩

abbrev nD : Nat := 1
abbrev τ : Topo := Topo.v7x

variable {F : FTy → Type} [FloatOps F]
-- ==== Proof.AttnIn.lean ====
module

public import proofs.«01_k».proof.Proof.Gen.KernelIdeal.Frame
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block lies: batch `t/16`, head `t/4 % 4`, query block `t % 4`. -/
theorem idx : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, 0, t.val / 4 % 4, 0, 0]
    ∧ win0_4.index t = ![t.val / 16, 0, t.val / 4 % 4, 0, 0] ∧ win0_5.index t = ![0, 0] ∧ win0_6.index t = ![0, 0]
    ∧ win0_7.index t = ![t.val / 16, t.val % 4, t.val / 4 % 4] :=
  (by decide +kernel : ∀ t : Fin grid0.N, _)

/-- Where an element of the query block lies in its array. -/
theorem q_read (A : FVec Ideal S8x1024x512 .bf16) (t : Fin cfg0.N) (ht : t.val < 128) (r : Fin 256) (d : Fin 128) :
    ((cfg0.win 0).blk t).view.read (Elt Ideal) A (ix3 0 r d) = A (ix3 (⟨t.val / 16, by omega⟩ : Fin 8) (⟨t.val % 4 * 256 + r.val, by omega⟩ : Fin 1024) (⟨t.val / 4 % 4 * 128 + d.val, by omega⟩ : Fin 512)) := by
  blk_ext [idx t]

/-- Where an element of the key block lies in its array. -/
theorem k_read (A : FVec Ideal S8x1024x512 .bf16) (t : Fin cfg0.N) (ht : t.val < 128) (k : Fin 1024) (d : Fin 128) :
    ((cfg0.win 1).blk t).view.read (Elt Ideal) A (ix3 0 k d) = A (ix3 (⟨t.val / 16, by omega⟩ : Fin 8) k (⟨t.val / 4 % 4 * 128 + d.val, by omega⟩ : Fin 512)) := by
  blk_ext [idx t]

/-- Where an element of the value block lies in its array. -/
theorem v_read (A : FVec Ideal S8x1024x512 .bf16) (t : Fin cfg0.N) (ht : t.val < 128) (k : Fin 1024) (d : Fin 128) :
    ((cfg0.win 2).blk t).view.read (Elt Ideal) A (ix3 0 k d) = A (ix3 (⟨t.val / 16, by omega⟩ : Fin 8) k (⟨t.val / 4 % 4 * 128 + d.val, by omega⟩ : Fin 512)) := by
  blk_ext [idx t]

/-- Where an element of the cached key block lies in its array. -/
theorem ck_read (A : FVec Ideal S8x2x4x512x128 .f32) (t : Fin cfg0.N) (ht : t.val < 128) (j : Fin 512) (d : Fin 128) :
    ((cfg0.win 3).blk t).view.read (Elt Ideal) A (ix5 0 0 0 j d) = A (ix5 (⟨t.val / 16, by omega⟩ : Fin 8) 0 (⟨t.val / 4 % 4, by omega⟩ : Fin 4) j d) := by
  blk_ext [idx t]

/-- Where an element of the cached value block lies in its array. -/
theorem cv_read (A : FVec Ideal S8x2x4x512x128 .f32) (t : Fin cfg0.N) (ht : t.val < 128) (j : Fin 512) (d : Fin 128) :
    ((cfg0.win 4).blk t).view.read (Elt Ideal) A (ix5 0 0 0 j d) = A (ix5 (⟨t.val / 16, by omega⟩ : Fin 8) 0 (⟨t.val / 4 % 4, by omega⟩ : Fin 4) j d) := by
  blk_ext [idx t]

/-- The lambda vectors are read whole. -/
theorem lam_read (A : FVec Ideal S4x64 .f32) (t : Fin cfg0.N) (ht : t.val < 128) (a : Fin 4) (x : Fin 64) :
    ((cfg0.win 5).blk t).view.read (Elt Ideal) A (ix2 a x) = A (ix2 a x) := by
  blk_ext [idx t]

/-- The gain is read whole. -/
theorem g_read (A : FVec Ideal S1x128 .f32) (t : Fin cfg0.N) (ht : t.val < 128) (l : Fin 128) :
    ((cfg0.win 6).blk t).view.read (Elt Ideal) A (ix2 0 l) = A (ix2 0 l) := by
  blk_ext [idx t]

/-- The stacked lambda vectors at the region's entry, from the four arrays. -/
def lams (x5 x6 x7 x8 : FVec Ideal S2x64 .f32) : FVec Ideal S4x64 .f32 :=
  concatenate S4x64 0 [
    ⟨S1x64, broadcastInDim S1x64 ![1] bcast_S64_S1x64_1 (shapeCast S64 (extractStridedSlice S1x64 ![0, 0] x5 slices_S2x64_S1x64_0_0) shapeCasts_S1x64_S64)⟩,
    ⟨S1x64, broadcastInDim S1x64 ![1] bcast_S64_S1x64_1 (shapeCast S64 (extractStridedSlice S1x64 ![0, 0] x6 slices_S2x64_S1x64_0_0) shapeCasts_S1x64_S64)⟩,
    ⟨S1x64, broadcastInDim S1x64 ![1] bcast_S64_S1x64_1 (shapeCast S64 (extractStridedSlice S1x64 ![0, 0] x7 slices_S2x64_S1x64_0_0) shapeCasts_S1x64_S64)⟩,
    ⟨S1x64, broadcastInDim S1x64 ![1] bcast_S64_S1x64_1 (shapeCast S64 (extractStridedSlice S1x64 ![0, 0] x8 slices_S2x64_S1x64_0_0) shapeCasts_S1x64_S64)⟩] concatenates_S1x64_S1x64_S1x64_S1x64_S4x64_d0

/-- Each row of the stacked lambda vectors is one array's first row. -/
theorem lams_at (x5 x6 x7 x8 : FVec Ideal S2x64 .f32) (x : Fin 64) :
    lams x5 x6 x7 x8 (ix2 0 x) = x5 (ix2 0 x) ∧ lams x5 x6 x7 x8 (ix2 1 x) = x6 (ix2 0 x)
      ∧ lams x5 x6 x7 x8 (ix2 2 x) = x7 (ix2 0 x) ∧ lams x5 x6 x7 x8 (ix2 3 x) = x8 (ix2 0 x) := by
  refine ⟨?_, ?_, ?_, ?_⟩ <;> pointwise [lams]

/-- Four stacked rows are equal when the rows are. -/
theorem stack_congr {a b c d a' b' c' d' : FVec Ideal S1x64 .f32} (ha : a = a') (hb : b = b') (hc : c = c') (hd : d = d') :
    concatenate (α := Elt Ideal .f32) S4x64 0 [⟨S1x64, a⟩, ⟨S1x64, b⟩, ⟨S1x64, c⟩, ⟨S1x64, d⟩] concatenates_S1x64_S1x64_S1x64_S1x64_S4x64_d0
      = concatenate (α := Elt Ideal .f32) S4x64 0 [⟨S1x64, a'⟩, ⟨S1x64, b'⟩, ⟨S1x64, c'⟩, ⟨S1x64, d'⟩] concatenates_S1x64_S1x64_S1x64_S1x64_S4x64_d0 := by
  subst ha hb hc hd; rfl

/-- The queries at the region's entry. -/
theorem entry0 (c : Dev nD) : V m c main_v15 = shapeCast S8x1024x512 (m ((c : Thread nD τ).loc main_arg0)) shapeCasts_S8192x512_S8x1024x512 := by
  entry_read <;> rfl

/-- The keys at the region's entry. -/
theorem entry1 (c : Dev nD) : V m c main_v16 = shapeCast S8x1024x512 (m ((c : Thread nD τ).loc main_arg1)) shapeCasts_S8192x512_S8x1024x512 := by
  entry_read <;> rfl

/-- The values at the region's entry. -/
theorem entry2 (c : Dev nD) : V m c main_v17 = shapeCast S8x1024x512 (m ((c : Thread nD τ).loc main_arg2)) shapeCasts_S8192x512_S8x1024x512 := by
  entry_read <;> rfl

set_option maxHeartbeats 1000000 in
/-- The stacked lambda vectors at the region's entry. -/
theorem entry3 (c : Dev nD) : V m c main_v12 = lams (m ((c : Thread nD τ).loc main_arg5)) (m ((c : Thread nD τ).loc main_arg6)) (m ((c : Thread nD τ).loc main_arg7)) (m ((c : Thread nD τ).loc main_arg8)) := by
  unfold V hostOps0
  simp only [StableHlo.after_cons, StableHlo.after_nil]
  iterate 6 (first | (rw [StableHlo.reshape_result_ne]; rotate_left; decide) | (rw [StableHlo.unary_result_ne]; rotate_left; decide))
  rw [StableHlo.nary_result]
  refine stack_congr ?_ ?_ ?_ ?_
  · after_results_simp; rfl
  · after_results_simp; rfl
  · after_results_simp; rfl
  · after_results_simp; rfl

/-- The gain at the region's entry. -/
theorem entry4 (c : Dev nD) : V m c main_v18 = shapeCast S1x128 (shapeCast S128 (extractStridedSlice S1x128 ![0, 0] (m ((c : Thread nD τ).loc main_arg9)) slices_S2x128_S1x128_0_0) shapeCasts_S1x128_S128) shapeCasts_S128_S1x128 := by
  entry_read <;> rfl

end Cert.Own.Attn

end
-- ==== Proof.AttnMath.lean ====
module

public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Attn

open Idealize.ShloMosaic Idealize.ShloMosaic.TcCoe Idealize.SL.Sem

/-- The f32 pattern of `-∞` is `⊥`. -/
theorem bits_bot : Ideal.ofBits .f32 4286578688#32 = ⊥ := by simp [Ideal.ofBits, Ideal.ieee]

/-- The constant added to lambda is a real number. -/
theorem bits_lam : ∃ x : ℝ, Ideal.ofBits .f32 1045220557#32 = (x : EReal) :=
  ⟨_, by simp only [Ideal.ofBits, Ideal.ieee]; norm_num; rfl⟩

/-- The coercion of a real sum is the sum of the coercions. -/
theorem coe_sum {n : Nat} (f : Fin n → ℝ) : ∑ x, ((f x : ℝ) : EReal) = ((∑ x, f x : ℝ) : EReal) := by
  classical
  induction (Finset.univ : Finset (Fin n)) using Finset.induction_on with
  | empty => simp
  | insert a s ha ih => rw [Finset.sum_insert ha, Finset.sum_insert ha, ih, EReal.coe_add]

/-- A sum of products of reals. -/
theorem coe_dot {n : Nat} (f g : Fin n → ℝ) :
    ∑ x, ((f x : ℝ) : EReal) * ((g x : ℝ) : EReal) = ((∑ x, f x * g x : ℝ) : EReal) := by
  rw [← coe_sum]; exact Finset.sum_congr rfl fun x _ => (EReal.coe_mul _ _).symm

/-- A sum over 1536 lanes is the sum over the first 512 and the sum over the other 1024. -/
theorem sum_split {M : Type} [AddCommMonoid M] (f : Fin 1536 → M) :
    ∑ x, f x = ∑ j : Fin 512, f ⟨j.1, by omega⟩ + ∑ k : Fin 1024, f ⟨512 + k.1, by omega⟩ :=
  Fin.sum_univ_add (a := 512) (b := 1024) f

/-- The cached scores followed by the call's own scores, as one row of 1536. -/
def cat {α : Type} (sc : Fin 512 → α) (s : Fin 1024 → α) (x : Fin 1536) : α :=
  if h : x.1 < 512 then sc ⟨x.1, h⟩ else s ⟨x.1 - 512, by omega⟩

theorem cat_lo {α : Type} (sc : Fin 512 → α) (s : Fin 1024 → α) (j : Fin 512) (h : j.1 < 1536) :
    cat sc s ⟨j.1, h⟩ = sc j := by
  simp [cat]

theorem cat_hi {α : Type} (sc : Fin 512 → α) (s : Fin 1024 → α) (k : Fin 1024) (h : 512 + k.1 < 1536) :
    cat sc s ⟨512 + k.1, h⟩ = s k := by
  simp [cat]

theorem cat_coe (sc : Fin 512 → ℝ) (s : Fin 1024 → ℝ) :
    cat (fun j => (sc j : EReal)) (fun k => (s k : EReal)) = fun x => ((cat sc s x : ℝ) : EReal) := by
  funext x; unfold cat; split <;> rfl

/-- The largest entry of a row, begun at the pattern of `-∞`. -/
def top {n : Nat} (f : Fin n → EReal) : EReal := Finset.fold max (Ideal.ofBits .f32 4286578688#32) f Finset.univ

theorem top_sup {n : Nat} (f : Fin n → EReal) : top f = Finset.univ.sup f := by
  unfold top; rw [bits_bot]; rfl

/-- The largest of the two parts' largest entries is the largest entry of the whole row. -/
theorem top_cat (sc : Fin 512 → EReal) (s : Fin 1024 → EReal) : max (top s) (top sc) = top (cat sc s) := by
  rw [top_sup, top_sup, top_sup]
  apply le_antisymm
  · refine max_le (Finset.sup_le fun k _ => ?_) (Finset.sup_le fun j _ => ?_)
    · rw [← cat_hi sc s k (by omega)]; exact Finset.le_sup (f := cat sc s) (Finset.mem_univ _)
    · rw [← cat_lo sc s j (by omega)]; exact Finset.le_sup (f := cat sc s) (Finset.mem_univ _)
  · refine Finset.sup_le fun x _ => ?_
    unfold cat; split
    · exact le_max_of_le_right (Finset.le_sup (f := sc) (Finset.mem_univ _))
    · exact le_max_of_le_left (Finset.le_sup (f := s) (Finset.mem_univ _))

/-- The largest entry of a row of reals is a real. -/
theorem top_real {n : Nat} [NeZero n] (f : Fin n → ℝ) : ∃ m : ℝ, top (fun x => (f x : EReal)) = (m : EReal) := by
  rw [top_sup]
  obtain ⟨i, _, hi⟩ := Finset.exists_mem_eq_sup (Finset.univ : Finset (Fin n)) ⟨0, Finset.mem_univ _⟩ (fun x => (f x : EReal))
  exact ⟨f i, hi⟩

/-- One softmax's part of the kernel's output: the two parts' weighted sums over the two parts' weights. -/
def part (s : Fin 1024 → EReal) (sc : Fin 512 → EReal) (v : Fin 1024 → EReal) (cv : Fin 512 → EReal) : EReal :=
  Ideal.div (∑ x, Ideal.exp (s x - max (top s) (top sc)) * v x + ∑ x, Ideal.exp (sc x - max (top s) (top sc)) * cv x)
    (∑ x, Ideal.exp (s x - max (top s) (top sc)) + ∑ x, Ideal.exp (sc x - max (top s) (top sc)))

/-- The reference's softmax of one row. -/
def soft (S : Fin 1536 → EReal) (x : Fin 1536) : EReal :=
  Ideal.div (Ideal.exp (S x - max (Ideal.ofBits .f32 4286578688#32) (top S)))
    (∑ y, Ideal.exp (S y - max (Ideal.ofBits .f32 4286578688#32) (top S)))

/-- The real softmax weight of a row about the point `m`. -/
def wt (S : Fin 1536 → ℝ) (m : ℝ) (x : Fin 1536) : ℝ := Real.exp (S x - m) * (1 / ∑ y, Real.exp (S y - m))

theorem exp_sub_coe (a b : ℝ) : Ideal.exp ((a : EReal) - (b : EReal)) = ((Real.exp (a - b) : ℝ) : EReal) := by
  rw [← EReal.coe_sub, Ideal.exp_coe]

/-- The denominator of a softmax is not zero. -/
theorem den_ne (S : Fin 1536 → ℝ) (m : ℝ) : ∑ y, Real.exp (S y - m) ≠ 0 :=
  (Finset.sum_pos (fun i _ => Real.exp_pos _) ⟨0, Finset.mem_univ _⟩).ne'

/-- The reference's softmax of a real row is the real weight. -/
theorem soft_coe (S : Fin 1536 → ℝ) (m : ℝ) (h : top (fun x => (S x : EReal)) = (m : EReal)) (x : Fin 1536) :
    soft (fun x => (S x : EReal)) x = ((wt S m x : ℝ) : EReal) := by
  unfold soft wt
  rw [h, bits_bot, max_eq_right bot_le]
  simp only [exp_sub_coe]
  rw [coe_sum, Ideal.div_coe (den_ne S m), ← EReal.coe_mul]

/-- The kernel's softmax part of real rows is the real weighted sum over the joined row. -/
theorem part_coe (s : Fin 1024 → ℝ) (sc : Fin 512 → ℝ) (v : Fin 1024 → ℝ) (cv : Fin 512 → ℝ) (m : ℝ)
    (h : top (fun x => ((cat sc s x : ℝ) : EReal)) = (m : EReal)) :
    part (fun x => (s x : EReal)) (fun x => (sc x : EReal)) (fun x => (v x : EReal)) (fun x => (cv x : EReal))
      = ((∑ x, wt (cat sc s) m x * cat cv v x : ℝ) : EReal) := by
  have hd : (∑ x, Real.exp (s x - m)) + ∑ x, Real.exp (sc x - m) = ∑ y, Real.exp (cat sc s y - m) := by
    rw [sum_split, add_comm]; simp only [cat_lo, cat_hi]
  have hn : (∑ x, Real.exp (s x - m) * v x) + ∑ x, Real.exp (sc x - m) * cv x
      = ∑ y, Real.exp (cat sc s y - m) * cat cv v y := by
    rw [sum_split, add_comm]; simp only [cat_lo, cat_hi]
  unfold part
  rw [top_cat, cat_coe, h]
  simp only [exp_sub_coe]
  rw [coe_dot, coe_dot, coe_sum, coe_sum, ← EReal.coe_add, ← EReal.coe_add, hd, hn, Ideal.div_coe (den_ne _ m),
    ← EReal.coe_mul]
  congr 1
  unfold wt
  rw [Finset.sum_mul]
  exact Finset.sum_congr rfl fun x _ => by ring

/-- The kernel's difference of two softmax parts is the reference's sum over the joined row. -/
theorem diff_eq (s s' : Fin 1024 → ℝ) (sc sc' : Fin 512 → ℝ) (v : Fin 1024 → ℝ) (cv : Fin 512 → ℝ) (lam : ℝ) :
    part (fun x => (s x : EReal)) (fun x => (sc x : EReal)) (fun x => (v x : EReal)) (fun x => (cv x : EReal))
      - (lam : EReal)
        * part (fun x => (s' x : EReal)) (fun x => (sc' x : EReal)) (fun x => (v x : EReal)) (fun x => (cv x : EReal))
      = ∑ x, (soft (cat (fun j => (sc j : EReal)) (fun k => (s k : EReal))) x
          - (lam : EReal) * soft (cat (fun j => (sc' j : EReal)) (fun k => (s' k : EReal))) x)
        * cat (fun j => (cv j : EReal)) (fun k => (v k : EReal)) x := by
  obtain ⟨m, hm⟩ := top_real (cat sc s)
  obtain ⟨m', hm'⟩ := top_real (cat sc' s')
  rw [part_coe s sc v cv m hm, part_coe s' sc' v cv m' hm']
  simp only [cat_coe, soft_coe _ _ hm, soft_coe _ _ hm', ← EReal.coe_mul, ← EReal.coe_sub]
  rw [coe_sum]
  congr 1
  rw [Finset.mul_sum, ← Finset.sum_sub_distrib]
  exact Finset.sum_congr rfl fun x _ => by ring

/-- The lanes of the first map: the selection keeps lanes 0 to 63. -/
theorem sel0 (q k : Fin 128 → EReal) (z : EReal) (hz : z = 0) :
    ∑ x : Fin 128, Scalar.select (IntOp.andi (IntOp.cmpi CmpIPredicate.sge (BitVec.ofNat 32 x.1) 0#32)
        (IntOp.cmpi CmpIPredicate.slt (BitVec.ofNat 32 x.1) 64#32)) (q x) z * k x
      = ∑ d : Fin 64, q ⟨d.1, by omega⟩ * k ⟨d.1, by omega⟩ := by
  have hl : ∀ d : Fin 64, IntOp.andi (IntOp.cmpi CmpIPredicate.sge (BitVec.ofNat 32 d.1) 0#32)
        (IntOp.cmpi CmpIPredicate.slt (BitVec.ofNat 32 d.1) 64#32) = 1#1 := by decide +kernel
  have hr : ∀ d : Fin 64, IntOp.andi (IntOp.cmpi CmpIPredicate.sge (BitVec.ofNat 32 (64 + d.1)) 0#32)
        (IntOp.cmpi CmpIPredicate.slt (BitVec.ofNat 32 (64 + d.1)) 64#32) = 0#1 := by decide +kernel
  rw [hz]
  refine (Fin.sum_univ_add (a := 64) (b := 64) _).trans ?_
  simp only [Fin.val_castAdd, Fin.val_natAdd, hl, hr]
  simp [Scalar.select]
  rfl

/-- The lanes of the second map: the selection keeps lanes 64 to 127. -/
theorem sel1 (q k : Fin 128 → EReal) (z : EReal) (hz : z = 0) :
    ∑ x : Fin 128, Scalar.select (IntOp.andi (IntOp.cmpi CmpIPredicate.sge (BitVec.ofNat 32 x.1) 64#32)
        (IntOp.cmpi CmpIPredicate.slt (BitVec.ofNat 32 x.1) 128#32)) (q x) z * k x
      = ∑ d : Fin 64, q ⟨64 + d.1, by omega⟩ * k ⟨64 + d.1, by omega⟩ := by
  have hl : ∀ d : Fin 64, IntOp.andi (IntOp.cmpi CmpIPredicate.sge (BitVec.ofNat 32 d.1) 64#32)
        (IntOp.cmpi CmpIPredicate.slt (BitVec.ofNat 32 d.1) 128#32) = 0#1 := by decide +kernel
  have hr : ∀ d : Fin 64, IntOp.andi (IntOp.cmpi CmpIPredicate.sge (BitVec.ofNat 32 (64 + d.1)) 64#32)
        (IntOp.cmpi CmpIPredicate.slt (BitVec.ofNat 32 (64 + d.1)) 128#32) = 1#1 := by decide +kernel
  rw [hz]
  refine (Fin.sum_univ_add (a := 64) (b := 64) _).trans ?_
  simp only [Fin.val_castAdd, Fin.val_natAdd, hl, hr]
  simp [Scalar.select]
  rfl

/-- One row's head output after the group norm, from the unnormed row and the gain at the lane. -/
def nrm (o : Fin 128 → EReal) (g : EReal) (l : Fin 128) : EReal :=
  o l * Ideal.rsqrt (Ideal.div (∑ x, o x * o x) (Ideal.ofBits .f32 1124073472#32) + Ideal.ofBits .f32 897988541#32) * g
    * Ideal.ofBits .f32 1061997773#32

/-- The score of a key over the first 64 lanes of a head. -/
def dot0 (q k : Fin 128 → EReal) : EReal := ∑ d : Fin 64, q ⟨d.1, by omega⟩ * k ⟨d.1, by omega⟩

/-- The score of a key over the last 64 lanes of a head. -/
def dot1 (q k : Fin 128 → EReal) : EReal := ∑ d : Fin 64, q ⟨64 + d.1, by omega⟩ * k ⟨64 + d.1, by omega⟩

/-- The weight of the second map. -/
def lamb (a b c d : Fin 64 → EReal) : EReal :=
  Ideal.exp (∑ x, a x * b x) - Ideal.exp (∑ x, c x * d x) + Ideal.ofBits FTy.f32 1045220557#32

/-- One entry of the kernel's output, from the query row, the call's keys and values, the cached ones, the weight and the gain. -/
def head (q : Fin 128 → EReal) (K V : Fin 1024 → Fin 128 → EReal) (CK CV : Fin 512 → Fin 128 → EReal) (lam g : EReal) (l : Fin 128) : EReal :=
  nrm (fun x => part (fun k => dot0 q (K k)) (fun j => dot0 q (CK j)) (fun k => V k x) (fun j => CV j x)
    - lam * part (fun k => dot1 q (K k)) (fun j => dot1 q (CK j)) (fun k => V k x) (fun j => CV j x)) g l

/-- One entry of the reference's output, from the same rows. -/
def rhead (q : Fin 128 → EReal) (K V : Fin 1024 → Fin 128 → EReal) (CK CV : Fin 512 → Fin 128 → EReal) (lam g : EReal) (l : Fin 128) : EReal :=
  nrm (fun x => ∑ y, (soft (cat (fun j => dot0 q (CK j)) (fun k => dot0 q (K k))) y
      - lam * soft (cat (fun j => dot1 q (CK j)) (fun k => dot1 q (K k))) y) * cat (fun j => CV j x) (fun k => V k x) y) g l

/-- An extended real that is a real number. -/
def Fin' (x : EReal) : Prop := ∃ r : ℝ, x = (r : EReal)

/-- The weight of the second map is a real number when its vectors are. -/
theorem lamb_fin (a b c d : Fin 64 → EReal) (ha : ∀ i, Fin' (a i)) (hb : ∀ i, Fin' (b i)) (hc : ∀ i, Fin' (c i)) (hd : ∀ i, Fin' (d i)) :
    Fin' (lamb a b c d) := by
  choose a' ha using ha
  choose b' hb using hb
  choose c' hc using hc
  choose d' hd using hd
  obtain ⟨z, hz⟩ := bits_lam
  refine ⟨Real.exp (∑ x, a' x * b' x) - Real.exp (∑ x, c' x * d' x) + z, ?_⟩
  unfold lamb
  simp only [ha, hb, hc, hd, hz, coe_dot, Ideal.exp_coe, EReal.coe_add, EReal.coe_sub]

/-- On real inputs the kernel's entry is the reference's. -/
theorem head_eq (q : Fin 128 → EReal) (K V : Fin 1024 → Fin 128 → EReal) (CK CV : Fin 512 → Fin 128 → EReal) (lam g : EReal) (l : Fin 128)
    (hq : ∀ d, Fin' (q d)) (hK : ∀ k d, Fin' (K k d)) (hV : ∀ k d, Fin' (V k d)) (hCK : ∀ k d, Fin' (CK k d)) (hCV : ∀ k d, Fin' (CV k d))
    (hlam : Fin' lam) : head q K V CK CV lam g l = rhead q K V CK CV lam g l := by
  choose q' hq using hq
  choose K' hK using hK
  choose V' hV using hV
  choose CK' hCK using hCK
  choose CV' hCV using hCV
  obtain ⟨lam', rfl⟩ := hlam
  unfold head rhead
  congr 1
  funext x
  simp only [dot0, dot1, hq, hK, hV, hCK, hCV, coe_dot]
  exact diff_eq _ _ _ _ _ _ _

end Cert.Own.Attn

end
-- ==== Proof.AttnKer.lean ====
module

public import proofs.«01_k».proof.Proof.Gen.KernelIdeal.Frame
public import proofs.«01_k».proof.Proof.AttnMath
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Attn

open Idealize.ShloMosaic Idealize.ShloMosaic.TcCoe Idealize.SL.Sem
open Idealize.ShloMosaic.Pipeline (Dat)
open Cert.KernelIdeal Cert.KernelIdeal.Gen

/-- The first map's part, over the selected lanes of the query block. -/
theorem first_at (v18 : FVec Ideal S256x128 .bf16) (v20 v22 : FVec Ideal S1024x128 .bf16) (v25 v28 : FVec Ideal S512x128 .bf16)
    (v29 : IVec S256x128 32) (v30 : FVec Ideal S256x128 .bf16) (h29 : ∀ r x, v29 (ix2 r x) = BitVec.ofNat 32 x.val)
    (h30 : ∀ r x, v30 (ix2 r x) = 0) (r : Fin 256) (l : Fin 128) :
    k0_pay9 (F := Ideal) v18 v20 v22 v25 v28 v29 v30 0#32 (ix2 r l)
      = part (fun k => dot0 (fun d => v18 (ix2 r d)) (fun d => v20 (ix2 k d))) (fun j => dot0 (fun d => v18 (ix2 r d)) (fun d => v25 (ix2 j d)))
          (fun k => v22 (ix2 k l)) (fun j => v28 (ix2 j l)) := by
  pointwise [k0_pay9]
  simp only [h29, h30]
  have hs : ∀ k : Fin 128 → EReal, _ := fun k => sel0 (fun d => v18 (ix2 r d)) k 0 rfl
  simp only [fun y : Fin 1024 => hs (fun d => v20 (ix2 y d)), fun y : Fin 512 => hs (fun d => v25 (ix2 y d))]
  rfl

/-- The second map's scores against the call's keys. -/
theorem own_at (v18 : FVec Ideal S256x128 .bf16) (v20 : FVec Ideal S1024x128 .bf16) (v29 : IVec S256x128 32) (v30 : FVec Ideal S256x128 .bf16)
    (h29 : ∀ r x, v29 (ix2 r x) = BitVec.ofNat 32 x.val) (h30 : ∀ r x, v30 (ix2 r x) = 0) (r : Fin 256) (k : Fin 1024) :
    k0_pay11 (F := Ideal) v18 v20 v29 v30 (ix2 r k) = dot1 (fun d => v18 (ix2 r d)) (fun d => v20 (ix2 k d)) := by
  pointwise [k0_pay11, k0_pay10]
  simp only [h29, h30]
  exact sel1 (fun d => v18 (ix2 r d)) (fun d => v20 (ix2 k d)) 0 rfl

/-- The second map's scores against the cached keys. -/
theorem old_at (v18 : FVec Ideal S256x128 .bf16) (v25 : FVec Ideal S512x128 .bf16) (v29 : IVec S256x128 32) (v30 : FVec Ideal S256x128 .bf16)
    (h29 : ∀ r x, v29 (ix2 r x) = BitVec.ofNat 32 x.val) (h30 : ∀ r x, v30 (ix2 r x) = 0) (r : Fin 256) (j : Fin 512) :
    k0_pay12 (F := Ideal) v18 v25 v29 v30 (ix2 r j) = dot1 (fun d => v18 (ix2 r d)) (fun d => v25 (ix2 j d)) := by
  pointwise [k0_pay12, k0_pay10]
  simp only [h29, h30]
  exact sel1 (fun d => v18 (ix2 r d)) (fun d => v25 (ix2 j d)) 0 rfl

/-- The second map's maximum, from its scores. -/
theorem max_at (v18 : FVec Ideal S256x128 .bf16) (v20 : FVec Ideal S1024x128 .bf16) (v25 : FVec Ideal S512x128 .bf16)
    (v29 : IVec S256x128 32) (v30 : FVec Ideal S256x128 .bf16) (r : Fin 256) :
    k0_pay13 (F := Ideal) v18 v20 v25 v29 v30 (ix2 r 0)
      = max (top fun x => k0_pay11 (F := Ideal) v18 v20 v29 v30 (ix2 r x)) (top fun x => k0_pay12 (F := Ideal) v18 v25 v29 v30 (ix2 r x)) := by
  pointwise [k0_pay13, top]

/-- The weight of the second map. -/
theorem lamk_at (v0 : FVec Ideal S4x64 .f32) :
    k0_pay2 (F := Ideal) v0 (ix2 0 0)
      = lamb (fun x => v0 (ix2 0 x)) (fun x => v0 (ix2 1 x)) (fun x => v0 (ix2 2 x)) (fun x => v0 (ix2 3 x)) := by
  pointwise [k0_pay2, lamb]

/-- The norm of the difference of the two maps' parts. -/
theorem last_at (v16 : FVec Ideal S1x1 .f32) (v22 : FVec Ideal S1024x128 .bf16) (v28 : FVec Ideal S512x128 .bf16) (v61 : FVec Ideal S256x128 .f32)
    (v68 : FVec Ideal S256x1024 .f32) (v71 : FVec Ideal S256x512 .f32) (v74 : FVec Ideal S256x1 .f32) (v96 : FVec Ideal S1x128 .f32)
    (r : Fin 256) (l : Fin 128) (h74 : v74 (ix2 r 0) = max (top fun x => v68 (ix2 r x)) (top fun x => v71 (ix2 r x))) :
    k0_pay1 (F := Ideal) v16 v22 v28 v61 v68 v71 v74 (broadcastTo S256x1024 v74 broadcasts_S256x1_S256x1024) v96 (ix3 0 r l)
      = nrm (fun x => v61 (ix2 r x) - v16 (ix2 0 0) * part (fun k => v68 (ix2 r k)) (fun j => v71 (ix2 r j))
          (fun k => v22 (ix2 k x)) (fun j => v28 (ix2 j x))) (v96 (ix2 0 l)) l := by
  pointwise [k0_pay1]
  rw [h74]
  rfl

/-- The lane numbers the body selects by. -/
theorem iota_at (r : Fin 256) (x : Fin 128) : iota .tc S256x128 32 [1] iota_S256x128_d1_w32 (ix2 r x) = BitVec.ofNat 32 x.val := by
  pointwise

/-- The zeros the selection puts in. -/
theorem zero_at (r : Fin 256) (x : Fin 128) : k0_pay8 (F := Ideal) (ix2 r x) = 0 := by
  pointwise [k0_pay8]

/-- The block the body writes, at an index, as the row function of the blocks it reads. -/
theorem pay_at (x0 : FVec Ideal S1x256x128 .bf16) (x1 x2 : FVec Ideal S1x1024x128 .bf16) (x3 x4 : FVec Ideal S1x1x1x512x128 .f32)
    (x5 : FVec Ideal S4x64 .f32) (x6 : FVec Ideal S1x128 .f32) (r : Fin 256) (l : Fin 128) :
    k0_pay1 (F := Ideal) (k0_pay2 x5) (k0_pay5 x2) (k0_pay7 x4)
        (k0_pay9 (k0_pay3 x0) (k0_pay4 x1) (k0_pay5 x2) (k0_pay6 x3) (k0_pay7 x4) (iota .tc S256x128 32 [1] iota_S256x128_d1_w32) k0_pay8 0#32)
        (k0_pay11 (k0_pay3 x0) (k0_pay4 x1) (iota .tc S256x128 32 [1] iota_S256x128_d1_w32) k0_pay8)
        (k0_pay12 (k0_pay3 x0) (k0_pay6 x3) (iota .tc S256x128 32 [1] iota_S256x128_d1_w32) k0_pay8)
        (k0_pay13 (k0_pay3 x0) (k0_pay4 x1) (k0_pay6 x3) (iota .tc S256x128 32 [1] iota_S256x128_d1_w32) k0_pay8)
        (k0_pay14 (k0_pay3 x0) (k0_pay4 x1) (k0_pay6 x3) (iota .tc S256x128 32 [1] iota_S256x128_d1_w32) k0_pay8) x6 (ix3 0 r l)
      = head (fun d => x0 (ix3 0 r d)) (fun k d => x1 (ix3 0 k d)) (fun k d => x2 (ix3 0 k d)) (fun j d => x3 (ix5 0 0 0 j d))
          (fun j d => x4 (ix5 0 0 0 j d)) (lamb (fun x => x5 (ix2 0 x)) (fun x => x5 (ix2 1 x)) (fun x => x5 (ix2 2 x)) (fun x => x5 (ix2 3 x)))
          (x6 (ix2 0 l)) l := by
  have e0 : ∀ r d, k0_pay3 (F := Ideal) x0 (ix2 r d) = x0 (ix3 0 r d) := fun r d => by pointwise [k0_pay3]
  have e1 : ∀ r d, k0_pay4 (F := Ideal) x1 (ix2 r d) = x1 (ix3 0 r d) := fun r d => by pointwise [k0_pay4]
  have e2 : ∀ r d, k0_pay5 (F := Ideal) x2 (ix2 r d) = x2 (ix3 0 r d) := fun r d => by pointwise [k0_pay5]
  have e3 : ∀ r d, k0_pay6 (F := Ideal) x3 (ix2 r d) = x3 (ix5 0 0 0 r d) := fun r d => by pointwise [k0_pay6]
  have e4 : ∀ r d, k0_pay7 (F := Ideal) x4 (ix2 r d) = x4 (ix5 0 0 0 r d) := fun r d => by pointwise [k0_pay7]
  refine (last_at _ _ _ _ _ _ _ _ r l (max_at _ _ _ _ _ r)).trans ?_
  simp only [lamk_at, first_at _ _ _ _ _ _ _ iota_at zero_at, own_at _ _ _ _ iota_at zero_at, old_at _ _ _ _ iota_at zero_at, e0, e1, e2, e3, e4]
  rfl

end Cert.Own.Attn

end
-- ==== Proof.AttnRef.lean ====
module

public import proofs.«01_k».proof.Proof.Gen.ReferenceIdeal.Read
public import proofs.«01_k».proof.Proof.AttnMath
public import Idealize.ShloMosaic.Lib.Claim
public import Idealize.ShloMosaic.Lib.Pointwise
public import Idealize.ShloMosaic.PureOps.Ideal.Laws

@[expose] public section

set_option maxRecDepth 16384

noncomputable section

namespace Cert.Own.Attn

open Idealize.ShloMosaic Idealize.ShloMosaic.TcCoe Idealize.SL.Sem
open Cert.ReferenceIdeal Cert.ReferenceIdeal.Gen Cert.ReferenceIdeal.Read

variable (x0 x1 x2 : FVec Ideal S8192x512 .bf16) (x3 x4 : FVec Ideal S8x2x4x512x128 .f32) (x5 x6 x7 x8 : FVec Ideal S2x64 .f32) (x9 : FVec Ideal S2x128 .f32)

/-- The reference's score of a query against a key of the joined context, a sum over the 64 channels of a half head. -/
theorem s_at (c : Fin 2) (b : Fin 8) (h : Fin 4) (q : Fin 1024) (k : Fin 1536) : val_main_v32 (F := Ideal) x0 x1 x3 (ix5 c b h q k)
    = ∑ d : Fin 64, x0 (ix2 ⟨b.val * 1024 + q.val, by omega⟩ ⟨h.val * 128 + c.val * 64 + d.val, by omega⟩) *
        (if hk : k.val < 512 then x3 (ix5 b 0 h ⟨k.val, hk⟩ ⟨c.val * 64 + d.val, by omega⟩)
         else x1 (ix2 ⟨b.val * 1024 + (k.val - 512), by omega⟩ ⟨h.val * 128 + c.val * 64 + d.val, by omega⟩)) := by
  pointwise [val_main_v32, val_main_v2, val_main_v1, val_main_v0, val_main_v12, val_main_v11, val_main_v10, val_main_v9, val_main_v5, val_main_v4, val_main_v3]

/-- The reference's value rows: the cached ones, then the sequence's own. -/
theorem v_at (b : Fin 8) (h : Fin 4) (k : Fin 1536) (d : Fin 128) : val_main_v15 (F := Ideal) x2 x4 (ix4 b h k d)
    = if hk : k.val < 512 then x4 (ix5 b 0 h ⟨k.val, hk⟩ d) else x2 (ix2 ⟨b.val * 1024 + (k.val - 512), by omega⟩ ⟨h.val * 128 + d.val, by omega⟩) := by
  pointwise [val_main_v15, val_main_v14, val_main_v13, val_main_v8, val_main_v7, val_main_v6]

/-- The reference's weight of the second map. -/
theorem lam_at (i : S_.Idx) : val_main_v31 (F := Ideal) x5 x6 x7 x8 i
    = Ideal.exp (∑ x : Fin 64, x5 (ix2 0 x) * x6 (ix2 0 x)) - Ideal.exp (∑ x : Fin 64, x7 (ix2 0 x) * x8 (ix2 0 x)) + Ideal.ofBits FTy.f32 1045220557#32 := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_cst, val_main_cst_0, val_main_cst_1]

/-- The probability the reference gives a key, from scores and maximum. -/
theorem p_at (c : Fin 2) (b : Fin 8) (h : Fin 4) (q : Fin 1024) (k : Fin 1536) : val_main_v43 (F := Ideal) x0 x1 x3 (ix5 c b h q k)
    = Ideal.div (Ideal.exp (val_main_v32 (F := Ideal) x0 x1 x3 (ix5 c b h q k) - val_main_v35 (F := Ideal) x0 x1 x3 (ix4 c b h q)))
      (∑ x : Fin 1536, Ideal.exp (val_main_v32 (F := Ideal) x0 x1 x3 (ix5 c b h q x) - val_main_v35 (F := Ideal) x0 x1 x3 (ix4 c b h q))) := by
  unfold val_main_v43 val_main_v42 val_main_v41 val_main_v40 val_main_v39 val_main_v38 val_main_v37 val_main_v36 val_main_cst_4
  generalize val_main_v32 (F := Ideal) x0 x1 x3 = y
  generalize val_main_v35 (F := Ideal) x0 x1 x3 = z
  pointwise

/-- A maximum over the last axis of a score array, at an index. -/
theorem maxRow (y : FVec Ideal S2x8x4x1024x1536 .f32) (c : Fin 2) (b : Fin 8) (h : Fin 4) (q : Fin 1024) :
    Host.reduce FloatOps.maximumf y (constant (F := Ideal) S_ .f32 0xFF800000#32) reducesTo_S2x8x4x1024x1536_S2x8x4x1024_d4 h_S_ (ix4 c b h q)
      = Finset.fold max (Ideal.ofBits FTy.f32 4286578688#32) (fun x => y (ix5 c b h q x)) Finset.univ := by
  pointwise

/-- The lower bound the reference puts under its maximum. -/
theorem low_at (c : Fin 2) (b : Fin 8) (h : Fin 4) (q : Fin 1024) :
    val_main_v34 (F := Ideal) (ix4 c b h q) = Ideal.ofBits FTy.f32 4286578688#32 := by
  pointwise [val_main_v34, val_main_cst_3]

/-- The maximum the reference subtracts, from the scores. -/
theorem mx_at (c : Fin 2) (b : Fin 8) (h : Fin 4) (q : Fin 1024) : val_main_v35 (F := Ideal) x0 x1 x3 (ix4 c b h q)
    = max (Ideal.ofBits FTy.f32 4286578688#32) (Finset.fold max (Ideal.ofBits FTy.f32 4286578688#32)
        (fun x => val_main_v32 (F := Ideal) x0 x1 x3 (ix5 c b h q x)) Finset.univ) := by
  rw [val_main_v35_apply, low_at]
  unfold val_main_v33 val_main_cst_2
  generalize val_main_v32 (F := Ideal) x0 x1 x3 = y
  rw [maxRow]; rfl

/-- The difference of the two maps times the values, at an index. -/
theorem diffRow (y : FVec Ideal S2x8x4x1024x1536 .f32) (z : FVec Ideal S_ .f32) (w : FVec Ideal S8x4x1536x128 .f32)
    (b : Fin 8) (h : Fin 4) (q : Fin 1024) (l : Fin 128) :
    Host.dotGeneral dot_S8x4x1024x1536_S8x4x1536x128_S8x4x1024x128_3_2_2_3_01_01 none
      (subf (shapeCast S8x4x1024x1536 (extractStridedSlice S1x8x4x1024x1536 ![0, 0, 0, 0, 0] y slices_S2x8x4x1024x1536_S1x8x4x1024x1536_0_0_0_0_0) shapeCasts_S1x8x4x1024x1536_S8x4x1024x1536)
        (mulf (broadcastInDim S8x4x1024x1536 ![] bcast_S_S8x4x1024x1536 z)
          (shapeCast S8x4x1024x1536 (extractStridedSlice S1x8x4x1024x1536 ![1, 0, 0, 0, 0] y slices_S2x8x4x1024x1536_S1x8x4x1024x1536_1_0_0_0_0) shapeCasts_S1x8x4x1024x1536_S8x4x1024x1536))) w (ix4 b h q l)
      = ∑ x : Fin 1536, (y (ix5 0 b h q x) - z ix0 * y (ix5 1 b h q x)) * w (ix4 b h x l) := by
  pointwise

/-- The reference's attention before its norm. -/
theorem o_at (b : Fin 8) (h : Fin 4) (q : Fin 1024) (l : Fin 128) : val_main_v51 (F := Ideal) x0 x1 x2 x3 x4 x5 x6 x7 x8 (ix4 b h q l)
    = ∑ x : Fin 1536, (val_main_v43 (F := Ideal) x0 x1 x3 (ix5 0 b h q x) - val_main_v31 (F := Ideal) x5 x6 x7 x8 ix0 * val_main_v43 (F := Ideal) x0 x1 x3 (ix5 1 b h q x))
        * val_main_v15 (F := Ideal) x2 x4 (ix4 b h x l) := by
  unfold val_main_v51 val_main_v50 val_main_v49 val_main_v48 val_main_v47 val_main_v46 val_main_v45 val_main_v44
  exact diffRow _ _ _ b h q l

/-- The norm over a head's channels, its scale, and the heads laid side by side, at an index. -/
theorem normRow (y : FVec Ideal S8x4x1024x128 .f32) (b : Fin 8) (q : Fin 1024) (h : Fin 4) (l : Fin 128) :
    (truncf .bf16 (shapeCast _ (transpose S8x1024x4x128 [0, 2, 1, 3] (mulf (mulf (mulf y (broadcastInDim S8x4x1024x128 ![0, 1, 2, 3] bcast_S8x4x1024x1_S8x4x1024x128_0_1_2_3 (Host.rsqrt (addf (Host.divf (broadcastInDim S8x4x1024x1 ![0, 1, 2] bcast_S8x4x1024_S8x4x1024x1_0_1_2 (Host.reduceAdd (mulf y y) (constant (F := Ideal) S_ .f32 0x00000000#32) reducesTo_S8x4x1024x128_S8x4x1024_d3 h_S_)) (broadcastInDim S8x4x1024x1 ![] bcast_S_S8x4x1024x1 (constant (F := Ideal) S_ .f32 0x43000000#32))) (broadcastInDim S8x4x1024x1 ![] bcast_S_S8x4x1024x1 (constant (F := Ideal) S_ .f32 0x358637BD#32)))))) (broadcastInDim S8x4x1024x128 ![0, 1, 2, 3] bcast_S1x1x1x128_S8x4x1024x128_0_1_2_3 (broadcastInDim S1x1x1x128 ![3] bcast_S128_S1x1x1x128_3 (shapeCast _ (extractStridedSlice S1x128 ![0, 0] (x9) slices_S2x128_S1x128_0_0) shapeCasts_S1x128_S128)))) (broadcastInDim S8x4x1024x128 ![] bcast_S_S8x4x1024x128 (constant (F := Ideal) S_ .f32 0x3F4CCCCD#32))) transposes_S8x4x1024x128_S8x1024x4x128_0_2_1_3) shapeCasts_S8x1024x4x128_S8x1024x512) bitsLt_bf16_f32) (ix3 b q ⟨h.val * 128 + l.val, by omega⟩)
    = y (ix4 b h q l) * Ideal.rsqrt (Ideal.div (∑ x : Fin 128, y (ix4 b h q x) * y (ix4 b h q x)) (Ideal.ofBits FTy.f32 1124073472#32)
        + Ideal.ofBits FTy.f32 897988541#32) * x9 (ix2 0 l) * Ideal.ofBits FTy.f32 1061997773#32 := by
  have e1 : (⟨(h.val * 128 + l.val) / 128, by omega⟩ : Fin 4) = h := by ext; simp only; omega
  have e2 : (⟨(h.val * 128 + l.val) % 128, by omega⟩ : Fin 128) = l := by ext; simp only; omega
  pointwise

/-- The reference's result, from the attention before its norm. -/
theorem r_at (b : Fin 8) (q : Fin 1024) (h : Fin 4) (l : Fin 128) :
    val_main_v71 (F := Ideal) x0 x1 x2 x3 x4 x5 x6 x7 x8 x9 (ix3 b q ⟨h.val * 128 + l.val, by omega⟩)
    = val_main_v51 (F := Ideal) x0 x1 x2 x3 x4 x5 x6 x7 x8 (ix4 b h q l) *
          Ideal.rsqrt (Ideal.div (∑ x : Fin 128, val_main_v51 (F := Ideal) x0 x1 x2 x3 x4 x5 x6 x7 x8 (ix4 b h q x) * val_main_v51 (F := Ideal) x0 x1 x2 x3 x4 x5 x6 x7 x8 (ix4 b h q x))
                (Ideal.ofBits FTy.f32 1124073472#32) + Ideal.ofBits FTy.f32 897988541#32) *
        x9 (ix2 0 l) * Ideal.ofBits FTy.f32 1061997773#32 := by
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_cst_5 val_main_cst_6 val_main_cst_7 val_main_cst_8
  exact normRow x9 _ b q h l

/-- The reference's scores over the first half of a head, as one row. -/
theorem row0 (b : Fin 8) (h : Fin 4) (q : Fin 1024) (k : Fin 1536) : val_main_v32 (F := Ideal) x0 x1 x3 (ix5 0 b h q k)
    = cat (fun j : Fin 512 => dot0 (fun d => x0 (ix2 ⟨b.val * 1024 + q.val, by omega⟩ ⟨h.val * 128 + d.val, by omega⟩)) (fun d => x3 (ix5 b 0 h j d)))
        (fun j : Fin 1024 => dot0 (fun d => x0 (ix2 ⟨b.val * 1024 + q.val, by omega⟩ ⟨h.val * 128 + d.val, by omega⟩))
          (fun d => x1 (ix2 ⟨b.val * 1024 + j.val, by omega⟩ ⟨h.val * 128 + d.val, by omega⟩))) k := by
  rw [s_at]; unfold cat dot0
  split <;> rfl

/-- The reference's scores over the second half of a head, as one row. -/
theorem row1 (b : Fin 8) (h : Fin 4) (q : Fin 1024) (k : Fin 1536) : val_main_v32 (F := Ideal) x0 x1 x3 (ix5 1 b h q k)
    = cat (fun j : Fin 512 => dot1 (fun d => x0 (ix2 ⟨b.val * 1024 + q.val, by omega⟩ ⟨h.val * 128 + d.val, by omega⟩)) (fun d => x3 (ix5 b 0 h j d)))
        (fun j : Fin 1024 => dot1 (fun d => x0 (ix2 ⟨b.val * 1024 + q.val, by omega⟩ ⟨h.val * 128 + d.val, by omega⟩))
          (fun d => x1 (ix2 ⟨b.val * 1024 + j.val, by omega⟩ ⟨h.val * 128 + d.val, by omega⟩))) k := by
  have e : ∀ d : Fin 64, (⟨h.val * 128 + (1 : Fin 2).val * 64 + d.val, by simp; omega⟩ : Fin 512) = ⟨h.val * 128 + (64 + d.val), by omega⟩ :=
    fun d => by ext; simp; omega
  have e' : ∀ d : Fin 64, (⟨(1 : Fin 2).val * 64 + d.val, by simp; omega⟩ : Fin 128) = ⟨64 + d.val, by omega⟩ := fun d => by ext; simp
  rw [s_at]; unfold cat dot1
  simp only [e, e']
  split <;> rfl

/-- The reference's softmax, at an index. -/
theorem soft_at (c : Fin 2) (b : Fin 8) (h : Fin 4) (q : Fin 1024) (k : Fin 1536) : val_main_v43 (F := Ideal) x0 x1 x3 (ix5 c b h q k)
    = soft (fun k => val_main_v32 (F := Ideal) x0 x1 x3 (ix5 c b h q k)) k := by
  rw [p_at, mx_at]; rfl

/-- The reference's result at an index, as the row function of its arguments' rows. -/
theorem REF_at (b : Fin 8) (q : Fin 1024) (h : Fin 4) (l : Fin 128) :
    val_main_v71 (F := Ideal) x0 x1 x2 x3 x4 x5 x6 x7 x8 x9 (ix3 b q ⟨h.val * 128 + l.val, by omega⟩)
      = rhead (fun d => x0 (ix2 ⟨b.val * 1024 + q.val, by omega⟩ ⟨h.val * 128 + d.val, by omega⟩))
          (fun k d => x1 (ix2 ⟨b.val * 1024 + k.val, by omega⟩ ⟨h.val * 128 + d.val, by omega⟩))
          (fun k d => x2 (ix2 ⟨b.val * 1024 + k.val, by omega⟩ ⟨h.val * 128 + d.val, by omega⟩))
          (fun j d => x3 (ix5 b 0 h j d)) (fun j d => x4 (ix5 b 0 h j d))
          (lamb (fun x => x5 (ix2 0 x)) (fun x => x6 (ix2 0 x)) (fun x => x7 (ix2 0 x)) (fun x => x8 (ix2 0 x))) (x9 (ix2 0 l)) l := by
  have e0 : (fun k => val_main_v32 (F := Ideal) x0 x1 x3 (ix5 0 b h q k)) = _ := funext fun k => row0 x0 x1 x3 b h q k
  have e1 : (fun k => val_main_v32 (F := Ideal) x0 x1 x3 (ix5 1 b h q k)) = _ := funext fun k => row1 x0 x1 x3 b h q k
  rw [r_at]
  simp only [o_at, soft_at, e0, e1, lam_at, v_at]
  rfl

end Cert.Own.Attn

end
-- ==== Proof.AttnPre.lean ====
module

public import proofs.«01_k».proof.Proof.Gen.Pre_finite_inputs
public import proofs.«01_k».proof.Proof.AttnMath
public import Idealize.ShloMosaic.Lib.ReduceAll
public import Idealize.ShloMosaic.Lib.Affine
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Attn

open Idealize.ShloMosaic Idealize.ShloMosaic.TcCoe Idealize.SL.Sem
open Cert.Pre_finite_inputs Cert.Pre_finite_inputs.Gen

/-- An extended real whose absolute value is below the pattern of infinity is a real number. -/
theorem fin_of (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- What the precondition says: the nine arrays it names hold real numbers. -/
theorem pre_fin (x0 x1 x2 : FVec Ideal S8192x512 .bf16) (x3 x4 : FVec Ideal S8x2x4x512x128 .f32) (x5 x6 x7 x8 : FVec Ideal S2x64 .f32)
    (x9 : FVec Ideal S2x128 .f32) (h : fn (F := Ideal) x0 x1 x2 x3 x4 x5 x6 x7 x8 x9 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i))
      ∧ (∀ i, Fin' (x6 i)) ∧ (∀ i, Fin' (x7 i)) ∧ (∀ i, Fin' (x8 i)) := by
  have h1 := congrFun h ix0
  dsimp only [fn, fn_part1, fn_part2] at h1
  obtain ⟨h1, h8⟩ := IntOp.andi_eq_one.1 h1
  obtain ⟨h1, h7⟩ := IntOp.andi_eq_one.1 h1
  obtain ⟨h1, h6⟩ := IntOp.andi_eq_one.1 h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  obtain ⟨h0, h1⟩ := IntOp.andi_eq_one.1 h1
  haveI : Subsingleton S_.Idx := ⟨fun a b => by funext d; exact d.elim0⟩
  exact ⟨fun i => fin_of _ (Host.reduce_andi_all _ _ _ _ _ h0 i), fun i => fin_of _ (Host.reduce_andi_all _ _ _ _ _ h1 i),
    fun i => fin_of _ (Host.reduce_andi_all _ _ _ _ _ h2 i), fun i => fin_of _ (Host.reduce_andi_all _ _ _ _ _ h3 i),
    fun i => fin_of _ (Host.reduce_andi_all _ _ _ _ _ h4 i), fun i => fin_of _ (Host.reduce_andi_all _ _ _ _ _ h5 i),
    fun i => fin_of _ (Host.reduce_andi_all _ _ _ _ _ h6 i), fun i => fin_of _ (Host.reduce_andi_all _ _ _ _ _ h7 i),
    fun i => fin_of _ (Host.reduce_andi_all _ _ _ _ _ h8 i)⟩

end Cert.Own.Attn

end
-- ==== Proof.AttnValue.lean ====
module

public import proofs.«01_k».proof.Proof.AttnIn
public import proofs.«01_k».proof.Proof.AttnKer
public import proofs.«01_k».proof.Proof.AttnRef
public import proofs.«01_k».proof.Proof.AttnPre
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Attn

open Idealize.ShloMosaic Idealize.ShloMosaic.TcCoe Idealize.SL.Sem
open Idealize.ShloMosaic.Pipeline (Dat)
open Cert.KernelIdeal Cert.KernelIdeal.Gen

section Point

variable (x0 x1 x2 : FVec Ideal S8192x512 .bf16) (x3 x4 : FVec Ideal S8x2x4x512x128 .f32) (x5 x6 x7 x8 : FVec Ideal S2x64 .f32)
  (x9 : FVec Ideal S2x128 .f32)

/-- The gain's row as the region reads it. -/
theorem gain_at (l : Fin 128) : shapeCast S1x128 (shapeCast S128 (extractStridedSlice S1x128 ![0, 0] x9 slices_S2x128_S1x128_0_0)
    shapeCasts_S1x128_S128) shapeCasts_S128_S1x128 (ix2 0 l) = x9 (ix2 0 l) := by
  pointwise

/-- A row of queries, keys or values as the region reads it. -/
theorem split_at (x : FVec Ideal S8192x512 .bf16) (b : Fin 8) (q : Fin 1024) (d : Fin 512) :
    shapeCast S8x1024x512 x shapeCasts_S8192x512_S8x1024x512 (ix3 b q d) = x (ix2 ⟨b.val * 1024 + q.val, by omega⟩ d) := by
  pointwise

/-- The block a grid point writes, at an index, is the reference's array where the block lies. -/
theorem point_at (f0 : ∀ i, Fin' (x0 i)) (f1 : ∀ i, Fin' (x1 i)) (f2 : ∀ i, Fin' (x2 i)) (f3 : ∀ i, Fin' (x3 i)) (f4 : ∀ i, Fin' (x4 i))
    (f5 : ∀ i, Fin' (x5 i)) (f6 : ∀ i, Fin' (x6 i)) (f7 : ∀ i, Fin' (x7 i)) (f8 : ∀ i, Fin' (x8 i))
    (a0 a1 a2 : FVec Ideal S8x1024x512 .bf16) (a3 a4 : FVec Ideal S8x2x4x512x128 .f32) (a5 : FVec Ideal S4x64 .f32) (a6 : FVec Ideal S1x128 .f32)
    (e0 : a0 = shapeCast S8x1024x512 x0 shapeCasts_S8192x512_S8x1024x512) (e1 : a1 = shapeCast S8x1024x512 x1 shapeCasts_S8192x512_S8x1024x512)
    (e2 : a2 = shapeCast S8x1024x512 x2 shapeCasts_S8192x512_S8x1024x512) (e3 : a3 = x3) (e4 : a4 = x4) (e5 : a5 = lams x5 x6 x7 x8)
    (e6 : a6 = shapeCast S1x128 (shapeCast S128 (extractStridedSlice S1x128 ![0, 0] x9 slices_S2x128_S1x128_0_0) shapeCasts_S1x128_S128) shapeCasts_S128_S1x128)
    (t : Fin cfg0.N) (ht : t.val < 128) (r : Fin 256) (l : Fin 128) :
    head (fun d => ((cfg0.win 0).blk t).view.read (Elt Ideal) a0 (ix3 0 r d)) (fun k d => ((cfg0.win 1).blk t).view.read (Elt Ideal) a1 (ix3 0 k d))
        (fun k d => ((cfg0.win 2).blk t).view.read (Elt Ideal) a2 (ix3 0 k d)) (fun j d => ((cfg0.win 3).blk t).view.read (Elt Ideal) a3 (ix5 0 0 0 j d))
        (fun j d => ((cfg0.win 4).blk t).view.read (Elt Ideal) a4 (ix5 0 0 0 j d))
        (lamb (fun x => ((cfg0.win 5).blk t).view.read (Elt Ideal) a5 (ix2 0 x)) (fun x => ((cfg0.win 5).blk t).view.read (Elt Ideal) a5 (ix2 1 x))
          (fun x => ((cfg0.win 5).blk t).view.read (Elt Ideal) a5 (ix2 2 x)) (fun x => ((cfg0.win 5).blk t).view.read (Elt Ideal) a5 (ix2 3 x)))
        (((cfg0.win 6).blk t).view.read (Elt Ideal) a6 (ix2 0 l)) l
      = Cert.ReferenceIdeal.Read.val_main_v71 (F := Ideal) x0 x1 x2 x3 x4 x5 x6 x7 x8 x9
          (ix3 (⟨t.val / 16, by omega⟩ : Fin 8) (⟨t.val % 4 * 256 + r.val, by omega⟩ : Fin 1024) (⟨t.val / 4 % 4 * 128 + l.val, by omega⟩ : Fin 512)) := by
  have e3 := e3.symm
  have e4 := e4.symm
  subst e0 e1 e2 e3 e4 e5 e6
  refine Eq.trans ?_ (REF_at x0 x1 x2 x3 x4 x5 x6 x7 x8 x9
    (⟨t.val / 16, by omega⟩ : Fin 8) (⟨t.val % 4 * 256 + r.val, by omega⟩ : Fin 1024) (⟨t.val / 4 % 4, by omega⟩ : Fin 4) l).symm
  refine Eq.trans ?_ (head_eq _ _ _ _ _ _ _ _ (fun _ => f0 _) (fun _ _ => f1 _) (fun _ _ => f2 _) (fun _ _ => f3 _) (fun _ _ => f4 _)
    (lamb_fin _ _ _ _ (fun _ => f5 _) (fun _ => f6 _) (fun _ => f7 _) (fun _ => f8 _)))
  have hl := lams_at x5 x6 x7 x8
  congr 1
  · funext d; rw [q_read _ t ht, split_at]
  · funext k d; rw [k_read _ t ht, split_at]
  · funext k d; rw [v_read _ t ht, split_at]
  · funext j d; rw [ck_read _ t ht]
  · funext j d; rw [cv_read _ t ht]
  · congr 1 <;> funext x
    · rw [lam_read _ t ht]; exact (hl x).1
    · rw [lam_read _ t ht]; exact (hl x).2.1
    · rw [lam_read _ t ht]; exact (hl x).2.2.1
    · rw [lam_read _ t ht]; exact (hl x).2.2.2
  · rw [g_read _ t ht, gain_at]

/-- Where an element of the output block lies in the result. -/
theorem out_emb (t : Fin cfg0.N) (ht : t.val < 128) (r : Fin 256) (l : Fin 128) : ((cfg0.win 7).blk t).view.emb (ix3 0 r l)
      = ix3 (⟨t.val / 16, by omega⟩ : Fin 8) (⟨t.val % 4 * 256 + r.val, by omega⟩ : Fin 1024) (⟨t.val / 4 % 4 * 128 + l.val, by omega⟩ : Fin 512) := by
  blk_ext [idx t]

end Point

/-- The query block is loaded whole. -/
theorem ld1 (b : Vec Ideal S1x256x128 .bf16) : View.ld b r0_1 = b :=
  View.ld_unit_zero (by funext a; fin_cases a <;> rfl) _ _

/-- The key and value blocks are loaded whole. -/
theorem ld2 (b : Vec Ideal S1x1024x128 .bf16) : View.ld b r0_2 = b :=
  View.ld_unit_zero (by funext a; fin_cases a <;> rfl) _ _

/-- The cached blocks are loaded whole. -/
theorem ld3 (b : Vec Ideal S1x1x1x512x128 .f32) : View.ld b r0_3 = b :=
  View.ld_unit_zero (by funext a; fin_cases a <;> rfl) _ _

variable (m : (ℓ : Loc nD τ sig) → Buf (Elt Ideal) ℓ)

/-- What the precondition says of the arguments on a device. -/
abbrev Fins (c : Dev nD) : Prop :=
  (∀ i, Fin' (m ((c : Thread nD τ).loc main_arg0) i)) ∧ (∀ i, Fin' (m ((c : Thread nD τ).loc main_arg1) i))
    ∧ (∀ i, Fin' (m ((c : Thread nD τ).loc main_arg2) i)) ∧ (∀ i, Fin' (m ((c : Thread nD τ).loc main_arg3) i))
    ∧ (∀ i, Fin' (m ((c : Thread nD τ).loc main_arg4) i)) ∧ (∀ i, Fin' (m ((c : Thread nD τ).loc main_arg5) i))
    ∧ (∀ i, Fin' (m ((c : Thread nD τ).loc main_arg6) i)) ∧ (∀ i, Fin' (m ((c : Thread nD τ).loc main_arg7) i))
    ∧ (∀ i, Fin' (m ((c : Thread nD τ).loc main_arg8) i))

/-- The array after the run is the reference's. -/
theorem final (c : Dev nD) (hf : Fins m c) : (dats m 0 c).arrAt 7 (cfgs 0).N
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨f0, f1, f2, f3, f4, f5, f6, f7, f8⟩ := hf
  refine (dats m 0 c).arrAt_eq_of_covers 7 _ (by decide +kernel) fun t _ y => ?_
  have ht : t.val < 128 := t.isLt
  have h := fun r l => point_at _ _ _ _ _ _ _ _ _ (m ((c : Thread nD τ).loc main_arg9)) f0 f1 f2 f3 f4 f5 f6 f7 f8 _ _ _ _ _ _ _ (entry0 m c) (entry1 m c) (entry2 m c) (V_main_arg3 m c) (V_main_arg4 m c)
    (entry3 m c) (entry4 m c) t ht r l
  blk_simp
  rw [after0_7]; frame_out
  idx_vars y
  have h0 : y0 = 0 := Subsingleton.elim _ _
  subst h0
  rw [out_emb t ht]
  refine (pay_at _ _ _ _ _ _ _ y1 y2).trans ?_
  rw [ld1 (iblk m c 0 t), ld2 (iblk m c 1 t), ld2 (iblk m c 2 t), ld3 (iblk m c 3 t), ld3 (iblk m c 4 t)]
  exact h y1 y2

end Cert.Own.Attn
end
-- ==== Proof.FfnValue.lean ====
module

public import proofs.«01_k».proof.Proof.Gen.FfnIdeal.Frame
public import proofs.«01_k».proof.Proof.Gen.FfnRefIdeal.Run
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

@[expose] public section

set_option maxRecDepth 16384

noncomputable section

namespace Cert.Own.Ffn

open Idealize.ShloMosaic Idealize.ShloMosaic.TcCoe Idealize.SL.Sem
open Idealize.ShloMosaic.Pipeline (Dat)

/-- The gated hidden value of one token: silu of one product times another. -/
def hid (h : Fin 1024 → EReal) (wg wu : Fin 1024 → Fin 256 → EReal) (f : Fin 256) : EReal :=
  (∑ k, h k * wg k f) * Ideal.logistic (∑ k, h k * wg k f) * ∑ k, h k * wu k f

/-- One token's shared expert output plus what the routed experts gave it. -/
def mix (h rt : Fin 1024 → EReal) (wg wu : Fin 1024 → Fin 256 → EReal) (wd : Fin 256 → Fin 1024 → EReal) (l : Fin 1024) : EReal :=
  (∑ f, hid h wg wu f * wd f l) + rt l

/-- One token's result: its residual plus the gate times the normalized mixture. -/
def res (h rt : Fin 1024 → EReal) (wg wu : Fin 1024 → Fin 256 → EReal) (wd : Fin 256 → Fin 1024 → EReal)
    (x gate g : EReal) (l : Fin 1024) : EReal :=
  x + gate * (mix h rt wg wu wd l
    * Ideal.rsqrt (Ideal.div (∑ k, mix h rt wg wu wd k * mix h rt wg wu wd k) (Ideal.ofBits FTy.f32 1149239296#32) + Ideal.ofBits FTy.f32 897988541#32)
    * g)

section Ref
open Cert.FfnRefIdeal Cert.FfnRefIdeal.Gen

/-- The array the reference returns, as one term of its arguments. -/
def REF (X0 : FVec Ideal S8192x1024 .bf16) (X1 X2 : FVec Ideal S8192x1024 .f32) (X3 : FVec Ideal S16x6x1024 .f32)
    (X4 : FVec Ideal S1024 .f32) (X5 X6 : FVec Ideal S1024x256 .f32) (X7 : FVec Ideal S256x1024 .f32) :
    FVec Ideal S8192x1024 .f32 :=
  shapeCast _ (addf (shapeCast _ X2 shapeCasts_S8192x1024_S8x1024x1024) (mulf (broadcastInDim S8x1024x1024 ![0, 1, 2] bcast_S8x1x1024_S8x1024x1024_0_1_2 (broadcastInDim S8x1x1024 ![0, 2] bcast_S8x1024_S8x1x1024_0_2 (shapeCast _ (extractStridedSlice S8x1x1024 ![1, 5, 0] X3 slices_S16x6x1024_S8x1x1024_1_5_0) shapeCasts_S8x1x1024_S8x1024))) (mulf (mulf (shapeCast _ (addf (Host.dotGeneral dot_S8192x256_S256x1024_S8192x1024_1_0_0_1_n_n none (mulf (mulf (Host.dotGeneral dot_S8192x1024_S1024x256_S8192x256_1_0_0_1_n_n none (extf .f32 X0 bitsLt_bf16_f32) X5) (Host.divf (broadcastInDim S8192x256 ![] bcast_S_S8192x256 (constant S_ .f32 0x3F800000#32)) (addf (broadcastInDim S8192x256 ![] bcast_S_S8192x256 (constant S_ .f32 0x3F800000#32)) (Host.exp (Host.negf (Host.dotGeneral dot_S8192x1024_S1024x256_S8192x256_1_0_0_1_n_n none (extf .f32 X0 bitsLt_bf16_f32) X5)))))) (Host.dotGeneral dot_S8192x1024_S1024x256_S8192x256_1_0_0_1_n_n none (extf .f32 X0 bitsLt_bf16_f32) X6)) X7) X1) shapeCasts_S8192x1024_S8x1024x1024) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (shapeCast _ (addf (Host.dotGeneral dot_S8192x256_S256x1024_S8192x1024_1_0_0_1_n_n none (mulf (mulf (Host.dotGeneral dot_S8192x1024_S1024x256_S8192x256_1_0_0_1_n_n none (extf .f32 X0 bitsLt_bf16_f32) X5) (Host.divf (broadcastInDim S8192x256 ![] bcast_S_S8192x256 (constant S_ .f32 0x3F800000#32)) (addf (broadcastInDim S8192x256 ![] bcast_S_S8192x256 (constant S_ .f32 0x3F800000#32)) (Host.exp (Host.negf (Host.dotGeneral dot_S8192x1024_S1024x256_S8192x256_1_0_0_1_n_n none (extf .f32 X0 bitsLt_bf16_f32) X5)))))) (Host.dotGeneral dot_S8192x1024_S1024x256_S8192x256_1_0_0_1_n_n none (extf .f32 X0 bitsLt_bf16_f32) X6)) X7) X1) shapeCasts_S8192x1024_S8x1024x1024) (shapeCast _ (addf (Host.dotGeneral dot_S8192x256_S256x1024_S8192x1024_1_0_0_1_n_n none (mulf (mulf (Host.dotGeneral dot_S8192x1024_S1024x256_S8192x256_1_0_0_1_n_n none (extf .f32 X0 bitsLt_bf16_f32) X5) (Host.divf (broadcastInDim S8192x256 ![] bcast_S_S8192x256 (constant S_ .f32 0x3F800000#32)) (addf (broadcastInDim S8192x256 ![] bcast_S_S8192x256 (constant S_ .f32 0x3F800000#32)) (Host.exp (Host.negf (Host.dotGeneral dot_S8192x1024_S1024x256_S8192x256_1_0_0_1_n_n none (extf .f32 X0 bitsLt_bf16_f32) X5)))))) (Host.dotGeneral dot_S8192x1024_S1024x256_S8192x256_1_0_0_1_n_n none (extf .f32 X0 bitsLt_bf16_f32) X6)) X7) X1) shapeCasts_S8192x1024_S8x1024x1024)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 X4))))) shapeCasts_S8x1024x1024_S8192x1024

/-- The reference's array at a token and a channel. -/
theorem REF_at (X0 : FVec Ideal S8192x1024 .bf16) (X1 X2 : FVec Ideal S8192x1024 .f32) (X3 : FVec Ideal S16x6x1024 .f32)
    (X4 : FVec Ideal S1024 .f32) (X5 X6 : FVec Ideal S1024x256 .f32) (X7 : FVec Ideal S256x1024 .f32) (r : Fin 8192) (l : Fin 1024) :
    REF X0 X1 X2 X3 X4 X5 X6 X7 (ix2 r l) = res (fun k => X0 (ix2 r k)) (fun k => X1 (ix2 r k)) (fun k f => X5 (ix2 k f)) (fun k f => X6 (ix2 k f))
      (fun f k => X7 (ix2 f k)) (X2 (ix2 r l)) (X3 (ix3 ⟨1 + r.val / 1024, by omega⟩ 5 l)) (X4 (ix1 l)) l := by
  pointwise [REF, res, mix, hid]
  rfl

end Ref

section Ker
open Cert.FfnIdeal Cert.FfnIdeal.Gen
variable (m : (ℓ : Loc nD τ sig) → Buf (Elt Ideal) ℓ)

/-- Which block of each array a grid point works on. -/
theorem idx : ∀ t : Fin cfg0.N, win0_0.index t = ![t.val, 0] ∧ win0_1.index t = ![t.val, 0] ∧ win0_2.index t = ![t.val, 0]
    ∧ win0_3.index t = ![1 + t.val / 4, 0, 0] ∧ win0_4.index t = ![0, 0] ∧ win0_5.index t = ![0, 0]
    ∧ win0_6.index t = ![0, 0] ∧ win0_7.index t = ![0, 0] ∧ win0_8.index t = ![t.val, 0] :=
  (by decide +kernel : ∀ t : Fin grid0.N, _)

/-- What the body computes from its blocks, at a row and a channel. -/
theorem pay_at (v0 : FVec Ideal S256x1024 .bf16) (v1 v6 : FVec Ideal S1024x256 .bf16) (v11 : FVec Ideal S256x1024 .bf16)
    (v14 v18 : FVec Ideal S256x1024 .f32) (v16 : FVec Ideal S1x6x1024 .f32) (v20 : FVec Ideal S1x1024 .f32) (r : Fin 256) (l : Fin 1024) :
    k0_pay1 (F := Ideal) v18 (k0_pay2 (F := Ideal) v0 v1 v6 v11 v14 v16 v20) (ix2 r l)
      = res (fun k => v0 (ix2 r k)) (fun k => v14 (ix2 r k)) (fun k f => v1 (ix2 k f)) (fun k f => v6 (ix2 k f))
          (fun f k => v11 (ix2 f k)) (v18 (ix2 r l)) (v16 (ix3 0 5 l)) (v20 (ix2 0 l)) l := by
  pointwise [k0_pay1, k0_pay2, res, mix, hid]

/-- The contents of the three weight arrays and of the scale at the region's entry. -/
theorem entries (c : Dev nD) : V m c main_v0 = m ((c : Thread nD τ).loc main_arg5) ∧ V m c main_v1 = m ((c : Thread nD τ).loc main_arg6)
    ∧ V m c main_v2 = m ((c : Thread nD τ).loc main_arg7)
    ∧ V m c main_v3 = shapeCast S1x1024 (m ((c : Thread nD τ).loc main_arg4)) shapeCasts_S1024_S1x1024 := by
  refine ⟨?_, ?_, ?_, ?_⟩ <;> (entry_read; try rfl)

/-- The block a grid point writes is the reference's array, read where the block lies. -/
theorem point (c : Dev nD) (t : Fin cfg0.N) (y : S256x1024.Idx) :
    k0_pay1 (F := Ideal) (iblk m c 2 t) (k0_pay2 (F := Ideal) (iblk m c 0 t) (iblk m c 5 t) (iblk m c 6 t) (iblk m c 7 t) (iblk m c 1 t) (iblk m c 3 t) (iblk m c 4 t)) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb y) := by
  idx_vars y
  have ht : t.val < 32 := t.isLt
  obtain ⟨e0, e1, e2, e3⟩ := entries m c
  have he : ((cfg0.win 8).blk t).view.emb (ix2 y0 y1) = ix2 (⟨t.val * 256 + y0.val, by omega⟩ : Fin 8192) y1 := by
    blk_ext [idx t]
  rw [pay_at, he]
  refine Eq.trans ?_ (REF_at _ _ _ _ _ _ _ _ _ _).symm
  congr 1
  · funext k; blk_ext [iblk, V, idx t]
  · funext k; blk_ext [iblk, V, idx t]
  · funext k f; blk_ext [iblk, e0, idx t]
  · funext k f; blk_ext [iblk, e1, idx t]
  · funext k f; blk_ext [iblk, e2, idx t]
  · blk_ext [iblk, V, idx t]
  · blk_ext [iblk, V, idx t]
  · blk_simp [iblk, e3, idx t]; pointwise; blk_ext [idx t]

/-- The array after the run is the reference's. -/
theorem final (c : Dev nD) : (dats m 0 c).arrAt 8 (cfgs 0).N
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]; frame_out
  exact point m c t y

end Ker

end Cert.Own.Ffn

end
-- ==== Proof.ExpBitsPre.lean ====
module

public import proofs.«01_k».proof.Proof.ExpBitsKit
public import Idealize.ShloMosaic.Lib.Pointwise

/-! # The table of experts is in range: every block they name is inside its array -/

@[expose] public section

set_option maxRecDepth 16384

noncomputable section

namespace Cert.Experts.Run

open Cert.Experts Cert.Experts.Gen
open Idealize.ShloMosaic Idealize.ShloMosaic.TcCoe

variable {F : FTy → Type} [FloatOps F]

variable (m : (ℓ : Loc nD τ sig) → Buf (Elt F) ℓ)

/-- The table's word at point `i`, as the windows' index maps read it. -/
theorem at_word (i : grid0.Coords) : (tbl m).at 0 (Rect.unit (s := S576) (k0_off1 i) S1.size (k0_off1_inb i)) numel1_S1
    = m (((0 : Dev nD) : Thread nD τ).loc main_arg1) (ix1 (i 0)) := by
  refine congrArg (m (((0 : Dev nD) : Thread nD τ).loc main_arg1)) (funext fun a => Fin.ext ?_)
  have hi : (i 0).val < 576 := (i 0).isLt
  fin_cases a
  show (BitVec.ofNat 32 (i 0).val).toNat + 0 = (i 0).val
  rw [BitVec.toNat_ofNat, Nat.add_zero]
  exact Nat.mod_eq_of_lt (by omega)

/-- Every block that the tables name is inside its array. -/
theorem ok_of_words (h : ∀ y, ∃ e : Fin 64, m (((0 : Dev nD) : Thread nD τ).loc main_arg1) y = BitVec.ofNat 32 e.val) : Ok m := by
  have key : ∀ i : grid0.Coords, ∃ e : Fin 64, (tbl m).at 0 (Rect.unit (s := S576) (k0_off1 i) S1.size (k0_off1_inb i)) numel1_S1
      = BitVec.ofNat 32 e.val := fun i => by rw [at_word]; exact h _
  have hn : ∀ e : Fin 64, (BitVec.ofNat 32 e.val).toNat = e.val := by decide
  refine ⟨fun i => ⟨fun a => ?_, Or.inl rfl⟩, fun i => ⟨fun a => ?_, Or.inl rfl⟩, fun i => ⟨fun a => ?_, Or.inl rfl⟩⟩ <;>
  · obtain ⟨e, he⟩ := key i
    have hl := e.isLt
    fin_cases a
    · show (((tbl m).at 0 (Rect.unit (s := S576) (k0_off1 i) S1.size (k0_off1_inb i)) numel1_S1).toNat + 1) * 1 ≤ 64
      rw [he, hn]; omega
    · show (0 + 1) * _ ≤ _; decide
    · show (0 + 1) * _ ≤ _; decide

end Cert.Experts.Run

end
-- ==== Proof.ExpKit.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

/-! # The experts kernel: its launch, its tables, its windows' blocks -/

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S576 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The staging and scratch memrefs -/

/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x256 .bf16 := Memref.whole cc0_scratch0
abbrev scM0_1 : Memref sig .tc .vmem S1024x256 .bf16 := Memref.whole cc0_scratch1
abbrev scM0_2 : Memref sig .tc .vmem S256x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.ExpertsIdeal.Run

end
-- ==== Proof.ExpBody.lean ====
module

public import proofs.«01_k».proof.Proof.ExpKit
public import Idealize.ShloMosaic.Lib.VecWindow

/-! # The experts kernel: one run of its body -/

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the body reads of the blocks' experts for its own block, -/
abbrev wNow (c : Dev nD) (i : grid0.Coords) (xt0 : TbBuf0 (F := F) c tbM0_0) : BitVec 32 :=
  View.readAt (Elt F) tbM0_0.view (Rect.unit (s := S576) (k0_off1 i) S1.size (k0_off1_inb i)).toLoadRect xt0 (Shape.Idx.first (numel1_S1.symm ▸ Nat.one_pos))
/-- for the block before it, -/
abbrev wPrev (c : Dev nD) (i : grid0.Coords) (xt0 : TbBuf0 (F := F) c tbM0_0) : BitVec 32 :=
  View.readAt (Elt F) tbM0_0.view (Rect.unit (s := S576) (k0_off2 i) S1.size (k0_off2_inb i)).toLoadRect xt0 (Shape.Idx.first (numel1_S1.symm ▸ Nat.one_pos))
/-- and of the number of blocks used. -/
abbrev wUsed (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))

/-- The block is the first, or takes another expert's weights than the block before it. -/
abbrev fresh (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- What the body leaves in the output's buffer, the scratch buffers holding `w0`, `w1`, `w2`. -/
def outB (i : grid0.Coords) (n : BitVec 32) (x0 : Vec F S256x1024 .bf16) (w0 w1 : Vec F S1024x256 .bf16) (w2 : Vec F S256x1024 .bf16) : Vec F S256x1024 .bf16 :=
  if k0_cond2 i n = 1#1 then k0_pay4 x0 w0 w1 w2 else k0_pay5

/-- The zeros are stored exactly when the product is not. -/
theorem cond3_iff (i : grid0.Coords) (n : BitVec 32) : k0_cond3 i n = 1#1 ↔ ¬ k0_cond2 i n = 1#1 := by
  unfold k0_cond3 k0_cond2
  have e : n.sle (BitVec.ofNat 32 (i 0).val) = !(BitVec.ofNat 32 (i 0).val).slt n := by
    simp only [BitVec.sle_eq_not_slt]
  dsimp only [Scalar.cmpi, Scalar.extui, IntOp.cmpi]
  rw [e]
  cases (BitVec.ofNat 32 (i 0).val).slt n <;> decide

/-- A scratch buffer stored whole where the block is fresh reads back as what was stored, and as before elsewhere. -/
theorem read_pick {s : Shape} {e : EltTy} {arg : Memref sig .tc .vmem s e} (harg : arg.IsWhole) (x : s.Idx → Elt F e) {off : Fin s.rank → ℕ}
    (inb : ∀ a, off a + s.size a ≤ s.size a) (w : s.Idx → Elt F e) (P : Prop) [Decidable P] :
    arg.view.read (Elt F) (if hc : P then arg.view.writes (Elt F) (harg.unread x) [⟨Rect.unit off s.size inb, w⟩] else harg.unread x)
      = if P then w else x := by
  by_cases h : P
  · rw [dif_pos h, if_pos h, View.read_writes_full]
  · rw [dif_neg h, if_neg h, harg.read_unread]

/-- A buffer stored whole under one condition, and whole under the contrary one, reads back as whichever was stored. -/
theorem read_out {s : Shape} {e : EltTy} (arg : Memref sig .tc .vmem s e) (f : arg.view.ty.Contents (Elt F)) {off off' : Fin s.rank → ℕ}
    (inb : ∀ a, off a + s.size a ≤ s.size a) (inb' : ∀ a, off' a + s.size a ≤ s.size a) (w z : s.Idx → Elt F e) (Q P : Prop) [Decidable Q] [Decidable P] (hQ : Q ↔ ¬ P) :
    arg.view.read (Elt F) (if hc : Q then arg.view.writes (Elt F) (if hc : P then arg.view.writes (Elt F) f [⟨Rect.unit off s.size inb, w⟩] else f) [⟨Rect.unit off' s.size inb', z⟩]
        else if hc : P then arg.view.writes (Elt F) f [⟨Rect.unit off s.size inb, w⟩] else f)
      = if P then w else z := by
  by_cases h : P
  · rw [dif_neg (fun h' => hQ.1 h' h), dif_pos h, if_pos h, View.read_writes_full]
  · rw [dif_pos (hQ.2 h), if_neg h, View.read_writes_full]

set_option maxHeartbeats 1000000 in
/-- ONE RUN OF THE BODY: the inputs' buffers as they were, the scratch the weights' casts where the block is fresh and as it was
    elsewhere, the output the block's product where the block is used and zeros elsewhere. -/
theorem body_run (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S256x1024 .bf16) (x1 : Vec F S1x1024x256 .f32) (x2 : Vec F S1x1024x256 .f32) (x3 : Vec F S1x256x1024 .f32)
    (s0 : Vec F S1024x256 .bf16) (s1 : Vec F S1024x256 .bf16) (s2 : Vec F S256x1024 .bf16)
    (xt0 : TbBuf0 (F := F) c tbM0_0) (xt1 : TbBuf0 (F := F) c tbM0_1)
    (w0 : Vec F S1024x256 .bf16) (w1 : Vec F S1024x256 .bf16) (w2 : Vec F S256x1024 .bf16)
    (hw0 : (if fresh i (wNow c i xt0) (wPrev c i xt0) then k0_pay1 x1 else s0) = w0)
    (hw1 : (if fresh i (wNow c i xt0) (wPrev c i xt0) then k0_pay2 x2 else s1) = w1)
    (hw2 : (if fresh i (wNow c i xt0) (wPrev c i xt0) then k0_pay3 x3 else s2) = w2)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outB i (wUsed c xt1) x0 w0 w1 w2) ∗ owns (c : Thread nD τ) arg8 fullShare w0 ∗ owns (c : Thread nD τ) arg9 fullShare w1 ∗ owns (c : Thread nD τ) arg10 fullShare w2 ∗ tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1; obtain rfl := harg10.eq_unread hs2
    have e0 := read_pick harg8 s0 inb_S1024x256_S1024x256_0_0 (k0_pay1 x1) (fresh i (wNow c i xt0) (wPrev c i xt0))
    have e1 := read_pick harg9 s1 inb_S1024x256_S1024x256_0_0 (k0_pay2 x2) (fresh i (wNow c i xt0) (wPrev c i xt0))
    have e2 := read_pick harg10 s2 inb_S256x1024_S256x1024_0_0 (k0_pay3 x3) (fresh i (wNow c i xt0) (wPrev c i xt0))
    have r1 : View.readAt (Elt F) arg4.view (Rect.unit ![0, 0, 0] S1x1024x256.size inb_S1x1024x256_S1x1024x256_0_0_0).toLoadRect (harg4.unread x1) = x1 := (View.readAt_full _ _ _).trans hf1
    have r2 : View.readAt (Elt F) arg5.view (Rect.unit ![0, 0, 0] S1x1024x256.size inb_S1x1024x256_S1x1024x256_0_0_0).toLoadRect (harg5.unread x2) = x2 := (View.readAt_full _ _ _).trans hf2
    have r3 : View.readAt (Elt F) arg6.view (Rect.unit ![0, 0, 0] S1x256x1024.size inb_S1x256x1024_S1x256x1024_0_0_0).toLoadRect (harg6.unread x3) = x3 := (View.readAt_full _ _ _).trans hf3
    have r0 : View.readAt (Elt F) arg3.view (Rect.unit ![0, 0] S256x1024.size inb_S256x1024_S256x1024_0_0).toLoadRect (harg3.unread x0) = x0 := (View.readAt_full _ _ _).trans hf0
    rw [hw0] at e0; rw [hw1] at e1; rw [hw2] at e2
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      refine (read_out arg7 f4 inb_S256x1024_S256x1024_0_0 inb_S256x1024_S256x1024_0_0 _ _ (k0_cond3 i (wUsed c xt1) = 1#1) (k0_cond2 i (wUsed c xt1) = 1#1) (cond3_iff _ _)).trans ?_
      unfold outB
      congr 2
      · refine (View.readAt_full _ _ _).trans ?_
        exact e0
      · refine (View.readAt_full _ _ _).trans ?_
        exact e1
      · refine (View.readAt_full _ _ _).trans ?_
        exact e2
    isplitl [HS0]
    · iexists _; isplitr
      swap; · iexact HS0
      ipureintro
      exact e0
    isplitl [HS1]
    · iexists _; isplitr
      swap; · iexact HS1
      ipureintro
      exact e1
    isplitl [HS2]
    · iexists _; isplitr
      swap; · iexact HS2
      ipureintro
      exact e2
    isplitl [HT0]; · iexact HT0
    iexact HT1

end Cert.ExpertsIdeal.Run

end
-- ==== Proof.ExpFrame.lean ====
module

public import proofs.«01_k».proof.Proof.ExpBody
public import Idealize.ShloMosaic.Lib.Claim

/-! # The experts kernel: its launch, point by point -/

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks' experts, point by point -/

/-- The point before `t`. -/
abbrev prev (hO : Ok m) (t : Fin (cfgM m hO).N) : Fin (cfgM m hO).N := ⟨t.val - 1, lt_of_le_of_lt (Nat.sub_le _ _) t.isLt⟩

/-- The first point's block is fresh. -/
theorem fresh_zero (a b : BitVec 32) : ∀ (t : Fin grid0.N), t.val = 0 → fresh (grid0.coords t) a b := by
  intro t ht
  have e : (BitVec.ofNat 32 ((grid0.coords t) 0).val) = 0#32 := by
    obtain rfl : t = ⟨0, by decide⟩ := Fin.ext ht
    decide +kernel
  unfold fresh
  rw [e]
  dsimp only [Scalar.cmpi, Scalar.extui, Scalar.ori, IntOp.cmpi]
  cases (a != b) <;> decide

/-- A block that is not fresh takes the expert of the block before it. -/
theorem eq_of_not_fresh {i : grid0.Coords} {a b : BitVec 32} (h : ¬ fresh i a b) : a = b := by
  by_contra hne
  apply h
  unfold fresh
  dsimp only [Scalar.cmpi, Scalar.extui, Scalar.ori, IntOp.cmpi]
  rw [show (a != b) = true from bne_iff_ne.2 hne]
  cases (BitVec.ofNat 32 (i 0).val == 0#32) <;> decide

/-! ## The pipeline's proof data -/

/-- What the output's buffer holds after the body at point `t`. -/
def outsAt (hO : Ok m) (c : Dev nD) (t : Fin (cfgM m hO).N) : Vec F S256x1024 .bf16 :=
  outB (grid0.coords t) (wUsed c (tbl m 1)) (iblk m hO c 0 t) (k0_pay1 (iblk m hO c 1 t)) (k0_pay2 (iblk m hO c 2 t)) (k0_pay3 (iblk m hO c 3 t))

/-- The scratch after the body at point `t`: the casts of the weights the block takes. -/
def scr (hO : Ok m) (c : Dev nD) (t : Fin (cfgM m hO).N) : sProp 𝕄 :=
  iprop(owns (c : Thread nD τ) scM0_0 fullShare (k0_pay1 (iblk m hO c 1 t)) ∗ owns (c : Thread nD τ) scM0_1 fullShare (k0_pay2 (iblk m hO c 2 t)) ∗ owns (c : Thread nD τ) scM0_2 fullShare (k0_pay3 (iblk m hO c 3 t)))

/-- The invariant before point `n`: before the first the scratch at anything, later at the casts of the weights of the
    block before; the generator register and the tables' halves beside it. -/
def PhiS (hO : Ok m) (c : Dev nD) : (n : ℕ) → n ≤ (cfgM m hO).N → sProp 𝕄
  | 0, _ => iprop(Pipeline.ΦA spec0 c ∗ Pipeline.ΦT pre0 (tbl m) c)
  | n + 1, h => iprop(iprop(scr m hO c ⟨n, h⟩ ∗ (∃ r, prngReg c r)) ∗ Pipeline.ΦT pre0 (tbl m) c)

/-- The proof data of the one pipeline on core `c`: the arrays as the region finds them (`V`); after the body at
    point `t` each input's buffer at its block and the outputs' at `outsAt`; the invariant `PhiS`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outsAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- An input window's block is a function of its block index. -/
theorem iblk_congr (hO : Ok m) (c : Dev nD) {t t' : Fin (cfgM m hO).N} (h : wNow c (grid0.coords t) (tbl m 0) = wNow c (grid0.coords t') (tbl m 0)) :
    iblk m hO c 1 t = iblk m hO c 1 t' ∧ iblk m hO c 2 t = iblk m hO c 2 t' ∧ iblk m hO c 3 t = iblk m hO c 3 t' := by
  refine ⟨?_, ?_, ?_⟩
  · exact (dats m hO 0 c).fetched_congr 1 (t := t) (t' := t') (funext fun a => by fin_cases a <;> first | exact congrArg BitVec.toNat h | rfl) rfl (iblk m hO c 1 t)
  · exact (dats m hO 0 c).fetched_congr 2 (t := t) (t' := t') (funext fun a => by fin_cases a <;> first | exact congrArg BitVec.toNat h | rfl) rfl (iblk m hO c 2 t)
  · exact (dats m hO 0 c).fetched_congr 3 (t := t) (t' := t') (funext fun a => by fin_cases a <;> first | exact congrArg BitVec.toNat h | rfl) rfl (iblk m hO c 3 t)

/-- The word before a point's is the point before's. -/
theorem wPrev_eq (hO : Ok m) (c : Dev nD) (t : Fin (cfgM m hO).N) (ht : t.val ≠ 0) (xt0 : TbBuf0 (F := F) c tbM0_0) :
    wPrev c (grid0.coords t) xt0 = wNow c (grid0.coords (prev m hO t)) xt0 := by
  have h : ∀ t : Fin grid0.N, t.val ≠ 0 → ∀ h, k0_off2 (grid0.coords t) 0 = k0_off1 (grid0.coords ⟨t.val - 1, h⟩) 0 := by decide +kernel
  have e : k0_off2 (grid0.coords t) = k0_off1 (grid0.coords (prev m hO t)) := funext fun a => by
    fin_cases a; exact h t ht (prev m hO t).isLt
  have key : ∀ (off off' : Fin 1 → ℕ) (i1 : ∀ a, off a + S1.size a ≤ S576.size a) (i2 : ∀ a, off' a + S1.size a ≤ S576.size a), off = off' →
      View.readAt (Elt F) tbM0_0.view (Rect.unit (s := S576) off S1.size i1).toLoadRect xt0 (Shape.Idx.first (numel1_S1.symm ▸ Nat.one_pos))
        = View.readAt (Elt F) tbM0_0.view (Rect.unit (s := S576) off' S1.size i2).toLoadRect xt0 (Shape.Idx.first (numel1_S1.symm ▸ Nat.one_pos)) := by
    intro off off' i1 i2 h; subst h; rfl
  exact key _ _ _ _ e

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = iprop(iprop(scr m hO c t ∗ (∃ r, prngReg c r)) ∗ Pipeline.ΦT pre0 (tbl m) c) from rfl]
  by_cases ht : t.val = 0
  · have hf := fresh_zero (wNow c (grid0.coords t) (tbl m 0)) (wPrev c (grid0.coords t) (tbl m 0)) t ht
    rw [show (dats m hO 0 c).Φ t.castSucc = iprop(Pipeline.ΦA spec0 c ∗ Pipeline.ΦT pre0 (tbl m) c) from by
      obtain ⟨n, hn⟩ := t; obtain rfl : n = 0 := ht; rfl, PhiT0_eq, PhiA0_eq]
    unfold outsAt scr
    iintro ⟨⟨⟨⟨⟨%s0, HS0⟩, ⟨%s1, HS1⟩, ⟨%s2, HS2⟩⟩, Hg⟩, ⟨HT0, HT1⟩⟩, Ho, ⟨%d0, H0⟩, ⟨%d1, H1⟩, ⟨%d2, H2⟩, ⟨%d3, H3⟩, ⟨%d4, H4⟩⟩
    iapply (body_run c (grid0.coords t) _ _ _ _ _ _ _ _ _ _ _ _ _ _ _ _ (iblk m hO c 0 t) (iblk m hO c 1 t) (iblk m hO c 2 t) (iblk m hO c 3 t) s0 s1 s2 (tbl m 0) (tbl m 1)
      (k0_pay1 (iblk m hO c 1 t)) (k0_pay2 (iblk m hO c 2 t)) (k0_pay3 (iblk m hO c 3 t)) (if_pos hf) (if_pos hf) (if_pos hf) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have hw : ¬ fresh (grid0.coords t) (wNow c (grid0.coords t) (tbl m 0)) (wPrev c (grid0.coords t) (tbl m 0)) →
        iblk m hO c 1 t = iblk m hO c 1 (prev m hO t) ∧ iblk m hO c 2 t = iblk m hO c 2 (prev m hO t) ∧ iblk m hO c 3 t = iblk m hO c 3 (prev m hO t) := fun h =>
      iblk_congr m hO c ((eq_of_not_fresh h).trans (wPrev_eq m hO c t ht (tbl m 0)))
    rw [show (dats m hO 0 c).Φ t.castSucc = iprop(iprop(scr m hO c (prev m hO t) ∗ (∃ r, prngReg c r)) ∗ Pipeline.ΦT pre0 (tbl m) c) from by
      obtain ⟨n, hn⟩ := t; obtain ⟨k, rfl⟩ : ∃ k, n = k + 1 := ⟨n - 1, by have : n ≠ 0 := ht; omega⟩; rfl, PhiT0_eq]
    unfold outsAt scr
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (body_run c (grid0.coords t) _ _ _ _ _ _ _ _ _ _ _ _ _ _ _ _ (iblk m hO c 0 t) (iblk m hO c 1 t) (iblk m hO c 2 t) (iblk m hO c 3 t) (k0_pay1 (iblk m hO c 1 (prev m hO t))) (k0_pay2 (iblk m hO c 2 (prev m hO t))) (k0_pay3 (iblk m hO c 3 (prev m hO t))) (tbl m 0) (tbl m 1)
      (k0_pay1 (iblk m hO c 1 t)) (k0_pay2 (iblk m hO c 2 t)) (k0_pay3 (iblk m hO c 3 t))
      (by by_cases h : fresh (grid0.coords t) (wNow c (grid0.coords t) (tbl m 0)) (wPrev c (grid0.coords t) (tbl m 0))
          · exact if_pos h
          · rw [if_neg h, (hw h).1])
      (by by_cases h : fresh (grid0.coords t) (wNow c (grid0.coords t) (tbl m 0)) (wPrev c (grid0.coords t) (tbl m 0))
          · exact if_pos h
          · rw [if_neg h, (hw h).2.1])
      (by by_cases h : fresh (grid0.coords t) (wNow c (grid0.coords t) (tbl m 0)) (wPrev c (grid0.coords t) (tbl m 0))
          · exact if_pos h
          · rw [if_neg h, (hw h).2.2]) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output's buffer is stored at every point: it is never idle. -/
theorem live4 (hO : Ok m) (i : grid0.Coords) : (cfgM m hO).idle 4 i = false := by
  have e := cond3_iff i ((tbl m).atD 1 ![0])
  show (!(k0_cond2 i ((tbl m).atD 1 ![0]) == 1#1) && !(k0_cond3 i ((tbl m).atD 1 ![0]) == 1#1)) = false
  by_cases h : k0_cond2 i ((tbl m).atD 1 ![0]) = 1#1
  · rw [h]; rfl
  · rw [e.2 h]; exact Bool.and_false _

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [live4]
  exact .rfl

/-! ## The run and the frame -/

theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  obtain ⟨n, hn⟩ := t
  obtain ⟨k, rfl⟩ : ∃ k, n = k + 1 := ⟨n - 1, by have : n ≠ 0 := ht; omega⟩
  rw [show (dats m hO 0 c).Φ ⟨k + 1, hn⟩ = iprop(iprop(scr m hO c ⟨k, Nat.lt_of_succ_lt_succ hn⟩ ∗ (∃ r, prngReg c r)) ∗ Pipeline.ΦT pre0 (tbl m) c) from rfl, PhiA0_eq]
  unfold scr
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 576 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Run

end
-- ==== Proof.ExpPre.lean ====
module

public import proofs.«01_k».proof.Proof.ExpKit
public import proofs.«01_k».proof.Proof.Gen.Pre_tables_in_range
public import Idealize.ShloMosaic.Lib.Pointwise
public import Idealize.ShloMosaic.Lib.StableHlo.Predicate

/-! # The table of experts is in range: what the precondition says of its words -/

@[expose] public section

set_option maxRecDepth 16384

noncomputable section

namespace Cert.ExpertsIdeal.Run

open Cert.ExpertsIdeal Cert.ExpertsIdeal.Gen
open Idealize.ShloMosaic Idealize.ShloMosaic.TcCoe

variable {F : FTy → Type} [FloatOps F]

/-- A word between 0 and 64, read signed, is one of the 64 numbers. -/
theorem word_of_range (w : BitVec 32) (h0 : (0#32).sle w = true) (h1 : w.slt 64#32 = true) : ∃ e : Fin 64, w = BitVec.ofNat 32 e.val := by
  have a : 0 ≤ w.toInt := by simpa [BitVec.sle] using h0
  have b : w.toInt < 64 := by
    have := h1
    rw [BitVec.slt_iff_toInt_lt] at this
    exact lt_of_lt_of_eq this (by decide)
  have c : w.toNat < 64 := by
    rw [BitVec.toInt_eq_toNat_cond] at a b
    split at a <;> omega
  refine ⟨⟨w.toNat, c⟩, ?_⟩
  rw [BitVec.ofNat_toNat, BitVec.setWidth_eq]

/-- Where the precondition's function is all ones, every word of the table is one of the 64 experts. -/
theorem words (x0 : FVec F Cert.Pre_tables_in_range.S147456x1024 .bf16) (x1 : IVec Cert.Pre_tables_in_range.S576 32)
    (x2 : IVec Cert.Pre_tables_in_range.S1 32) (x3 x4 : FVec F Cert.Pre_tables_in_range.S64x1024x256 .f32)
    (x5 : FVec F Cert.Pre_tables_in_range.S64x256x1024 .f32)
    (h : Cert.Pre_tables_in_range.fn (F := F) x0 x1 x2 x3 x4 x5 = fun _ => 1#1) (y : Cert.Pre_tables_in_range.S576.Idx) :
    ∃ e : Fin 64, x1 y = BitVec.ofNat 32 e.val := by
  have e := congrFun h y
  unfold Cert.Pre_tables_in_range.fn at e
  have e' : IntOp.cmpi .sge (x1 y) 0#32 &&& IntOp.cmpi .slt (x1 y) 64#32 = 1#1 := e
  obtain ⟨h0, h1⟩ := (by decide : ∀ a b : BitVec 1, a &&& b = 1#1 → a = 1#1 ∧ b = 1#1) _ _ e'
  have ob : ∀ p : Bool, BitVec.ofBool p = 1#1 → p = true := by decide
  exact word_of_range _ (ob _ h0) (ob _ h1)

variable (m : (ℓ : Loc nD τ sig) → Buf (Elt F) ℓ)

/-- The table's word at point `i`, as the windows' index maps read it. -/
theorem at_word (i : grid0.Coords) : (tbl m).at 0 (Rect.unit (s := S576) (k0_off1 i) S1.size (k0_off1_inb i)) numel1_S1
    = m (((0 : Dev nD) : Thread nD τ).loc main_arg1) (ix1 (i 0)) := by
  refine congrArg (m (((0 : Dev nD) : Thread nD τ).loc main_arg1)) (funext fun a => Fin.ext ?_)
  have hi : (i 0).val < 576 := (i 0).isLt
  fin_cases a
  show (BitVec.ofNat 32 (i 0).val).toNat + 0 = (i 0).val
  rw [BitVec.toNat_ofNat, Nat.add_zero]
  exact Nat.mod_eq_of_lt (by omega)

/-- Every block that the tables name is inside its array. -/
theorem ok_of_words (h : ∀ y, ∃ e : Fin 64, m (((0 : Dev nD) : Thread nD τ).loc main_arg1) y = BitVec.ofNat 32 e.val) : Ok m := by
  have key : ∀ i : grid0.Coords, ∃ e : Fin 64, (tbl m).at 0 (Rect.unit (s := S576) (k0_off1 i) S1.size (k0_off1_inb i)) numel1_S1
      = BitVec.ofNat 32 e.val := fun i => by rw [at_word]; exact h _
  have hn : ∀ e : Fin 64, (BitVec.ofNat 32 e.val).toNat = e.val := by decide
  refine ⟨fun i => ⟨fun a => ?_, Or.inl rfl⟩, fun i => ⟨fun a => ?_, Or.inl rfl⟩, fun i => ⟨fun a => ?_, Or.inl rfl⟩⟩ <;>
  · obtain ⟨e, he⟩ := key i
    have hl := e.isLt
    fin_cases a
    · show (((tbl m).at 0 (Rect.unit (s := S576) (k0_off1 i) S1.size (k0_off1_inb i)) numel1_S1).toNat + 1) * 1 ≤ 64
      rw [he, hn]; omega
    · show (0 + 1) * _ ≤ _; decide
    · show (0 + 1) * _ ≤ _; decide

end Cert.ExpertsIdeal.Run

end
-- ==== Proof.ExpRef.lean ====
module

public import proofs.«01_k».proof.Proof.FfnValue
public import proofs.«01_k».proof.Proof.Gen.ExpertsRefIdeal.Run
public import proofs.«01_k».proof.Proof.Gen.ExpertsRefIdeal.Read
public import Idealize.ShloMosaic.Lib.Pointwise
public import Idealize.ShloMosaic.Lib.ValueIdx
public import Idealize.ShloMosaic.PureOps.Ideal.Laws

/-! # The routed experts' reference, read at a row and a channel -/

@[expose] public section

set_option maxRecDepth 16384

noncomputable section

namespace Cert.Own.Exp

open Idealize.ShloMosaic Idealize.ShloMosaic.TcCoe Idealize.SL.Sem

/-- One row of an expert's output: the gated hidden values times the down projection. -/
def row (x : Fin 1024 → EReal) (wg wu : Fin 1024 → Fin 256 → EReal) (wd : Fin 256 → Fin 1024 → EReal) (l : Fin 1024) : EReal :=
  ∑ f, Cert.Own.Ffn.hid x wg wu f * wd f l

section Gather
variable {α : Type} {N A B n w : Nat}

/-- The dimension numbers of taking whole `[A, B]` blocks out of `[N, A, B]` by a list of `n` block numbers. -/
abbrev blkDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather at `(b, p, q)`, where list entry `b` is the number `e` of a block that there is: the block's entry `(p, q)`. -/
theorem gather_blk (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (p : Fin A) (q : Fin B) (e : Fin N)
    (he : (idx (ix2 b (0 : Fin 1))).toInt.toNat = e.val) :
    Host.gather (blkDims N A B n wf) x idx (ix3 b p q) = x (ix3 e p q) := by
  unfold Host.gather
  refine congrArg x (funext fun a => Fin.ext ?_)
  show (blkDims N A B n wf).start (ix3 b p q) idx a + (blkDims N A B n wf).batchCoord (ix3 b p q) a
    + (blkDims N A B n wf).offCoord (ix3 b p q) a = _
  rw [GatherDims.batchCoord_eq_zero _ _ _ List.not_mem_nil, Nat.add_zero]
  have hlt := e.isLt
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (blkDims N A B n wf).startIndexMap from List.mem_singleton.mpr rfl)]
    have hsi : (blkDims N A B n wf).siIdx (ix3 b p q) ⟨List.idxOf (0 : Fin 3) (blkDims N A B n wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi, he]
    show min e.val (N - 1) = e.val
    omega
  · unfold GatherDims.start GatherDims.offCoord
    rw [dif_neg (show ¬(1 : Fin 3) ∈ (blkDims N A B n wf).startIndexMap from (by decide : ¬(1 : Fin 3) ∈ ([0] : List (Fin 3)))),
      dif_pos ((GatherDims.mem_sKept _ _).mpr ⟨(by decide : ¬(1 : Fin 3) ∈ ([0] : List (Fin 3))), List.not_mem_nil⟩), Nat.zero_add]
    rfl
  · unfold GatherDims.start GatherDims.offCoord
    rw [dif_neg (show ¬(2 : Fin 3) ∈ (blkDims N A B n wf).startIndexMap from (by decide : ¬(2 : Fin 3) ∈ ([0] : List (Fin 3)))),
      dif_pos ((GatherDims.mem_sKept _ _).mpr ⟨(by decide : ¬(2 : Fin 3) ∈ ([0] : List (Fin 3))), List.not_mem_nil⟩), Nat.zero_add]
    rfl

end Gather

/-- A block number that is not negative is left as it is by the reading of negative ones. -/
theorem wrap_at : ∀ e : Fin 64, Scalar.select (IntOp.cmpi .slt (BitVec.ofNat 32 e.val) 0#32)
    (IntOp.addi (BitVec.ofNat 32 e.val) 64#32) (BitVec.ofNat 32 e.val) = BitVec.ofNat 32 e.val := by decide

theorem word_at : ∀ e : Fin 64, (BitVec.ofNat 32 e.val).toInt.toNat = e.val := by decide

section Ref
open Cert.ExpertsRefIdeal Cert.ExpertsRefIdeal.Gen Cert.ExpertsRefIdeal.Read

variable (x0 : FVec Ideal S147456x1024 .bf16) (x1 : IVec S576 32) (x2 : IVec S1 32) (x3 x4 : FVec Ideal S64x1024x256 .f32)
  (x5 : FVec Ideal S64x256x1024 .f32) (b : Fin 576) (e : Fin 64) (he : x1 (ix1 b) = BitVec.ofNat 32 e.val)

include he

theorem v7_at : val_main_v7 (F := Ideal) x1 (ix2 b (0 : Fin 1)) = BitVec.ofNat 32 e.val := by
  rw [val_main_v7_apply, show idx_main_v7 (ix2 b (0 : Fin 1)) = ix1 b from by funext a; fin_cases a; rfl, val_main_v6_apply,
    val_main_v3_apply, val_main_v5_apply, val_main_v2_apply, val_main_v4_apply, val_main_c_apply, val_main_c_0_apply, he]
  exact wrap_at e

theorem v15_at : val_main_v15 (F := Ideal) x1 (ix2 b (0 : Fin 1)) = BitVec.ofNat 32 e.val := by
  rw [val_main_v15_apply, show idx_main_v15 (ix2 b (0 : Fin 1)) = ix1 b from by funext a; fin_cases a; rfl, val_main_v14_apply,
    val_main_v11_apply, val_main_v13_apply, val_main_v10_apply, val_main_v12_apply, val_main_c_1_apply, val_main_c_2_apply, he]
  exact wrap_at e

theorem v25_at : val_main_v25 (F := Ideal) x1 (ix2 b (0 : Fin 1)) = BitVec.ofNat 32 e.val := by
  rw [val_main_v25_apply, show idx_main_v25 (ix2 b (0 : Fin 1)) = ix1 b from by funext a; fin_cases a; rfl, val_main_v24_apply,
    val_main_v21_apply, val_main_v23_apply, val_main_v20_apply, val_main_v22_apply, val_main_c_3_apply, val_main_c_4_apply, he]
  exact wrap_at e

theorem v8_at (p : Fin 1024) (q : Fin 256) : val_main_v8 (F := Ideal) x1 x3 (ix3 b p q) = x3 (ix3 e p q) := by
  unfold val_main_v8
  exact gather_blk gather_S64x1024x256_S576x1_S576x1024x256_12_0_n_n_0_1_11024256_wf x3 _ b p q e (by rw [v7_at x1 b e he]; exact word_at e)

theorem v16_at (p : Fin 1024) (q : Fin 256) : val_main_v16 (F := Ideal) x1 x4 (ix3 b p q) = x4 (ix3 e p q) := by
  unfold val_main_v16
  exact gather_blk gather_S64x1024x256_S576x1_S576x1024x256_12_0_n_n_0_1_11024256_wf x4 _ b p q e (by rw [v15_at x1 b e he]; exact word_at e)

theorem v26_at (p : Fin 256) (q : Fin 1024) : val_main_v26 (F := Ideal) x1 x5 (ix3 b p q) = x5 (ix3 e p q) := by
  unfold val_main_v26
  exact gather_blk gather_S64x256x1024_S576x1_S576x256x1024_12_0_n_n_0_1_12561024_wf x5 _ b p q e (by rw [v25_at x1 b e he]; exact word_at e)

omit he in
theorem v1_at (r : Fin 256) (k : Fin 1024) : val_main_v1 (F := Ideal) x0 (ix3 b r k) = x0 (ix2 ⟨b.val * 256 + r.val, by omega⟩ k) := by
  rw [val_main_v1_apply, val_main_v0_apply]
  refine congrArg x0 (funext fun a => Fin.ext ?_)
  match a with
  | ⟨0, _⟩ => show ((b.val * 256 + r.val) * 1024 + k.val) / 1024 = b.val * 256 + r.val; omega
  | ⟨1, _⟩ => show ((b.val * 256 + r.val) * 1024 + k.val) % 1024 = k.val; omega

theorem v9_at (r f : Fin 256) : val_main_v9 (F := Ideal) x0 x1 x3 (ix3 b r f)
    = ∑ k, x0 (ix2 ⟨b.val * 256 + r.val, by omega⟩ k) * x3 (ix3 e k f) := by
  rw [val_main_v9_apply]
  refine Finset.sum_congr rfl fun k _ => ?_
  rw [show lidx_main_v9 (ix3 b r f) k = ix3 b r k from by funext a; fin_cases a <;> rfl,
    show ridx_main_v9 (ix3 b r f) k = ix3 b k f from by funext a; fin_cases a <;> rfl, v1_at, v8_at x1 x3 b e he]

theorem v17_at (r f : Fin 256) : val_main_v17 (F := Ideal) x0 x1 x4 (ix3 b r f)
    = ∑ k, x0 (ix2 ⟨b.val * 256 + r.val, by omega⟩ k) * x4 (ix3 e k f) := by
  rw [val_main_v17_apply]
  refine Finset.sum_congr rfl fun k _ => ?_
  rw [show lidx_main_v17 (ix3 b r f) k = ix3 b r k from by funext a; fin_cases a <;> rfl,
    show ridx_main_v17 (ix3 b r f) k = ix3 b k f from by funext a; fin_cases a <;> rfl, v1_at, v16_at x1 x4 b e he]

/-- The gated hidden values. -/
theorem v19_at (r f : Fin 256) : val_main_v19 (F := Ideal) x0 x1 x3 x4 (ix3 b r f)
    = Cert.Own.Ffn.hid (fun k => x0 (ix2 ⟨b.val * 256 + r.val, by omega⟩ k)) (fun k f => x3 (ix3 e k f)) (fun k f => x4 (ix3 e k f)) f := by
  rw [val_main_v19_apply, val_main_v18_apply, val_main_call0_v5_apply, val_main_call0_v4_apply, val_main_call0_v3_apply,
    val_main_call0_v2_apply, val_main_call0_v1_apply, val_main_call0_v0_apply, val_main_call0_cst_apply, val_main_call0_cst_0_apply,
    v9_at x0 x1 x3 b e he, v17_at x0 x1 x4 b e he]
  unfold Cert.Own.Ffn.hid
  generalize (∑ k, x0 (ix2 (⟨b.val * 256 + r.val, by omega⟩ : Fin 147456) k) * x3 (ix3 e k f)) = g
  generalize (∑ k, x0 (ix2 (⟨b.val * 256 + r.val, by omega⟩ : Fin 147456) k) * x4 (ix3 e k f)) = u
  pointwise
  rfl

theorem v27_at (r : Fin 256) (l : Fin 1024) : val_main_v27 (F := Ideal) x0 x1 x3 x4 x5 (ix3 b r l)
    = row (fun k => x0 (ix2 ⟨b.val * 256 + r.val, by omega⟩ k)) (fun k f => x3 (ix3 e k f)) (fun k f => x4 (ix3 e k f))
        (fun f l => x5 (ix3 e f l)) l := by
  rw [val_main_v27_apply]
  refine Finset.sum_congr rfl fun k _ => ?_
  rw [show lidx_main_v27 (ix3 b r l) k = ix3 b r k from by funext a; fin_cases a <;> rfl,
    show ridx_main_v27 (ix3 b r l) k = ix3 b k l from by funext a; fin_cases a <;> rfl, v19_at x0 x1 x3 x4 b e he, v26_at x1 x5 b e he]

/-- The reference's array at a row of block `b` and a channel: the expert's row, or zero past the blocks in use. -/
theorem REF_at (r : Fin 256) (l : Fin 1024) :
    val_main_v34 (F := Ideal) x0 x1 x2 x3 x4 x5 (ix2 (⟨b.val * 256 + r.val, by omega⟩ : Fin 147456) l)
      = Scalar.select (IntOp.cmpi .slt (BitVec.ofNat 32 b.val) (x2 (ix1 (0 : Fin 1))))
          (row (fun k => x0 (ix2 ⟨b.val * 256 + r.val, by omega⟩ k)) (fun k f => x3 (ix3 e k f)) (fun k f => x4 (ix3 e k f))
            (fun f l => x5 (ix3 e f l)) l) (Ideal.ofBits FTy.f32 0x00000000#32) := by
  rw [val_main_v34_apply, val_main_v33_apply,
    show idx_main_v33 (ix2 (⟨b.val * 256 + r.val, by omega⟩ : Fin 147456) l) = ix3 b r l from funext fun a => Fin.ext (by
      match a with
      | ⟨0, _⟩ => show ((b.val * 256 + r.val) * 1024 + l.val) / 262144 = b.val; omega
      | ⟨1, _⟩ => show ((b.val * 256 + r.val) * 1024 + l.val) / 1024 % 256 = r.val; omega
      | ⟨2, _⟩ => show ((b.val * 256 + r.val) * 1024 + l.val) % 1024 = l.val; omega),
    val_main_v32_apply, v27_at x0 x1 x3 x4 x5 b e he, val_main_call1_v1_apply, val_main_v31_apply, val_main_v30_apply,
    val_main_v28_apply, val_main_v29_apply, val_main_call1_v2_apply, val_main_call1_v0_apply, val_main_cst_apply,
    show idx_main_v29 (idx_main_v31 (idx_main_call1_v1 (ix3 b r l))) = ix1 (0 : Fin 1) from by funext a; fin_cases a; rfl]
  rfl

end Ref

end Cert.Own.Exp

end
-- ==== Proof.ExpValue.lean ====
module

public import proofs.«01_k».proof.Proof.ExpFrame
public import proofs.«01_k».proof.Proof.ExpPre
public import proofs.«01_k».proof.Proof.ExpRef
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.Pipeline.Covers
public import Idealize.ShloMosaic.Lib.ValueIdx
public import Idealize.ShloMosaic.PureOps.Ideal.Laws

/-! # The routed experts: the kernel's array is the reference's -/

@[expose] public section

set_option maxRecDepth 16384

noncomputable section

namespace Cert.Own.Exp

open Idealize.ShloMosaic Idealize.ShloMosaic.TcCoe Idealize.SL.Sem
open Idealize.ShloMosaic.Pipeline (Dat)
open Cert.ExpertsIdeal Cert.ExpertsIdeal.Gen Cert.ExpertsIdeal.Run

/-- What the body writes for a block in use, at a row and a channel, from the blocks of the three weights. -/
theorem pay_at (x : FVec Ideal S256x1024 .bf16) (wg wu : FVec Ideal S1x1024x256 .f32) (wd : FVec Ideal S1x256x1024 .f32)
    (r : Fin 256) (l : Fin 1024) :
    k0_pay4 (F := Ideal) x (k0_pay1 (F := Ideal) wg) (k0_pay2 (F := Ideal) wu) (k0_pay3 (F := Ideal) wd) (ix2 r l)
      = row (fun k => x (ix2 r k)) (fun k f => wg (ix3 0 k f)) (fun k f => wu (ix3 0 k f)) (fun f l => wd (ix3 0 f l)) l := by
  pointwise [k0_pay4, k0_pay1, k0_pay2, k0_pay3, row, Cert.Own.Ffn.hid]

/-- What the body writes past the blocks in use. -/
theorem zero_at (r : Fin 256) (l : Fin 1024) : k0_pay5 (F := Ideal) (ix2 r l) = Ideal.ofBits FTy.f32 0x00000000#32 := by
  pointwise [k0_pay5]

/-- The condition the body stores the expert's block under is the block's number being below the number in use. -/
theorem cond2_iff (i : grid0.Coords) (n : BitVec 32) : k0_cond2 i n = 1#1 ↔ IntOp.cmpi .slt (BitVec.ofNat 32 (i 0).val) n = 1#1 := by
  unfold k0_cond2
  exact (by decide : ∀ b : BitVec 1, Scalar.cmpi .ne (Scalar.extui b : BitVec 32) 0#32 = 1#1 ↔ b = 1#1)
    (Scalar.cmpi .slt (BitVec.ofNat 32 (i 0).val) n)

theorem coords_val : ∀ t : Fin grid0.N, (grid0.coords t 0).val = t.val := by decide +kernel

variable (m : (ℓ : Loc nD τ sig) → Buf (Elt Ideal) ℓ) (hO : Ok m)

theorem word_val {n : ℕ} (h : n < 576) : (BitVec.ofNat 32 n).toNat = n := by
  rw [BitVec.toNat_ofNat]; exact Nat.mod_eq_of_lt (by omega)

/-- A row of the block of tokens. -/
theorem x_read (c : Dev nD) (t : Fin (cfgM m hO).N) (ht : t.val < 576) (r : Fin 256) (k : Fin 1024) :
    iblk m hO c 0 t (ix2 r k) = m ((c : Thread nD τ).loc main_arg0) (ix2 (⟨t.val * 256 + r.val, by omega⟩ : Fin 147456) k) := by
  refine congrArg (m ((c : Thread nD τ).loc main_arg0)) (funext fun a => Fin.ext ?_)
  refine (((cfgM m hO).win 0).rect_emb_val t (ix2 r k) a).trans ?_
  fin_cases a
  · show (BitVec.ofNat 32 (grid0.coords t 0).val).toNat * 256 + r.val = t.val * 256 + r.val
    rw [coords_val, word_val ht]
  · show 0 * 1024 + k.val = k.val
    omega

/-- The table's word at a point names the expert. -/
theorem tab (c : Dev nD) (t : Fin (cfgM m hO).N) (ht : t.val < 576) (e : Fin 64)
    (he : m ((c : Thread nD τ).loc main_arg1) (ix1 (⟨t.val, ht⟩ : Fin 576)) = BitVec.ofNat 32 e.val) :
    ((tbl m).at 0 (Rect.unit (s := S576) (k0_off1 (grid0.coords t)) S1.size (k0_off1_inb (grid0.coords t))) numel1_S1).toNat = e.val := by
  obtain rfl : c = 0 := Subsingleton.elim _ _
  rw [at_word, show grid0.coords t 0 = (⟨t.val, ht⟩ : Fin 576) from Fin.ext (coords_val t), he]
  exact (by decide : ∀ e : Fin 64, (BitVec.ofNat 32 e.val).toNat = e.val) e

/-- The expert's gate weights. -/
theorem wg_read (c : Dev nD) (t : Fin (cfgM m hO).N) (ht : t.val < 576) (e : Fin 64)
    (he : m ((c : Thread nD τ).loc main_arg1) (ix1 (⟨t.val, ht⟩ : Fin 576)) = BitVec.ofNat 32 e.val) (k : Fin 1024) (f : Fin 256) :
    iblk m hO c 1 t (ix3 (0 : Fin 1) k f) = m ((c : Thread nD τ).loc main_arg3) (ix3 e k f) := by
  refine congrArg (m ((c : Thread nD τ).loc main_arg3)) (funext fun a => Fin.ext ?_)
  refine (((cfgM m hO).win 1).rect_emb_val t (ix3 (0 : Fin 1) k f) a).trans ?_
  fin_cases a
  · show ((tbl m).at 0 (Rect.unit (s := S576) (k0_off1 (grid0.coords t)) S1.size (k0_off1_inb (grid0.coords t))) numel1_S1).toNat * 1 + 0 = e.val
    rw [tab m hO c t ht e he]; omega
  · show 0 * 1024 + k.val = k.val
    omega
  · show 0 * 256 + f.val = f.val
    omega

/-- The expert's up weights. -/
theorem wu_read (c : Dev nD) (t : Fin (cfgM m hO).N) (ht : t.val < 576) (e : Fin 64)
    (he : m ((c : Thread nD τ).loc main_arg1) (ix1 (⟨t.val, ht⟩ : Fin 576)) = BitVec.ofNat 32 e.val) (k : Fin 1024) (f : Fin 256) :
    iblk m hO c 2 t (ix3 (0 : Fin 1) k f) = m ((c : Thread nD τ).loc main_arg4) (ix3 e k f) := by
  refine congrArg (m ((c : Thread nD τ).loc main_arg4)) (funext fun a => Fin.ext ?_)
  refine (((cfgM m hO).win 2).rect_emb_val t (ix3 (0 : Fin 1) k f) a).trans ?_
  fin_cases a
  · show ((tbl m).at 0 (Rect.unit (s := S576) (k0_off1 (grid0.coords t)) S1.size (k0_off1_inb (grid0.coords t))) numel1_S1).toNat * 1 + 0 = e.val
    rw [tab m hO c t ht e he]; omega
  · show 0 * 1024 + k.val = k.val
    omega
  · show 0 * 256 + f.val = f.val
    omega

/-- The expert's down weights. -/
theorem wd_read (c : Dev nD) (t : Fin (cfgM m hO).N) (ht : t.val < 576) (e : Fin 64)
    (he : m ((c : Thread nD τ).loc main_arg1) (ix1 (⟨t.val, ht⟩ : Fin 576)) = BitVec.ofNat 32 e.val) (f : Fin 256) (l : Fin 1024) :
    iblk m hO c 3 t (ix3 (0 : Fin 1) f l) = m ((c : Thread nD τ).loc main_arg5) (ix3 e f l) := by
  refine congrArg (m ((c : Thread nD τ).loc main_arg5)) (funext fun a => Fin.ext ?_)
  refine (((cfgM m hO).win 3).rect_emb_val t (ix3 (0 : Fin 1) f l) a).trans ?_
  fin_cases a
  · show ((tbl m).at 0 (Rect.unit (s := S576) (k0_off1 (grid0.coords t)) S1.size (k0_off1_inb (grid0.coords t))) numel1_S1).toNat * 1 + 0 = e.val
    rw [tab m hO c t ht e he]; omega
  · show 0 * 256 + f.val = f.val
    omega
  · show 0 * 1024 + l.val = l.val
    omega

/-- Where an element of the block written lies in the result. -/
theorem out_emb (t : Fin (cfgM m hO).N) (ht : t.val < 576) (r : Fin 256) (l : Fin 1024) :
    (((cfgM m hO).win 4).blk t).view.emb (ix2 r l) = ix2 (⟨t.val * 256 + r.val, by omega⟩ : Fin 147456) l := by
  refine funext fun a => Fin.ext ?_
  refine (((cfgM m hO).win 4).rect_emb_val t (ix2 r l) a).trans ?_
  fin_cases a
  · show (BitVec.ofNat 32 (grid0.coords t 0).val).toNat * 256 + r.val = t.val * 256 + r.val
    rw [coords_val, word_val ht]
  · show 0 * 1024 + l.val = l.val
    omega

/-- The blocks written are the whole result. -/
theorem covers : ((cfgM m hO).win 4).Covers :=
  Pipeline.Window.covers_of_indexMap_surj _ rfl (fun a => by
    fin_cases a
    · show 0 < 256; decide
    · show 0 < 1024; decide) fun β => by
    have h0 : (β (0 : Fin 2)).val < 576 := lt_of_lt_of_eq (β (0 : Fin 2)).isLt (show _ = _ from (by decide : (147456 + 256 - 1) / 256 = 576))
    have h1 : (β (1 : Fin 2)).val < 1 := lt_of_lt_of_eq (β (1 : Fin 2)).isLt (show _ = _ from (by decide : (1024 + 1024 - 1) / 1024 = 1))
    refine ⟨fun a => ⟨(β (0 : Fin 2)).val, by fin_cases a; exact h0⟩, fun a => ?_⟩
    fin_cases a
    · show (BitVec.ofNat 32 (β (0 : Fin 2)).val).toNat = (β (0 : Fin 2)).val
      exact word_val h0
    · show 0 = (β (1 : Fin 2)).val
      omega

/-- The array after the run is the reference's. -/
theorem final (c : Dev nD) (hw : ∀ y, ∃ e : Fin 64, m ((c : Thread nD τ).loc main_arg1) y = BitVec.ofNat 32 e.val) :
    (dats m hO 0 c).arrAt 4 (cfgM m hO).N
      = Cert.ExpertsRefIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m hO 0 c).arrAt_eq_of_covers 4 _ (covers m hO) fun t _ y => ?_
  have ht : t.val < 576 := t.isLt
  obtain ⟨e, he⟩ := hw (ix1 (⟨t.val, ht⟩ : Fin 576))
  have key : ∀ (r : Fin 256) (l : Fin 1024), outsAt m hO c t (ix2 r l)
      = Cert.ExpertsRefIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (⟨t.val * 256 + r.val, by omega⟩ : Fin 147456) l) := fun r l => by
    refine Eq.trans ?_ (REF_at _ _ _ _ _ _ (⟨t.val, ht⟩ : Fin 576) e he r l).symm
    have hn : wUsed c (tbl m 1) = m ((c : Thread nD τ).loc main_arg2) (ix1 (0 : Fin 1)) := by
      obtain rfl : c = 0 := Subsingleton.elim _ _
      refine congrArg (m (((0 : Dev nD) : Thread nD τ).loc main_arg2)) (funext fun a => Fin.ext ?_)
      fin_cases a; rfl
    unfold outsAt outB
    rw [hn]
    have hc := cond2_iff (grid0.coords t) (m ((c : Thread nD τ).loc main_arg2) (ix1 (0 : Fin 1)))
    rw [coords_val] at hc
    by_cases h : k0_cond2 (grid0.coords t) (m ((c : Thread nD τ).loc main_arg2) (ix1 (0 : Fin 1))) = 1#1
    · rw [if_pos h]
      refine (pay_at _ _ _ _ r l).trans ?_
      refine Eq.trans ?_ (if_pos (hc.1 h)).symm
      congr 1
      · funext k; exact x_read m hO c t ht r k
      · funext k f; exact wg_read m hO c t ht e he k f
      · funext k f; exact wu_read m hO c t ht e he k f
      · funext f l; exact wd_read m hO c t ht e he f l
    · rw [if_neg h]
      refine (zero_at r l).trans ?_
      exact (if_neg fun h' => h (hc.2 h')).symm
  have all : ∀ z : S256x1024.Idx, outsAt m hO c t z
      = Cert.ExpertsRefIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) ((((cfgM m hO).win 4).blk t).view.emb z) := fun z => by
    idx_vars z
    rw [key]
    exact congrArg _ (out_emb m hO t ht z0 z1).symm
  exact all y

end Cert.Own.Exp

end
-- ==== Proof.PmxRef.lean ====
module

public import proofs.«01_k».proof.Proof.Gen.PremixRefIdeal.Run
public import proofs.«01_k».proof.Proof.Gen.PremixRefIdeal.Read
public import Idealize.ShloMosaic.Lib.Pointwise
public import Idealize.ShloMosaic.Lib.Pipeline.ValueKit
public import Idealize.ShloMosaic.Lib.ValueIdx
public import Idealize.ShloMosaic.PureOps.Ideal.Laws

/-! # The input projection's reference, read at a token and a channel -/

@[expose] public section

set_option maxRecDepth 16384

noncomputable section

namespace Cert.Own.Pmx

open Idealize.ShloMosaic Idealize.ShloMosaic.TcCoe Idealize.SL.Sem

/-- One token, normalized, scaled by the gain and the modulation, and shifted. -/
def nrm (x g sc sh : Fin 1024 → EReal) (l : Fin 1024) : EReal :=
  x l * Ideal.rsqrt (Ideal.div (∑ k, x k * x k) (Ideal.ofBits FTy.f32 0x44800000#32) + Ideal.ofBits FTy.f32 0x358637BD#32) * g l
    * (Ideal.ofBits FTy.f32 0x3F800000#32 + sc l) + sh l

/-- That token's product with one column of the weights. -/
def prd (x g sc sh w : Fin 1024 → EReal) : EReal := ∑ k, nrm x g sc sh k * w k

section Ref
open Cert.PremixRefIdeal Cert.PremixRefIdeal.Gen Cert.PremixRefIdeal.Read

variable (x0 : FVec Ideal S8192x1024 .f32) (x1 : FVec Ideal S16x6x1024 .f32) (x2 : FVec Ideal S1024 .f32) (x3 : FVec Ideal S1024x2816 .f32)
  (x4 x5 : FVec Ideal S32x2x4x256x128 .f32)

/-- The projection of a token of the reference: its product with column `l`. -/
def col (r : Fin 8192) (l : Fin 2816) : EReal :=
  prd (fun k => x0 (ix2 r k)) (fun k => x2 (ix1 k)) (fun k => x1 (ix3 0 1 k)) (fun k => x1 (ix3 0 0 k)) (fun k => x3 (ix2 k l))

theorem v12_at (r : Fin 8192) (k : Fin 1024) : val_main_v12 (F := Ideal) x0 (ix2 r k)
    = Ideal.rsqrt (Ideal.div (∑ k, x0 (ix2 r k) * x0 (ix2 r k)) (Ideal.ofBits FTy.f32 0x44800000#32) + Ideal.ofBits FTy.f32 0x358637BD#32) := by
  rw [val_main_v12_apply, val_main_v11_apply, val_main_v10_apply, val_main_v8_apply, val_main_v9_apply, val_main_v6_apply, val_main_v7_apply,
    val_main_v5_apply, val_main_cst_apply, val_main_cst_0_apply, val_main_cst_1_apply]
  have hs : ∀ j : Fin 1024, idx_main_v5 (idx_main_v6 (idx_main_v12 (ix2 r k))) j = ix2 r j := fun j => by funext a; fin_cases a <;> rfl
  simp only [val_main_v4_apply, hs]
  pointwise

theorem v24_at (r : Fin 8192) (k : Fin 1024) : val_main_v24 (F := Ideal) x0 x1 x2 (ix2 r k)
    = nrm (fun k => x0 (ix2 r k)) (fun k => x2 (ix1 k)) (fun k => x1 (ix3 0 1 k)) (fun k => x1 (ix3 0 0 k)) k := by
  rw [val_main_v24_apply, val_main_v21_apply, val_main_v23_apply, val_main_v16_apply, val_main_v20_apply, val_main_v13_apply, val_main_v15_apply,
    val_main_v14_apply, val_main_v19_apply, val_main_v18_apply, val_main_v17_apply, val_main_v22_apply, val_main_v1_apply, val_main_v0_apply,
    val_main_v3_apply, val_main_v2_apply, val_main_cst_2_apply, v12_at]
  have hk : k.val % 1024 = k.val := Nat.mod_eq_of_lt k.isLt
  rw [show idx_main_v14 (idx_main_v15 (ix2 r k)) = ix1 k from by funext a; fin_cases a; rfl,
    show idx_main_v0 (idx_main_v1 (idx_main_v22 (idx_main_v23 (ix2 r k)))) = ix3 0 0 k from funext fun a => Fin.ext (by
      match a with
      | ⟨0, _⟩ => rfl
      | ⟨1, _⟩ => rfl
      | ⟨2, _⟩ => exact hk),
    show idx_main_v2 (idx_main_v3 (idx_main_v19 (idx_main_v20 (ix2 r k)))) = ix3 0 1 k from funext fun a => Fin.ext (by
      match a with
      | ⟨0, _⟩ => rfl
      | ⟨1, _⟩ => rfl
      | ⟨2, _⟩ => exact hk)]
  rfl

theorem v25_at (i : S8192x2816.Idx) (r : Fin 8192) (l : Fin 2816) (h0 : (i 0).val = r.val) (h1 : (i 1).val = l.val) :
    val_main_v25 (F := Ideal) x0 x1 x2 x3 i = col x0 x1 x2 x3 r l := by
  rw [val_main_v25_apply]
  unfold col prd
  refine Finset.sum_congr rfl fun k _ => ?_
  rw [show lidx_main_v25 i k = ix2 r k from funext fun a => Fin.ext (by
      match a with
      | ⟨0, _⟩ => exact h0
      | ⟨1, _⟩ => rfl),
    show ridx_main_v25 i k = ix2 k l from funext fun a => Fin.ext (by
      match a with
      | ⟨0, _⟩ => rfl
      | ⟨1, _⟩ => exact h1), v24_at]

/-- The convolution's channels. -/
theorem c_at (r : Fin 8192) (l : Fin 512) : val_main_v46 (F := Ideal) x0 x1 x2 x3 (ix2 r l) = col x0 x1 x2 x3 r ⟨l.val, by omega⟩ := by
  rw [val_main_v46_apply, val_main_v45_apply, v25_at x0 x1 x2 x3 _ r ⟨l.val, by omega⟩ rfl rfl]; rfl

/-- The hyena's channels. -/
theorem h_at (r : Fin 8192) (l : Fin 768) : val_main_v48 (F := Ideal) x0 x1 x2 x3 (ix2 r l) = col x0 x1 x2 x3 r ⟨512 + l.val, by omega⟩ := by
  rw [val_main_v48_apply, val_main_v47_apply, v25_at x0 x1 x2 x3 _ r ⟨512 + l.val, by omega⟩ rfl rfl]; rfl

/-- The queries' channels. -/
theorem q_at (r : Fin 8192) (l : Fin 512) : val_main_v49 (F := Ideal) x0 x1 x2 x3 (ix2 r l)
    = col x0 x1 x2 x3 r ⟨1280 + l.val, by omega⟩ * Ideal.ofBits FTy.f32 0x3E000000#32 := by
  rw [val_main_v49_apply, val_main_v28_apply, val_main_v26_apply, val_main_v27_apply, val_main_cst_3_apply,
    v25_at x0 x1 x2 x3 _ r ⟨1280 + l.val, by omega⟩ rfl rfl]; rfl

/-- The keys' channels. -/
theorem k_at (r : Fin 8192) (l : Fin 512) : val_main_v50 (F := Ideal) x0 x1 x2 x3 (ix2 r l) = col x0 x1 x2 x3 r ⟨1792 + l.val, by omega⟩ := by
  rw [val_main_v50_apply, val_main_v29_apply, v25_at x0 x1 x2 x3 _ r ⟨1792 + l.val, by omega⟩ rfl rfl]; rfl

/-- The values' channels. -/
theorem v_at (r : Fin 8192) (l : Fin 512) : val_main_v51 (F := Ideal) x0 x1 x2 x3 (ix2 r l) = col x0 x1 x2 x3 r ⟨2304 + l.val, by omega⟩ := by
  rw [val_main_v51_apply, val_main_v30_apply, v25_at x0 x1 x2 x3 _ r ⟨2304 + l.val, by omega⟩ rfl rfl]; rfl

/-- The keys in the layout of the cache. -/
theorem v34_at (b : Fin 32) (h : Fin 4) (s : Fin 256) (d : Fin 128) : val_main_v34 (F := Ideal) x0 x1 x2 x3 (ix4 b h s d)
    = col x0 x1 x2 x3 ⟨b.val * 256 + s.val, by omega⟩ ⟨1792 + h.val * 128 + d.val, by omega⟩ := by
  rw [val_main_v34_apply, val_main_v33_apply, val_main_v29_apply]
  refine v25_at x0 x1 x2 x3 _ _ _ ?_ ?_
  · show (((b.val * 256 + s.val) * 4 + h.val) * 128 + d.val) / 512 = b.val * 256 + s.val; omega
  · show 1792 + (((b.val * 256 + s.val) * 4 + h.val) * 128 + d.val) % 512 = 1792 + h.val * 128 + d.val; omega

/-- The values in the layout of the cache. -/
theorem v41_at (b : Fin 32) (h : Fin 4) (s : Fin 256) (d : Fin 128) : val_main_v41 (F := Ideal) x0 x1 x2 x3 (ix4 b h s d)
    = col x0 x1 x2 x3 ⟨b.val * 256 + s.val, by omega⟩ ⟨2304 + h.val * 128 + d.val, by omega⟩ := by
  rw [val_main_v41_apply, val_main_v40_apply, val_main_v30_apply]
  refine v25_at x0 x1 x2 x3 _ _ _ ?_ ?_
  · show (((b.val * 256 + s.val) * 4 + h.val) * 128 + d.val) / 512 = b.val * 256 + s.val; omega
  · show 2304 + (((b.val * 256 + s.val) * 4 + h.val) * 128 + d.val) % 512 = 2304 + h.val * 128 + d.val; omega

/-- Stacking a cache's layer 0 with new entries, at any index. -/
theorem stack_at (X : FVec Ideal S32x2x4x256x128 .f32) (Y : FVec Ideal S32x4x256x128 .f32)
    (b : Fin 32) (p : Fin 2) (h : Fin 4) (s : Fin 256) (d : Fin 128) :
    concatenate (α := Ideal .f32) S32x2x4x256x128 1
      [⟨S32x1x4x256x128, broadcastInDim S32x1x4x256x128 ![0, 2, 3, 4] bcast_S32x4x256x128_S32x1x4x256x128_0_2_3_4
          (shapeCast _ (extractStridedSlice S32x1x4x256x128 ![0, 0, 0, 0, 0] X slices_S32x2x4x256x128_S32x1x4x256x128_0_0_0_0_0) shapeCasts_S32x1x4x256x128_S32x4x256x128)⟩,
        ⟨S32x1x4x256x128, broadcastInDim S32x1x4x256x128 ![0, 2, 3, 4] bcast_S32x4x256x128_S32x1x4x256x128_0_2_3_4 Y⟩]
      concatenates_S32x1x4x256x128_S32x1x4x256x128_S32x2x4x256x128_d1 (ix5 b p h s d)
      = if p.val = 1 then Y (ix4 b h s d) else X (ix5 b p h s d) := by
  pointwise
  obtain rfl | rfl : p = 0 ∨ p = 1 := by omega
  · simp
  · simp

/-- The stacked cache of keys: layer 1 is the call's keys, layer 0 is what came in. -/
theorem nk_at (b : Fin 32) (p : Fin 2) (h : Fin 4) (s : Fin 256) (d : Fin 128) : val_main_v37 (F := Ideal) x0 x1 x2 x3 x4 (ix5 b p h s d)
    = if p.val = 1 then col x0 x1 x2 x3 ⟨b.val * 256 + s.val, by omega⟩ ⟨1792 + h.val * 128 + d.val, by omega⟩ else x4 (ix5 b p h s d) := by
  rw [← v34_at]; exact stack_at x4 (val_main_v34 (F := Ideal) x0 x1 x2 x3) b p h s d

/-- The stacked cache of values: layer 1 is the call's values, layer 0 is what came in. -/
theorem nv_at (b : Fin 32) (p : Fin 2) (h : Fin 4) (s : Fin 256) (d : Fin 128) : val_main_v44 (F := Ideal) x0 x1 x2 x3 x5 (ix5 b p h s d)
    = if p.val = 1 then col x0 x1 x2 x3 ⟨b.val * 256 + s.val, by omega⟩ ⟨2304 + h.val * 128 + d.val, by omega⟩ else x5 (ix5 b p h s d) := by
  rw [← v41_at]; exact stack_at x5 (val_main_v41 (F := Ideal) x0 x1 x2 x3) b p h s d

end Ref

end Cert.Own.Pmx

end
-- ==== Proof.PmxValue.lean ====
module

public import proofs.«01_k».proof.Proof.PmxRef
public import proofs.«01_k».proof.Proof.Gen.PremixIdeal.Frame
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

/-! # The input projection: the kernel's arrays are the reference's -/

@[expose] public section

set_option maxRecDepth 16384

noncomputable section

namespace Cert.Own.Pmx

open Idealize.ShloMosaic Idealize.ShloMosaic.TcCoe Idealize.SL.Sem
open Idealize.ShloMosaic.Pipeline (Dat)

open Cert.PremixIdeal Cert.PremixIdeal.Gen
open Cert.PremixRefIdeal.Read (val_main_v46 val_main_v48 val_main_v49 val_main_v50 val_main_v51 val_main_v37 val_main_v44)
variable (m : (ℓ : Loc nD τ sig) → Buf (Elt Ideal) ℓ)

/-- Which block of each array a grid point works on. -/
theorem idx : ∀ t : Fin cfg0.N, win0_0.index t = ![t.val, 0] ∧ win0_1.index t = ![0, 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 1, 0, 0, 0] ∧ win0_10.index t = ![t.val, 1, 0, 0, 0] :=
  (by decide +kernel : ∀ t : Fin grid0.N, _)

/-- The normalized token of the body, at a row and a channel. -/
theorem hrow_at (v0 : FVec Ideal S256x1024 .f32) (v1 : FVec Ideal S1x6x1024 .f32) (v3 : FVec Ideal S1x1024 .f32) (r : Fin 256) (l : Fin 1024) :
    k0_pay7 (F := Ideal) v0 v1 v3 (ix2 r l)
      = nrm (fun k => v0 (ix2 r k)) (fun k => v3 (ix2 0 k)) (fun k => v1 (ix3 0 1 k)) (fun k => v1 (ix3 0 0 k)) l := by
  pointwise [k0_pay7, nrm]

section Prods
variable (h : FVec Ideal S256x1024 .bf16) (w : FVec Ideal S1024x512 .bf16)

theorem p10_at (r : Fin 256) (l : Fin 512) : k0_pay10 (F := Ideal) h w (ix2 r l) = ∑ k, h (ix2 r k) * w (ix2 k l) := by
  pointwise [k0_pay10]
theorem p11_at (r : Fin 256) (l : Fin 512) : k0_pay11 (F := Ideal) h w (ix2 r l) = ∑ k, h (ix2 r k) * w (ix2 k l) := by
  pointwise [k0_pay11]
theorem p12_at (r : Fin 256) (l : Fin 512) : k0_pay12 (F := Ideal) h w (ix2 r l)
    = (∑ k, h (ix2 r k) * w (ix2 k l)) * Ideal.ofBits FTy.f32 0x3E000000#32 := by
  pointwise [k0_pay12]
theorem p13_at (r : Fin 256) (l : Fin 512) : k0_pay13 (F := Ideal) h w (ix2 r l) = ∑ k, h (ix2 r k) * w (ix2 k l) := by
  pointwise [k0_pay13, k0_pay10]
theorem p14_at (r : Fin 256) (l : Fin 512) : k0_pay14 (F := Ideal) h w (ix2 r l) = ∑ k, h (ix2 r k) * w (ix2 k l) := by
  pointwise [k0_pay14, k0_pay11]

end Prods

section Prods2
variable (v0 : FVec Ideal S256x1024 .f32) (v1 : FVec Ideal S1x6x1024 .f32) (v3 : FVec Ideal S1x1024 .f32)

theorem p8_at (w : FVec Ideal S1024x512 .bf16) (r : Fin 256) (l : Fin 512) : k0_pay8 (F := Ideal) v0 v1 v3 w (ix2 r l)
    = ∑ k, k0_pay7 (F := Ideal) v0 v1 v3 (ix2 r k) * w (ix2 k l) := by
  pointwise [k0_pay8]
theorem p9_at (w : FVec Ideal S1024x768 .bf16) (r : Fin 256) (l : Fin 768) : k0_pay9 (F := Ideal) v0 v1 v3 w (ix2 r l)
    = ∑ k, k0_pay7 (F := Ideal) v0 v1 v3 (ix2 r k) * w (ix2 k l) := by
  pointwise [k0_pay9]

end Prods2

/-- The contents of the gain and of the weights at the region's entry. -/
theorem entries (c : Dev nD) : V m c main_v0 = m ((c : Thread nD τ).loc main_arg3)
    ∧ V m c main_v1 = shapeCast S1x1024 (m ((c : Thread nD τ).loc main_arg2)) shapeCasts_S1024_S1x1024 := by
  refine ⟨?_, ?_⟩ <;> (entry_read; try rfl)

/-- The projection of row `r` of a grid point's block is the reference's of the token the row lies at. -/
theorem core (c : Dev nD) (t : Fin cfg0.N) (r : Fin 256) (l : Fin 2816) (R : Fin 8192) (hR : R.val = t.val * 256 + r.val)
    (w : Fin 1024 → EReal) (hw : ∀ k, w k = iblk m c 3 t (ix2 k l)) :
    ∑ k, k0_pay7 (F := Ideal) (iblk m c 0 t) (iblk m c 1 t) (iblk m c 2 t) (ix2 r k) * w k
      = col (m ((c : Thread nD τ).loc main_arg0)) (m ((c : Thread nD τ).loc main_arg1)) (m ((c : Thread nD τ).loc main_arg2))
          (m ((c : Thread nD τ).loc main_arg3)) R l := by
  obtain ⟨e0, e1⟩ := entries m c
  have ht : t.val < 32 := t.isLt
  have hb : t.val * 256 + r.val < 8192 := by omega
  rw [show R = ⟨t.val * 256 + r.val, hb⟩ from Fin.ext hR]
  unfold col prd
  refine Finset.sum_congr rfl fun k _ => ?_
  rw [hrow_at, hw]
  congr 1
  · congr 1
    · funext k; blk_ext [iblk, V, idx t]
    · funext k; blk_simp [iblk, e1, idx t]; pointwise; blk_ext [idx t]
    · funext k; blk_ext [iblk, V, idx t]
    · funext k; blk_ext [iblk, V, idx t]
  · blk_ext [iblk, e0, idx t]

/-- The channels of the convolution after the run. -/
theorem final4 (c : Dev nD) : (dats m 0 c).arrAt 4 (cfgs 0).N
      = val_main_v46 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; unfold outsAt0; frame_out
  idx_vars y
  have ht : t.val < 32 := t.isLt
  have he : ((cfg0.win 4).blk t).view.emb (ix2 y0 y1) = ix2 (⟨t.val * 256 + y0.val, by omega⟩ : Fin 8192) y1 := by
    blk_ext [idx t]
  rw [he, c_at, p8_at]
  exact core m c t y0 _ _ rfl _ fun k => by pointwise; try rfl

/-- The channels of the hyena after the run. -/
theorem final5 (c : Dev nD) : (dats m 0 c).arrAt 5 (cfgs 0).N
      = val_main_v48 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]; unfold outsAt0; frame_out
  idx_vars y
  have ht : t.val < 32 := t.isLt
  have he : ((cfg0.win 5).blk t).view.emb (ix2 y0 y1) = ix2 (⟨t.val * 256 + y0.val, by omega⟩ : Fin 8192) y1 := by
    blk_ext [idx t]
  rw [he, h_at, p9_at]
  exact core m c t y0 _ _ rfl _ fun k => by pointwise; try rfl

/-- The channels of the queries after the run. -/
theorem final6 (c : Dev nD) : (dats m 0 c).arrAt 6 (cfgs 0).N
      = val_main_v49 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 6 _ (by decide +kernel) fun t _ y => ?_
  blk_simp
  rw [after0_6]; unfold outsAt0; frame_out
  idx_vars y
  have ht : t.val < 32 := t.isLt
  have he : ((cfg0.win 6).blk t).view.emb (ix2 y0 y1) = ix2 (⟨t.val * 256 + y0.val, by omega⟩ : Fin 8192) y1 := by
    blk_ext [idx t]
  rw [he, q_at, p12_at]
  exact congrArg (fun z : EReal => z * Ideal.ofBits FTy.f32 0x3E000000#32) (core m c t y0 ⟨1280 + y1.val, by omega⟩ _ rfl _ fun k => by pointwise; try rfl)

/-- The channels of the keys after the run. -/
theorem final7 (c : Dev nD) : (dats m 0 c).arrAt 7 (cfgs 0).N
      = val_main_v50 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 7 _ (by decide +kernel) fun t _ y => ?_
  blk_simp
  rw [after0_7]; unfold outsAt0; frame_out
  idx_vars y
  have ht : t.val < 32 := t.isLt
  have he : ((cfg0.win 7).blk t).view.emb (ix2 y0 y1) = ix2 (⟨t.val * 256 + y0.val, by omega⟩ : Fin 8192) y1 := by
    blk_ext [idx t]
  rw [he, k_at, p13_at]
  exact core m c t y0 _ _ rfl _ fun k => by pointwise; try rfl

/-- The channels of the values after the run. -/
theorem final8 (c : Dev nD) : (dats m 0 c).arrAt 8 (cfgs 0).N
      = val_main_v51 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t _ y => ?_
  blk_simp
  rw [after0_8]; unfold outsAt0; frame_out
  idx_vars y
  have ht : t.val < 32 := t.isLt
  have he : ((cfg0.win 8).blk t).view.emb (ix2 y0 y1) = ix2 (⟨t.val * 256 + y0.val, by omega⟩ : Fin 8192) y1 := by
    blk_ext [idx t]
  rw [he, v_at, p14_at]
  exact core m c t y0 _ _ rfl _ fun k => by pointwise; try rfl

/-- The cache of keys as the region finds it. -/
theorem entry9 (c : Dev nD) : V m c main_v2_5 = m ((c : Thread nD τ).loc main_arg4) := by
  entry_read; try rfl

/-- The block of keys a grid point writes. -/
theorem point9 (c : Dev nD) (t : Fin cfg0.N) (y : S1x1x4x256x128.Idx) : (outsAt0 m c t).2.2.2.2.2.1 y
      = val_main_v37 (F := Ideal) (m ((c : Thread nD τ).loc main_arg0)) (m ((c : Thread nD τ).loc main_arg1)) (m ((c : Thread nD τ).loc main_arg2))
          (m ((c : Thread nD τ).loc main_arg3))
          (m ((c : Thread nD τ).loc main_arg4)) (((cfg0.win 9).blk t).view.emb y) := by
  unfold outsAt0; frame_out
  have ht : t.val < 32 := t.isLt
  obtain_idx i : S256x512 := [(y 3 : ℕ), (y 2 : ℕ) * 128 + (y 4 : ℕ)] with hi
  refine Eq.trans (b := k0_pay10 (F := Ideal) (k0_pay7 (F := Ideal) (iblk m c 0 t) (iblk m c 1 t) (iblk m c 2 t))
    (View.ld (iblk m c 3 t) (Rect.unit ![0, 1792] ![1024, 512] inb_S1024x2816_S1024x512_0_1792)) i) ?_ ?_
  · canon_tiles x h
    all_goals (open_payloads; pointwise; blk_ext)
  · idx_vars y
    obtain ⟨hs, hh, hd⟩ : y3.val < 256 ∧ y2.val < 4 ∧ y4.val < 128 := ⟨y3.isLt, y2.isLt, y4.isLt⟩
    have he : ((cfg0.win 9).blk t).view.emb (ix5 y0 y1 y2 y3 y4) = ix5 (⟨t.val, ht⟩ : Fin 32) (1 : Fin 2) y2 y3 y4 := by
      blk_ext [idx t]
    have hc : i = ix2 y3 (⟨y2.val * 128 + y4.val, by omega⟩ : Fin 512) := funext fun a => Fin.ext (by
      match a with
      | ⟨0, _⟩ => exact hi0
      | ⟨1, _⟩ => exact hi1)
    rw [he, nk_at, if_pos (show ((1 : Fin 2) : ℕ) = 1 from rfl), hc, p10_at]
    exact core m c t y3 ⟨1792 + y2.val * 128 + y4.val, by omega⟩ _ rfl _ fun k => by
      pointwise; exact congrArg _ (congrArg (ix2 k) (Fin.ext ((Nat.add_assoc 1792 (y2.val * 128) y4.val).symm)))

/-- The cache of keys after the run: layer 1 from the call's tokens, layer 0 as it came in. -/
theorem final9 (c : Dev nD) : (dats m 0 c).arrAt 9 (cfgs 0).N
      = val_main_v37 (F := Ideal) (m ((c : Thread nD τ).loc main_arg0)) (m ((c : Thread nD τ).loc main_arg1)) (m ((c : Thread nD τ).loc main_arg2))
          (m ((c : Thread nD τ).loc main_arg3))
          (m ((c : Thread nD τ).loc main_arg4)) := by
  refine Eq.trans (b := fun i : S32x2x4x256x128.Idx => if (i 1 : ℕ) = 1 then val_main_v37 (F := Ideal) (m ((c : Thread nD τ).loc main_arg0)) (m ((c : Thread nD τ).loc main_arg1)) (m ((c : Thread nD τ).loc main_arg2))
          (m ((c : Thread nD τ).loc main_arg3))
          (m ((c : Thread nD τ).loc main_arg4)) i else V m c main_v2_5 i) ?_ ?_
  · refine (dats m 0 c).arrAt_eq_of_coversWhere 9 _ (fun β => β 1 = 1) (by decide +kernel) (fun t hf y => ?_)
      (fun j => by blk_simp [Pipeline.Window.cell_apply]; omega)
    blk_simp; rw [after0_9]
    exact point9 m c t y
  · funext i
    split
    · rfl
    · rename_i hne
      rw [entry9]
      idx_vars i
      rw [nk_at, if_neg hne]

/-- The cache of values as the region finds it. -/
theorem entry10 (c : Dev nD) : V m c main_v2_6 = m ((c : Thread nD τ).loc main_arg5) := by
  entry_read; try rfl

/-- The block of values a grid point writes. -/
theorem point10 (c : Dev nD) (t : Fin cfg0.N) (y : S1x1x4x256x128.Idx) : (outsAt0 m c t).2.2.2.2.2.2 y
      = val_main_v44 (F := Ideal) (m ((c : Thread nD τ).loc main_arg0)) (m ((c : Thread nD τ).loc main_arg1)) (m ((c : Thread nD τ).loc main_arg2))
          (m ((c : Thread nD τ).loc main_arg3))
          (m ((c : Thread nD τ).loc main_arg5)) (((cfg0.win 10).blk t).view.emb y) := by
  unfold outsAt0; frame_out
  have ht : t.val < 32 := t.isLt
  obtain_idx i : S256x512 := [(y 3 : ℕ), (y 2 : ℕ) * 128 + (y 4 : ℕ)] with hi
  refine Eq.trans (b := k0_pay11 (F := Ideal) (k0_pay7 (F := Ideal) (iblk m c 0 t) (iblk m c 1 t) (iblk m c 2 t))
    (View.ld (iblk m c 3 t) (Rect.unit ![0, 2304] ![1024, 512] inb_S1024x2816_S1024x512_0_2304)) i) ?_ ?_
  · canon_tiles x h
    all_goals (open_payloads; pointwise; blk_ext)
  · idx_vars y
    obtain ⟨hs, hh, hd⟩ : y3.val < 256 ∧ y2.val < 4 ∧ y4.val < 128 := ⟨y3.isLt, y2.isLt, y4.isLt⟩
    have he : ((cfg0.win 10).blk t).view.emb (ix5 y0 y1 y2 y3 y4) = ix5 (⟨t.val, ht⟩ : Fin 32) (1 : Fin 2) y2 y3 y4 := by
      blk_ext [idx t]
    have hc : i = ix2 y3 (⟨y2.val * 128 + y4.val, by omega⟩ : Fin 512) := funext fun a => Fin.ext (by
      match a with
      | ⟨0, _⟩ => exact hi0
      | ⟨1, _⟩ => exact hi1)
    rw [he, nv_at, if_pos (show ((1 : Fin 2) : ℕ) = 1 from rfl), hc, p11_at]
    exact core m c t y3 ⟨2304 + y2.val * 128 + y4.val, by omega⟩ _ rfl _ fun k => by
      pointwise; exact congrArg _ (congrArg (ix2 k) (Fin.ext ((Nat.add_assoc 2304 (y2.val * 128) y4.val).symm)))

/-- The cache of values after the run: layer 1 from the call's tokens, layer 0 as it came in. -/
theorem final10 (c : Dev nD) : (dats m 0 c).arrAt 10 (cfgs 0).N
      = val_main_v44 (F := Ideal) (m ((c : Thread nD τ).loc main_arg0)) (m ((c : Thread nD τ).loc main_arg1)) (m ((c : Thread nD τ).loc main_arg2))
          (m ((c : Thread nD τ).loc main_arg3))
          (m ((c : Thread nD τ).loc main_arg5)) := by
  refine Eq.trans (b := fun i : S32x2x4x256x128.Idx => if (i 1 : ℕ) = 1 then val_main_v44 (F := Ideal) (m ((c : Thread nD τ).loc main_arg0)) (m ((c : Thread nD τ).loc main_arg1)) (m ((c : Thread nD τ).loc main_arg2))
          (m ((c : Thread nD τ).loc main_arg3))
          (m ((c : Thread nD τ).loc main_arg5)) i else V m c main_v2_6 i) ?_ ?_
  · refine (dats m 0 c).arrAt_eq_of_coversWhere 10 _ (fun β => β 1 = 1) (by decide +kernel) (fun t hf y => ?_)
      (fun j => by blk_simp [Pipeline.Window.cell_apply]; omega)
    blk_simp; rw [after0_10]
    exact point10 m c t y
  · funext i
    split
    · rfl
    · rename_i hne
      rw [entry10]
      idx_vars i
      rw [nv_at, if_neg hne]

end Cert.Own.Pmx

end
-- ==== Proof.PstMath.lean ====
module

public import proofs.«01_k».proof.Proof.AttnMath
public import Idealize.ShloMosaic.Lib.Pointwise
public import Idealize.ShloMosaic.Lib.ValueIdx
public import Idealize.ShloMosaic.PureOps.Ideal.Laws

/-! # The output projection with its two norms, on one token -/

@[expose] public section

set_option maxRecDepth 16384

noncomputable section

namespace Cert.Own.Pst

open Idealize.ShloMosaic Idealize.ShloMosaic.TcCoe Idealize.SL.Sem
open Cert.Own.Attn (Fin' coe_dot)

/-- The product of three stacked pieces of a token with one column of the weights. -/
def dot3 (a b : Fin 256 → EReal) (o : Fin 512 → EReal) (W : Fin 1024 → Fin 1024 → EReal) (l : Fin 1024) : EReal :=
  (∑ k, a k * W ⟨k.val, by omega⟩ l) + (∑ k, b k * W ⟨256 + k.val, by omega⟩ l) + ∑ k, o k * W ⟨512 + k.val, by omega⟩ l

/-- A row divided by its root mean square. -/
def rms (x : Fin 1024 → EReal) (l : Fin 1024) : EReal :=
  x l * Ideal.rsqrt (Ideal.div (∑ k, x k * x k) (Ideal.ofBits FTy.f32 0x44800000#32) + Ideal.ofBits FTy.f32 0x358637BD#32)

/-- The residual after the projection: the normalized row, scaled by its gain and its gate, added to what came in. -/
def res (y x gm gp : Fin 1024 → EReal) (l : Fin 1024) : EReal := x l + gm l * (rms y l * gp l)

/-- The residual normalized, scaled by the gain and the modulation, and shifted. -/
def nrm (x g sc sh : Fin 1024 → EReal) (l : Fin 1024) : EReal :=
  rms x l * g l * (Ideal.ofBits FTy.f32 0x3F800000#32 + sc l) + sh l

/-- A sum over a row is the sum of its three pieces. -/
theorem sum3 (f : Fin 1024 → EReal) : ∑ k, f k
    = (∑ k : Fin 256, f ⟨k.val, by omega⟩) + (∑ k : Fin 256, f ⟨256 + k.val, by omega⟩) + ∑ k : Fin 512, f ⟨512 + k.val, by omega⟩ := by
  have h1 := Fin.sum_univ_add (a := 512) (b := 512) f
  have h2 := Fin.sum_univ_add (a := 256) (b := 256) fun k => f (Fin.castAdd 512 k)
  exact h1.trans (congrArg (fun z => z + ∑ k : Fin 512, f (Fin.natAdd 512 k)) h2)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_one : Fin' (Ideal.ofBits FTy.f32 0x3F800000#32) := ⟨_, by simp [Ideal.ofBits, Ideal.ieee]; exact (EReal.coe_mul _ _).symm⟩

/-- The number of channels. -/
theorem c1024 : Ideal.ofBits FTy.f32 0x44800000#32 = ((1024 : ℝ) : EReal) := by
  simp [Ideal.ofBits, Ideal.ieee]; rw [← EReal.coe_mul]; norm_num

/-- The small number under the root is a positive real. -/
theorem ceps : ∃ e : ℝ, 0 < e ∧ Ideal.ofBits FTy.f32 0x358637BD#32 = (e : EReal) := by
  refine ⟨_, ?_, by simp [Ideal.ofBits, Ideal.ieee]; rfl⟩
  norm_num

/-- A square is not negative. -/
theorem sq_nonneg' (x : EReal) : 0 ≤ x * x := by
  induction x using EReal.rec with
  | bot => simp
  | coe r => rw [← EReal.coe_mul]; exact EReal.coe_nonneg.2 (mul_self_nonneg r)
  | top => simp

/-- A row divided by its root mean square is real, whatever the row: an infinite entry makes the divisor infinite. -/
theorem rms_fin (x : Fin 1024 → EReal) (l : Fin 1024) : Fin' (rms x l) := by
  unfold rms
  obtain ⟨e, he, hE⟩ := ceps
  rw [c1024, Ideal.div_coe (by norm_num), hE]
  by_cases h : ∀ k, Fin' (x k)
  · choose r hr using h
    have hs : (∑ k, x k * x k) = ((∑ k, r k * r k : ℝ) : EReal) := by
      rw [← coe_dot]; exact Finset.sum_congr rfl fun k _ => by rw [hr k]
    have h0 : (0 : ℝ) ≤ ∑ k, r k * r k := Finset.sum_nonneg fun k _ => mul_self_nonneg _
    have hp : 0 < (∑ k, r k * r k) * (1 / 1024) + e := by positivity
    rw [hs, ← EReal.coe_mul, ← EReal.coe_add, Ideal.rsqrt_coe, if_neg (not_lt.2 hp.le), if_neg hp.ne']
    exact fin_mul ⟨r l, hr l⟩ ⟨_, rfl⟩
  · push Not at h
    obtain ⟨k, hk⟩ := h
    have ht : x k * x k = ⊤ := by
      generalize x k = z at hk
      induction z using EReal.rec with
      | bot => simp
      | coe r => exact absurd ⟨r, rfl⟩ hk
      | top => simp
    have hs : (∑ k, x k * x k) = ⊤ := by
      have := Finset.single_le_sum (f := fun k => x k * x k) (fun i _ => sq_nonneg' (x i)) (Finset.mem_univ k)
      rw [ht] at this; exact top_le_iff.1 this
    rw [hs, EReal.top_mul_coe_of_pos (by norm_num), EReal.top_add_coe]
    exact ⟨0, (mul_zero (x l)).trans EReal.coe_zero.symm⟩

theorem nrm_fin (x g sc sh : Fin 1024 → EReal) (hg : ∀ k, Fin' (g k)) (hc : ∀ k, Fin' (sc k)) (hs : ∀ k, Fin' (sh k)) (l : Fin 1024) :
    Fin' (nrm x g sc sh l) :=
  fin_add (fin_mul (fin_mul (rms_fin x l) (hg l)) (fin_add fin_one (hc l))) (hs l)

theorem sub_self' {x : EReal} (hx : Fin' x) : x - x = 0 := by
  obtain ⟨a, rfl⟩ := hx; rw [← EReal.coe_sub, sub_self]; rfl

/-- A product of two real rows is what its rounded parts and its remainders add up to. -/
theorem split_eq (h w : Fin 1024 → EReal) (hh : ∀ k, Fin' (h k)) (hw : ∀ k, Fin' (w k)) :
    (∑ k, h k * w k) + ((∑ k, h k * (w k - w k)) + ∑ k, (h k - h k) * w k) = ∑ k, h k * w k := by
  simp only [sub_self' (hh _), sub_self' (hw _), mul_zero, zero_mul, Finset.sum_const_zero, add_zero]

end Cert.Own.Pst

end
-- ==== Proof.PstRef.lean ====
module

public import proofs.«01_k».proof.Proof.PstMath
public import proofs.«01_k».proof.Proof.Gen.PostmixRefIdeal.Run
public import proofs.«01_k».proof.Proof.Gen.PostmixRefIdeal.Read
public import Idealize.ShloMosaic.Lib.Pointwise
public import Idealize.ShloMosaic.Lib.Pipeline.ValueKit
public import Idealize.ShloMosaic.Lib.ValueIdx
public import Idealize.ShloMosaic.PureOps.Ideal.Laws

/-! # The output projection's reference, read at a token and a channel -/

@[expose] public section

set_option maxRecDepth 16384

noncomputable section

namespace Cert.Own.Pst

open Idealize.ShloMosaic Idealize.ShloMosaic.TcCoe Idealize.SL.Sem
open Cert.PostmixRefIdeal Cert.PostmixRefIdeal.Gen Cert.PostmixRefIdeal.Read

variable (x0 x1 : FVec Ideal S8192x256 .bf16) (x2 : FVec Ideal S8192x512 .bf16) (x3 : FVec Ideal S8192x1024 .f32) (x4 : FVec Ideal S16x6x1024 .f32)
  (x5 x6 : FVec Ideal S1024 .f32) (x7 : FVec Ideal S1024x1024 .f32) (x8 : FVec Ideal S1024x64 .f32)

/-- Three arrays stacked along the channels, at a channel of the first. -/
theorem cat_a (A B : FVec Ideal S8192x256 .f32) (O : FVec Ideal S8192x512 .f32) (r : Fin 8192) (k : Fin 256) :
    concatenate (α := Ideal .f32) S8192x1024 1 [⟨S8192x256, A⟩, ⟨S8192x256, B⟩, ⟨S8192x512, O⟩] concatenates_S8192x256_S8192x256_S8192x512_S8192x1024_d1
      (ix2 r (⟨k.val, by omega⟩ : Fin 1024)) = A (ix2 r k) := by
  pointwise

/-- The same, at a channel of the second. -/
theorem cat_b (A B : FVec Ideal S8192x256 .f32) (O : FVec Ideal S8192x512 .f32) (r : Fin 8192) (k : Fin 256) :
    concatenate (α := Ideal .f32) S8192x1024 1 [⟨S8192x256, A⟩, ⟨S8192x256, B⟩, ⟨S8192x512, O⟩] concatenates_S8192x256_S8192x256_S8192x512_S8192x1024_d1
      (ix2 r (⟨256 + k.val, by omega⟩ : Fin 1024)) = B (ix2 r k) := by
  pointwise

/-- The same, at a channel of the third. -/
theorem cat_o (A B : FVec Ideal S8192x256 .f32) (O : FVec Ideal S8192x512 .f32) (r : Fin 8192) (k : Fin 512) :
    concatenate (α := Ideal .f32) S8192x1024 1 [⟨S8192x256, A⟩, ⟨S8192x256, B⟩, ⟨S8192x512, O⟩] concatenates_S8192x256_S8192x256_S8192x512_S8192x1024_d1
      (ix2 r (⟨512 + k.val, by omega⟩ : Fin 1024)) = O (ix2 r k) := by
  pointwise
  rw [dif_neg (by omega), dif_neg (by omega)]
  exact congrArg O (congrArg (ix2 r) (Fin.ext (by show 512 + k.val - 256 - 256 = k.val; omega)))

/-- A token's projection. -/
def yrow (r : Fin 8192) (l : Fin 1024) : EReal :=
  dot3 (fun k => x0 (ix2 r k)) (fun k => x1 (ix2 r k)) (fun k => x2 (ix2 r k)) (fun k l => x7 (ix2 k l)) l

theorem v4_at (r : Fin 8192) (l : Fin 1024) : val_main_v4 (F := Ideal) x0 x1 x2 x7 (ix2 r l) = yrow x0 x1 x2 x7 r l := by
  rw [val_main_v4_apply, sum3]
  have hl : ∀ k : Fin 1024, lidx_main_v4 (ix2 r l) k = ix2 r k := fun k => by funext a; fin_cases a <;> rfl
  have hr : ∀ k : Fin 1024, ridx_main_v4 (ix2 r l) k = ix2 k l := fun k => by funext a; fin_cases a <;> rfl
  simp only [hl, hr]
  have ea : ∀ k : Fin 256, val_main_v3 (F := Ideal) x0 x1 x2 (ix2 r (⟨k.val, by omega⟩ : Fin 1024)) = x0 (ix2 r k) := fun k =>
    (cat_a (val_main_v0 (F := Ideal) x0) (val_main_v1 (F := Ideal) x1) (val_main_v2 (F := Ideal) x2) r k).trans (val_main_v0_apply (F := Ideal) x0 _)
  have eb : ∀ k : Fin 256, val_main_v3 (F := Ideal) x0 x1 x2 (ix2 r (⟨256 + k.val, by omega⟩ : Fin 1024)) = x1 (ix2 r k) := fun k =>
    (cat_b (val_main_v0 (F := Ideal) x0) (val_main_v1 (F := Ideal) x1) (val_main_v2 (F := Ideal) x2) r k).trans (val_main_v1_apply (F := Ideal) x1 _)
  have eo : ∀ k : Fin 512, val_main_v3 (F := Ideal) x0 x1 x2 (ix2 r (⟨512 + k.val, by omega⟩ : Fin 1024)) = x2 (ix2 r k) := fun k =>
    (cat_o (val_main_v0 (F := Ideal) x0) (val_main_v1 (F := Ideal) x1) (val_main_v2 (F := Ideal) x2) r k).trans (val_main_v2_apply (F := Ideal) x2 _)
  simp only [ea, eb, eo]
  rfl

/-- The token a row of a sequence is. -/
def tok (b : Fin 8) (s : Fin 1024) : Fin 8192 := ⟨b.val * 1024 + s.val, by omega⟩

theorem v15_at (i : S8x1024x1024.Idx) (b : Fin 8) (s l : Fin 1024) (h0 : (i 0).val = b.val) (h1 : (i 1).val = s.val) (h2 : (i 2).val = l.val) :
    val_main_v15 (F := Ideal) x0 x1 x2 x7 i = yrow x0 x1 x2 x7 (tok b s) l := by
  rw [val_main_v15_apply, show idx_main_v15 i = ix2 (tok b s) l from funext fun a => Fin.ext (by
      match a with
      | ⟨0, _⟩ => show (((i 0).val * 1024 + (i 1).val) * 1024 + (i 2).val) / 1024 = b.val * 1024 + s.val; omega
      | ⟨1, _⟩ => show (((i 0).val * 1024 + (i 1).val) * 1024 + (i 2).val) % 1024 = l.val; omega), v4_at]

theorem v24_at (b : Fin 8) (s l : Fin 1024) : val_main_v24 (F := Ideal) x0 x1 x2 x7 (ix3 b s l)
    = Ideal.rsqrt (Ideal.div (∑ k, yrow x0 x1 x2 x7 (tok b s) k * yrow x0 x1 x2 x7 (tok b s) k) (Ideal.ofBits FTy.f32 0x44800000#32)
      + Ideal.ofBits FTy.f32 0x358637BD#32) := by
  rw [val_main_v24_apply, val_main_v23_apply, val_main_v22_apply, val_main_v20_apply, val_main_v21_apply, val_main_v18_apply, val_main_v19_apply,
    val_main_v17_apply, val_main_cst_apply, val_main_cst_0_apply, val_main_cst_1_apply]
  have hs : ∀ j : Fin 1024, val_main_v15 (F := Ideal) x0 x1 x2 x7 (idx_main_v17 (idx_main_v18 (idx_main_v24 (ix3 b s l))) j)
    = yrow x0 x1 x2 x7 (tok b s) j := fun j => v15_at x0 x1 x2 x7 _ b s j rfl rfl rfl
  simp only [val_main_v16_apply, hs]
  pointwise

/-- A token's residual. -/
def xrow (b : Fin 8) (r : Fin 8192) (l : Fin 1024) : EReal :=
  res (yrow x0 x1 x2 x7 r) (fun k => x3 (ix2 r k)) (fun k => x4 (ix3 (⟨1 + b.val, by omega⟩ : Fin 16) 2 k)) (fun k => x5 (ix1 k)) l

theorem v31_at (b : Fin 8) (s l : Fin 1024) : val_main_v31 (F := Ideal) x0 x1 x2 x3 x4 x5 x7 (ix3 b s l)
    = xrow x0 x1 x2 x3 x4 x5 x7 b (tok b s) l := by
  rw [val_main_v31_apply, val_main_v14_apply, val_main_v30_apply, val_main_v29_apply, val_main_v7_apply, val_main_v6_apply, val_main_v5_apply,
    val_main_v28_apply, val_main_v27_apply, val_main_v26_apply, val_main_v25_apply, v24_at, v15_at x0 x1 x2 x7 _ b s l rfl rfl rfl]
  have hb : b.val < 8 := b.isLt
  have hs : s.val < 1024 := s.isLt
  have hl : l.val < 1024 := l.isLt
  rw [show idx_main_v14 (ix3 b s l) = ix2 (tok b s) l from funext fun a => Fin.ext (by
      match a with
      | ⟨0, _⟩ => show ((b.val * 1024 + s.val) * 1024 + l.val) / 1024 = b.val * 1024 + s.val; omega
      | ⟨1, _⟩ => show ((b.val * 1024 + s.val) * 1024 + l.val) % 1024 = l.val; omega),
    show idx_main_v26 (idx_main_v27 (ix3 b s l)) = ix1 l from by funext a; fin_cases a; rfl,
    show idx_main_v5 (idx_main_v6 (idx_main_v7 (idx_main_v29 (ix3 b s l)))) = ix3 (⟨1 + b.val, by omega⟩ : Fin 16) 2 l from funext fun a => Fin.ext (by
      match a with
      | ⟨0, _⟩ => show 1 + (b.val * 1024 + l.val) / 1024 = 1 + b.val; omega
      | ⟨1, _⟩ => rfl
      | ⟨2, _⟩ => show (b.val * 1024 + l.val) % 1024 = l.val; omega)]
  rfl

/-- A token's normalized residual. -/
def hrow (b : Fin 8) (r : Fin 8192) (l : Fin 1024) : EReal :=
  nrm (xrow x0 x1 x2 x3 x4 x5 x7 b r) (fun k => x6 (ix1 k)) (fun k => x4 (ix3 (⟨1 + b.val, by omega⟩ : Fin 16) 4 k))
    (fun k => x4 (ix3 (⟨1 + b.val, by omega⟩ : Fin 16) 3 k)) l

theorem v40_at (b : Fin 8) (s l : Fin 1024) : val_main_v40 (F := Ideal) x0 x1 x2 x3 x4 x5 x7 (ix3 b s l)
    = Ideal.rsqrt (Ideal.div (∑ k, xrow x0 x1 x2 x3 x4 x5 x7 b (tok b s) k * xrow x0 x1 x2 x3 x4 x5 x7 b (tok b s) k) (Ideal.ofBits FTy.f32 0x44800000#32)
      + Ideal.ofBits FTy.f32 0x358637BD#32) := by
  rw [val_main_v40_apply, val_main_v39_apply, val_main_v38_apply, val_main_v36_apply, val_main_v37_apply, val_main_v34_apply, val_main_v35_apply,
    val_main_v33_apply, val_main_cst_2_apply, val_main_cst_3_apply, val_main_cst_4_apply]
  have hs : ∀ j : Fin 1024, val_main_v31 (F := Ideal) x0 x1 x2 x3 x4 x5 x7 (idx_main_v33 (idx_main_v34 (idx_main_v40 (ix3 b s l))) j)
    = xrow x0 x1 x2 x3 x4 x5 x7 b (tok b s) j := fun j => by
      rw [show idx_main_v33 (idx_main_v34 (idx_main_v40 (ix3 b s l))) j = ix3 b s j from by funext a; fin_cases a <;> rfl, v31_at]
  simp only [val_main_v32_apply, hs]
  pointwise

theorem v50_at (b : Fin 8) (s l : Fin 1024) : val_main_v50 (F := Ideal) x0 x1 x2 x3 x4 x5 x6 x7 (ix3 b s l)
    = hrow x0 x1 x2 x3 x4 x5 x6 x7 b (tok b s) l := by
  rw [val_main_v50_apply, val_main_v48_apply, val_main_v44_apply, val_main_v41_apply, v40_at, v31_at, val_main_v43_apply, val_main_v42_apply,
    val_main_v47_apply, val_main_v46_apply, val_main_v45_apply, val_main_cst_5_apply, val_main_v13_apply, val_main_v12_apply, val_main_v11_apply,
    val_main_v49_apply, val_main_v10_apply, val_main_v9_apply, val_main_v8_apply]
  have hb : b.val < 8 := b.isLt
  have hl : l.val < 1024 := l.isLt
  rw [show idx_main_v42 (idx_main_v43 (ix3 b s l)) = ix1 l from by funext a; fin_cases a; rfl,
    show idx_main_v11 (idx_main_v12 (idx_main_v13 (idx_main_v47 (ix3 b s l)))) = ix3 (⟨1 + b.val, by omega⟩ : Fin 16) 4 l from funext fun a => Fin.ext (by
      match a with
      | ⟨0, _⟩ => show 1 + (b.val * 1024 + l.val) / 1024 = 1 + b.val; omega
      | ⟨1, _⟩ => rfl
      | ⟨2, _⟩ => show (b.val * 1024 + l.val) % 1024 = l.val; omega),
    show idx_main_v8 (idx_main_v9 (idx_main_v10 (idx_main_v49 (ix3 b s l)))) = ix3 (⟨1 + b.val, by omega⟩ : Fin 16) 3 l from funext fun a => Fin.ext (by
      match a with
      | ⟨0, _⟩ => show 1 + (b.val * 1024 + l.val) / 1024 = 1 + b.val; omega
      | ⟨1, _⟩ => rfl
      | ⟨2, _⟩ => show (b.val * 1024 + l.val) % 1024 = l.val; omega)]
  rfl

/-- The sequence a token is of. -/
def sq (r : Fin 8192) : Fin 8 := ⟨r.val / 1024, by omega⟩

theorem tok_sq (r : Fin 8192) : tok (sq r) ⟨r.val % 1024, by omega⟩ = r := Fin.ext (by
  show r.val / 1024 * 1024 + r.val % 1024 = r.val; omega)

theorem at_tok (r : Fin 8192) (l : Fin 1024) (i : S8x1024x1024.Idx) (h0 : (i 0).val = (r.val * 1024 + l.val) / 1048576)
    (h1 : (i 1).val = (r.val * 1024 + l.val) / 1024 % 1024) (h2 : (i 2).val = (r.val * 1024 + l.val) % 1024) :
    i = ix3 (sq r) (⟨r.val % 1024, by omega⟩ : Fin 1024) l := funext fun a => Fin.ext (by
  have hl : l.val < 1024 := l.isLt
  match a with
  | ⟨0, _⟩ => refine h0.trans ?_; show (r.val * 1024 + l.val) / 1048576 = r.val / 1024; omega
  | ⟨1, _⟩ => refine h1.trans ?_; show (r.val * 1024 + l.val) / 1024 % 1024 = r.val % 1024; omega
  | ⟨2, _⟩ => refine h2.trans ?_; show (r.val * 1024 + l.val) % 1024 = l.val; omega)

/-- The first result: the residuals. -/
theorem x_at (r : Fin 8192) (l : Fin 1024) : val_main_v52 (F := Ideal) x0 x1 x2 x3 x4 x5 x7 (ix2 r l) = xrow x0 x1 x2 x3 x4 x5 x7 (sq r) r l := by
  rw [val_main_v52_apply, at_tok r l (idx_main_v52 (ix2 r l)) rfl rfl rfl, v31_at, tok_sq]

theorem v51_at (r : Fin 8192) (l : Fin 1024) : val_main_v51 (F := Ideal) x0 x1 x2 x3 x4 x5 x6 x7 (ix2 r l)
    = hrow x0 x1 x2 x3 x4 x5 x6 x7 (sq r) r l := by
  rw [val_main_v51_apply, at_tok r l (idx_main_v51 (ix2 r l)) rfl rfl rfl, v50_at, tok_sq]

/-- The second result: the normalized residuals. -/
theorem h_at (r : Fin 8192) (l : Fin 1024) : val_main_v53 (F := Ideal) x0 x1 x2 x3 x4 x5 x6 x7 (ix2 r l)
    = hrow x0 x1 x2 x3 x4 x5 x6 x7 (sq r) r l := by
  rw [val_main_v53_apply, v51_at]; rfl

/-- The third result: the router's scores. -/
theorem g_at (r : Fin 8192) (l : Fin 64) : val_main_v54 (F := Ideal) x0 x1 x2 x3 x4 x5 x6 x7 x8 (ix2 r l)
    = ∑ k, hrow x0 x1 x2 x3 x4 x5 x6 x7 (sq r) r k * x8 (ix2 k l) := by
  rw [val_main_v54_apply]
  refine Finset.sum_congr rfl fun k _ => ?_
  rw [show lidx_main_v54 (ix2 r l) k = ix2 r k from by funext a; fin_cases a <;> rfl,
    show ridx_main_v54 (ix2 r l) k = ix2 k l from by funext a; fin_cases a <;> rfl, v51_at]

end Cert.Own.Pst

end
-- ==== Proof.PstPre.lean ====
module

public import proofs.«01_k».proof.Proof.Gen.Pre_finite_router
public import proofs.«01_k».proof.Proof.AttnPre
public import Idealize.ShloMosaic.Lib.ReduceAll
public import Idealize.ShloMosaic.Lib.Pointwise
public import Idealize.ShloMosaic.Lib.ValueIdx
public import Idealize.ShloMosaic.PureOps.Ideal.Laws

/-! # What the output projection's precondition says -/

@[expose] public section

set_option maxRecDepth 16384

noncomputable section

namespace Cert.Own.Pst

open Idealize.ShloMosaic Idealize.ShloMosaic.TcCoe Idealize.SL.Sem
open Cert.Pre_finite_router Cert.Pre_finite_router.Gen
open Cert.Own.Attn (Fin' fin_of)

/-- The scale and the shift of the second norm, its gain and the router's weights are real numbers. -/
theorem pre_fin (x0 x1 : FVec Ideal S8192x256 .bf16) (x2 : FVec Ideal S8192x512 .bf16) (x3 : FVec Ideal S8192x1024 .f32)
    (x4 : FVec Ideal S16x6x1024 .f32) (x5 x6 : FVec Ideal S1024 .f32) (x7 : FVec Ideal S1024x1024 .f32) (x8 : FVec Ideal S1024x64 .f32)
    (h : fn (F := Ideal) x0 x1 x2 x3 x4 x5 x6 x7 x8 = fun _ => 1#1) :
    (∀ (b : Fin 8) (j : Fin 2) (k : Fin 1024), Fin' (x4 (ix3 (⟨1 + b.val, by omega⟩ : Fin 16) (⟨3 + j.val, by omega⟩ : Fin 6) k)))
      ∧ (∀ i, Fin' (x6 i)) ∧ (∀ i, Fin' (x8 i)) := by
  have h1 := congrFun h ix0
  dsimp only [fn] at h1
  obtain ⟨h1, h8⟩ := IntOp.andi_eq_one.1 h1
  obtain ⟨h4, h6⟩ := IntOp.andi_eq_one.1 h1
  haveI : Subsingleton S_.Idx := ⟨fun a b => by funext d; exact d.elim0⟩
  refine ⟨fun b j k => ?_, fun i => fin_of _ (Host.reduce_andi_all _ _ _ _ _ h6 i), fun i => fin_of _ (Host.reduce_andi_all _ _ _ _ _ h8 i)⟩
  have e : extractStridedSlice S8x2x1024 ![1, 3, 0] x4 slices_S16x6x1024_S8x2x1024_1_3_0 (ix3 b j k)
      = x4 (ix3 (⟨1 + b.val, by omega⟩ : Fin 16) (⟨3 + j.val, by omega⟩ : Fin 6) k) := by pointwise
  rw [← e]
  exact fin_of _ (Host.reduce_andi_all _ _ _ _ _ h4 (ix3 b j k))

end Cert.Own.Pst

end
-- ==== Proof.PstValue.lean ====
module

public import proofs.«01_k».proof.Proof.PstRef
public import proofs.«01_k».proof.Proof.Gen.PostmixIdeal.Frame
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

/-! # The output projection: the kernel's arrays are the reference's -/

@[expose] public section

set_option maxRecDepth 16384

noncomputable section

namespace Cert.Own.Pst

open Idealize.ShloMosaic Idealize.ShloMosaic.TcCoe Idealize.SL.Sem
open Idealize.ShloMosaic.Pipeline (Dat)
open Cert.Own.Attn (Fin')

open Cert.PostmixIdeal Cert.PostmixIdeal.Gen
open Cert.PostmixRefIdeal.Read (val_main_v52 val_main_v53 val_main_v54)
variable (m : (ℓ : Loc nD τ sig) → Buf (Elt Ideal) ℓ)

/-- Which block of each array a grid point works on. -/
theorem idx : ∀ t : Fin cfg0.N, win0_0.index t = ![t.val, 0] ∧ win0_1.index t = ![t.val, 0] ∧ win0_2.index t = ![t.val, 0]
    ∧ win0_3.index t = ![t.val, 0] ∧ win0_4.index t = ![1 + t.val / 4, 0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] :=
  (by decide +kernel : ∀ t : Fin grid0.N, _)

section Pays
variable (v0 v4 : FVec Ideal S256x256 .bf16) (v1 v5 : FVec Ideal S256x1024 .bf16) (v9 : FVec Ideal S256x512 .bf16) (v10 : FVec Ideal S512x1024 .bf16)
  (v14 : FVec Ideal S1x6x1024 .f32) (v18 : FVec Ideal S1x1024 .f32)

/-- The modulation's rows. -/
theorem p1_at (j : Fin 6) (l : Fin 1024) : k0_pay1 (F := Ideal) v14 (ix2 j l) = v14 (ix3 0 j l) := by
  pointwise [k0_pay1]

/-- The gated, normalized projection of the body, at a row and a channel. -/
theorem p2_at (r : Fin 256) (l : Fin 1024) (y : Fin 1024 → EReal)
    (hy : ∀ l, (∑ k, v0 (ix2 r k) * v1 (ix2 k l)) + (∑ k, v4 (ix2 r k) * v5 (ix2 k l)) + ∑ k, v9 (ix2 r k) * v10 (ix2 k l) = y l) :
    k0_pay2 (F := Ideal) v0 v1 v4 v5 v9 v10 v14 v18 (ix2 r l) = v14 (ix3 0 2 l) * (rms y l * v18 (ix2 0 l)) := by
  obtain rfl : y = fun l => (∑ k, v0 (ix2 r k) * v1 (ix2 k l)) + (∑ k, v4 (ix2 r k) * v5 (ix2 k l)) + ∑ k, v9 (ix2 r k) * v10 (ix2 k l) :=
    funext fun l => (hy l).symm
  pointwise [k0_pay2, k0_pay1, rms]

variable (v15 : FVec Ideal S6x1024 .f32) (v16 v33 : FVec Ideal S256x1024 .f32) (v36 : FVec Ideal S1x1024 .f32) (v64 : FVec Ideal S1024x64 .f32)

/-- The residual of the body. -/
theorem p3_at (r : Fin 256) (l : Fin 1024) : k0_pay3 (F := Ideal) v16 v33 (ix2 r l) = v16 (ix2 r l) + v33 (ix2 r l) := by
  pointwise [k0_pay3]

/-- The normalized residual of the body. -/
theorem p4_at (r : Fin 256) (l : Fin 1024) : k0_pay4 (F := Ideal) v15 v16 v33 v36 (ix2 r l)
    = nrm (fun k => k0_pay3 (F := Ideal) v16 v33 (ix2 r k)) (fun k => v36 (ix2 0 k)) (fun k => v15 (ix2 4 k)) (fun k => v15 (ix2 3 k)) l := by
  pointwise [k0_pay4, nrm, rms]

theorem p5_at (r : Fin 256) (l : Fin 1024) : k0_pay5 (F := Ideal) v15 v16 v33 v36 (ix2 r l) = k0_pay4 (F := Ideal) v15 v16 v33 v36 (ix2 r l) := by
  pointwise [k0_pay5]

/-- The scores of the body: the products of the rounded parts and the remainders. -/
theorem p6_at (r : Fin 256) (l : Fin 64) : k0_pay6 (F := Ideal) v15 v16 v33 v36 v64 (ix2 r l)
    = (∑ k, k0_pay4 (F := Ideal) v15 v16 v33 v36 (ix2 r k) * v64 (ix2 k l))
      + ((∑ k, k0_pay4 (F := Ideal) v15 v16 v33 v36 (ix2 r k) * (v64 (ix2 k l) - v64 (ix2 k l)))
        + ∑ k, (k0_pay4 (F := Ideal) v15 v16 v33 v36 (ix2 r k) - k0_pay4 (F := Ideal) v15 v16 v33 v36 (ix2 r k)) * v64 (ix2 k l)) := by
  pointwise [k0_pay6]

end Pays

/-- The contents of the weights and of the gains at the region's entry. -/
theorem entries (c : Dev nD) : V m c main_v0 = m ((c : Thread nD τ).loc main_arg7)
    ∧ V m c main_v1 = shapeCast S1x1024 (m ((c : Thread nD τ).loc main_arg5)) shapeCasts_S1024_S1x1024
    ∧ V m c main_v2 = shapeCast S1x1024 (m ((c : Thread nD τ).loc main_arg6)) shapeCasts_S1024_S1x1024 := by
  refine ⟨?_, ?_, ?_⟩ <;> (entry_read; try rfl)

/-- The residual of row `r` of a grid point's block. -/
def xblk (c : Dev nD) (t : Fin cfg0.N) : FVec Ideal S256x1024 .f32 :=
  k0_pay8 (F := Ideal) (iblk m c 0 t) (iblk m c 1 t) (iblk m c 2 t) (iblk m c 3 t) (iblk m c 4 t) (iblk m c 5 t) (iblk m c 6 t) (iblk m c 7 t) (iblk m c 8 t)

def mblk (c : Dev nD) (t : Fin cfg0.N) : FVec Ideal S6x1024 .f32 :=
  k0_pay7 (F := Ideal) (iblk m c 0 t) (iblk m c 1 t) (iblk m c 2 t) (iblk m c 3 t) (iblk m c 4 t) (iblk m c 5 t) (iblk m c 6 t) (iblk m c 7 t) (iblk m c 8 t)

theorem mblk_at (c : Dev nD) (t : Fin cfg0.N) (j : Fin 6) (l : Fin 1024) (b : Fin 8) (hb : b.val = t.val / 4) :
    mblk m c t (ix2 j l) = m ((c : Thread nD τ).loc main_arg4) (ix3 (⟨1 + b.val, by omega⟩ : Fin 16) j l) := by
  have ht : t.val < 32 := t.isLt
  obtain ⟨b, hbl⟩ := b
  obtain rfl : b = t.val / 4 := hb
  unfold mblk k0_pay7
  rw [p1_at]
  pointwise; blk_ext [iblk, V, idx t]

theorem core_x (c : Dev nD) (t : Fin cfg0.N) (r : Fin 256) (l : Fin 1024) (R : Fin 8192) (b : Fin 8) (hR : R.val = t.val * 256 + r.val)
    (hb : b.val = t.val / 4) :
    k0_pay3 (F := Ideal) (iblk m c 3 t) (xblk m c t) (ix2 r l)
      = xrow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) b R l := by
  obtain ⟨e0, e1, e2⟩ := entries m c
  have ht : t.val < 32 := t.isLt
  have hRb : t.val * 256 + r.val < 8192 := by omega
  rw [show R = ⟨t.val * 256 + r.val, hRb⟩ from Fin.ext hR, show b = ⟨t.val / 4, by omega⟩ from Fin.ext hb, p3_at]
  unfold xblk k0_pay8
  rw [p2_at _ _ _ _ _ _ _ _ r l (yrow (m ((c : Thread nD τ).loc main_arg0)) (m ((c : Thread nD τ).loc main_arg1)) (m ((c : Thread nD τ).loc main_arg2))
          (m ((c : Thread nD τ).loc main_arg7)) ⟨t.val * 256 + r.val, hRb⟩) fun l => by
    unfold yrow dot3
    refine congrArg₂ _ (congrArg₂ _ ?_ ?_) ?_
    · refine Finset.sum_congr rfl fun k _ => congrArg₂ _ ?_ ?_
      · pointwise; blk_ext [iblk, V, idx t]
      · pointwise; blk_ext [iblk, e0, idx t]
    · refine Finset.sum_congr rfl fun k _ => congrArg₂ _ ?_ ?_
      · pointwise; blk_ext [iblk, V, idx t]
      · pointwise; blk_ext [iblk, e0, idx t]
    · refine Finset.sum_congr rfl fun k _ => congrArg₂ _ ?_ ?_
      · pointwise; blk_ext [iblk, V, idx t]
      · pointwise; blk_ext [iblk, e0, idx t]]
  unfold xrow res
  refine congrArg₂ _ ?_ (congrArg₂ _ ?_ (congrArg₂ _ rfl ?_))
  · blk_ext [iblk, V, idx t]
  · pointwise; blk_ext [iblk, V, idx t]
  · pointwise; blk_simp [iblk, e1, idx t]; pointwise; blk_ext [idx t]

theorem core_h (c : Dev nD) (t : Fin cfg0.N) (r : Fin 256) (l : Fin 1024) (R : Fin 8192) (b : Fin 8) (hR : R.val = t.val * 256 + r.val)
    (hb : b.val = t.val / 4) :
    k0_pay4 (F := Ideal) (mblk m c t) (iblk m c 3 t) (xblk m c t) (iblk m c 6 t) (ix2 r l)
      = hrow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b R l := by
  obtain ⟨e0, e1, e2⟩ := entries m c
  rw [p4_at]
  unfold hrow
  congr 1
  · funext k; exact core_x m c t r k R b hR hb
  · funext k; blk_simp [iblk, e2, idx t]; pointwise; blk_ext [idx t]
  · funext k; exact mblk_at m c t 4 k b hb
  · funext k; exact mblk_at m c t 3 k b hb

/-- The residuals after the run. -/
theorem final9 (c : Dev nD) : (dats m 0 c).arrAt 9 (cfgs 0).N
      = val_main_v52 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) := by
  refine (dats m 0 c).arrAt_eq_of_covers 9 _ (by decide +kernel) fun t _ y => ?_
  blk_simp
  rw [after0_9]; frame_out
  idx_vars y
  have ht : t.val < 32 := t.isLt
  have he : ((cfg0.win 9).blk t).view.emb (ix2 y0 y1) = ix2 (⟨t.val * 256 + y0.val, by omega⟩ : Fin 8192) y1 := by
    blk_ext [idx t]
  rw [he, x_at]
  exact core_x m c t y0 y1 (⟨t.val * 256 + y0.val, by omega⟩ : Fin 8192) (sq (⟨t.val * 256 + y0.val, by omega⟩ : Fin 8192)) rfl (by show (t.val * 256 + y0.val) / 1024 = t.val / 4; omega)

/-- The normalized residuals after the run. -/
theorem final10 (c : Dev nD) : (dats m 0 c).arrAt 10 (cfgs 0).N
      = val_main_v53 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 10 _ (by decide +kernel) fun t _ y => ?_
  blk_simp
  rw [after0_10]; frame_out
  idx_vars y
  have ht : t.val < 32 := t.isLt
  have he : ((cfg0.win 10).blk t).view.emb (ix2 y0 y1) = ix2 (⟨t.val * 256 + y0.val, by omega⟩ : Fin 8192) y1 := by
    blk_ext [idx t]
  rw [he, h_at, p5_at]
  exact core_h m c t y0 y1 (⟨t.val * 256 + y0.val, by omega⟩ : Fin 8192) (sq (⟨t.val * 256 + y0.val, by omega⟩ : Fin 8192)) rfl (by show (t.val * 256 + y0.val) / 1024 = t.val / 4; omega)

/-- The scores of row `r` of a grid point's block: the remainders of real numbers are zero. -/
theorem core_g (c : Dev nD) (t : Fin cfg0.N) (r : Fin 256) (l : Fin 64) (R : Fin 8192) (b : Fin 8) (hR : R.val = t.val * 256 + r.val)
    (hb : b.val = t.val / 4)
    (h4 : ∀ (b : Fin 8) (j : Fin 2) (k : Fin 1024),
      Fin' (m ((c : Thread nD τ).loc main_arg4) (ix3 (⟨1 + b.val, by omega⟩ : Fin 16) (⟨3 + j.val, by omega⟩ : Fin 6) k)))
    (h6 : ∀ i, Fin' (m ((c : Thread nD τ).loc main_arg6) i)) (h8 : ∀ i, Fin' (m ((c : Thread nD τ).loc main_arg8) i)) :
    k0_pay6 (F := Ideal) (mblk m c t) (iblk m c 3 t) (xblk m c t) (iblk m c 6 t) (iblk m c 8 t) (ix2 r l)
      = ∑ k, hrow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b R k
          * m ((c : Thread nD τ).loc main_arg8) (ix2 k l) := by
  have hh : ∀ k, k0_pay4 (F := Ideal) (mblk m c t) (iblk m c 3 t) (xblk m c t) (iblk m c 6 t) (ix2 r k)
      = hrow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b R k := fun k => core_h m c t r k R b hR hb
  have hw : ∀ k, iblk m c 8 t (ix2 k l) = m ((c : Thread nD τ).loc main_arg8) (ix2 k l) := fun k => by
    blk_ext [iblk, V, idx t]
  rw [p6_at]
  simp only [hh, hw]
  exact split_eq _ _ (fun k => nrm_fin _ _ _ _ (fun k => h6 _) (fun k => h4 _ 1 k) (fun k => h4 _ 0 k) k) fun k => h8 _

/-- The router's scores after the run, where the second norm's scale, shift and gain and the router's weights are real numbers. -/
theorem final11 (c : Dev nD)
    (h4 : ∀ (b : Fin 8) (j : Fin 2) (k : Fin 1024),
      Fin' (m ((c : Thread nD τ).loc main_arg4) (ix3 (⟨1 + b.val, by omega⟩ : Fin 16) (⟨3 + j.val, by omega⟩ : Fin 6) k)))
    (h6 : ∀ i, Fin' (m ((c : Thread nD τ).loc main_arg6) i)) (h8 : ∀ i, Fin' (m ((c : Thread nD τ).loc main_arg8) i)) :
    (dats m 0 c).arrAt 11 (cfgs 0).N
      = val_main_v54 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]; frame_out
  idx_vars y
  have ht : t.val < 32 := t.isLt
  have he : ((cfg0.win 11).blk t).view.emb (ix2 y0 y1) = ix2 (⟨t.val * 256 + y0.val, by omega⟩ : Fin 8192) y1 := by
    blk_ext [idx t]
  rw [he, g_at]
  exact core_g m c t y0 y1 (⟨t.val * 256 + y0.val, by omega⟩ : Fin 8192) (sq (⟨t.val * 256 + y0.val, by omega⟩ : Fin 8192)) rfl (by show (t.val * 256 + y0.val) / 1024 = t.val / 4; omega) h4 h6 h8

end Cert.Own.Pst

end
-- ==== Proof.ModValue.lean ====
module

public import proofs.«01_k».proof.Proof.Gen.ModulationIdeal.Frame
public import proofs.«01_k».proof.Proof.Gen.ModulationRefIdeal.Run
public import proofs.«01_k».proof.Proof.Gen.ModulationRefIdeal.Read
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

/-! # The modulation of the layers: the kernel's array is the reference's -/

@[expose] public section

set_option maxRecDepth 16384

noncomputable section

namespace Cert.Own.Mod

open Idealize.ShloMosaic Idealize.ShloMosaic.TcCoe Idealize.SL.Sem
open Idealize.ShloMosaic.Pipeline (Dat)

/-- A condition's entry after its activation. -/
def act (x : EReal) : EReal := x * Ideal.logistic x

/-- An activated condition's product with a column of the weights, and the bias. -/
def cell (x w : Fin 1024 → EReal) (b : EReal) : EReal := (∑ k, act (x k) * w k) + b

section Ref
open Cert.ModulationRefIdeal Cert.ModulationRefIdeal.Gen Cert.ModulationRefIdeal.Read

variable (x0 : FVec Ideal S16x1024 .f32) (x1 : FVec Ideal S2x1024x6144 .f32) (x2 : FVec Ideal S2x6144 .f32)

theorem act_at (b : Fin 16) (k : Fin 1024) : val_main_v0 (F := Ideal) x0 (ix2 b k) = act (x0 (ix2 b k)) := by
  rw [val_main_v0_apply, val_main_call0_v5_apply, val_main_call0_v4_apply, val_main_call0_v3_apply, val_main_call0_v2_apply, val_main_call0_v1_apply,
    val_main_call0_v0_apply, val_main_call0_cst_apply, val_main_call0_cst_0_apply]
  pointwise [act]
  rfl

/-- The reference at a layer, a condition and a column. -/
theorem ref_at (l : Fin 2) (b : Fin 16) (e : Fin 6144) : val_main_v5 (F := Ideal) x0 x1 x2 (ix3 l b e)
    = cell (fun k => x0 (ix2 b k)) (fun k => x1 (ix3 l k e)) (x2 (ix2 l e)) := by
  rw [val_main_v5_apply, val_main_v2_apply, val_main_v1_apply, val_main_v4_apply, val_main_v3_apply]
  unfold cell
  refine congrArg₂ (fun x y : EReal => x + y) (Finset.sum_congr rfl fun k _ => ?_) ?_
  · rw [show lidx_main_v1 (idx_main_v2 (ix3 l b e)) k = ix3 l k e from by funext a; fin_cases a <;> rfl,
      show ridx_main_v1 (idx_main_v2 (ix3 l b e)) k = ix2 b k from by funext a; fin_cases a <;> rfl, act_at]
    exact mul_comm (x1 (ix3 l k e)) (act (x0 (ix2 b k)))
  · exact congrArg x2 (by funext a; fin_cases a <;> rfl)

end Ref

open Cert.ModulationIdeal Cert.ModulationIdeal.Gen
open Cert.ModulationRefIdeal.Read (val_main_v5)
variable (m : (ℓ : Loc nD τ sig) → Buf (Elt Ideal) ℓ)

/-- Which block of each array a grid point works on. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- What the body stores, at a condition and a column of the block. -/
theorem pay_at (v0 : FVec Ideal S16x1024 .f32) (v4 : FVec Ideal S1x1024x1536 .f32) (v8 : FVec Ideal S1x1x1536 .f32) (p : Fin 1) (b : Fin 16) (e : Fin 1536) :
    k0_pay1 (F := Ideal) v0 v4 v8 (ix3 p b e) = cell (fun k => v0 (ix2 b k)) (fun k => v4 (ix3 0 k e)) (v8 (ix3 0 0 e)) := by
  pointwise [k0_pay1, cell, act]

/-- The contents of the bias at the region's entry. -/
theorem entries (c : Dev nD) : V m c main_v0 = shapeCast S2x1x6144 (m ((c : Thread nD τ).loc main_arg2)) shapeCasts_S2x6144_S2x1x6144 := by
  entry_read; try rfl

/-- The bias with a row dimension between its two, at an index. -/
theorem bias_at (x : FVec Ideal S2x6144 .f32) (l : Fin 2) (p : Fin 1) (e : Fin 6144) :
    shapeCast S2x1x6144 x shapeCasts_S2x6144_S2x1x6144 (ix3 l p e) = x (ix2 l e) := by
  pointwise

/-- The array after the run is the reference's. -/
theorem final (c : Dev nD) : (dats m 0 c).arrAt 3 (cfgs 0).N
      = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  have ht : t.val < 8 := t.isLt
  have he : ((cfg0.win 3).blk t).view.emb (ix3 y0 y1 y2)
      = ix3 (⟨t.val / 4, by omega⟩ : Fin 2) y1 (⟨t.val % 4 * 1536 + y2.val, by omega⟩ : Fin 6144) := by
    blk_ext [idx t]
  have e0 := entries m c
  rw [he, ref_at, pay_at]
  congr 1
  · funext k; blk_ext [iblk, V, idx t]
  · funext k; blk_ext [iblk, V, idx t]
  · have hb : ((cfg0.win 2).blk t).view.emb (ix3 0 0 y2)
        = ix3 (⟨t.val / 4, by omega⟩ : Fin 2) (0 : Fin 1) (⟨t.val % 4 * 1536 + y2.val, by omega⟩ : Fin 6144) := by
      blk_ext [idx t]
    show V m c main_v0 (((cfg0.win 2).blk t).view.emb (ix3 0 0 y2)) = _
    rw [hb, e0]
    exact bias_at _ _ _ _

end Cert.Own.Mod

end
-- ==== Proof.ConBody.lean ====
module

public import proofs.«01_k».proof.Proof.Gen.ConformerIdeal.Loops
public import proofs.«01_k».proof.Proof.Gen.ConformerIdeal.Frame
public import Idealize.ShloMosaic.Lib.VecWindow
public import Idealize.ShloMosaic.Lib.Pointwise

/-! # The conformer convolution's kernel: one run of its body -/

@[expose] public section

set_option maxRecDepth 16384

noncomputable section

namespace Cert.ConformerIdeal.Run

open Cert.ConformerIdeal Cert.ConformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop makes four trips. -/
theorem trips_eq : k0_t1_loop.trips = 4 := by decide

/-- The gated values of a sequence with sixteen rows of zeros before and after it. -/
def padv (x0 : Vec F S256x512 .bf16) : Vec F S288x256 .f32 := fun y =>
  if h : 16 ≤ (y 0).val ∧ (y 0).val < 272 then k0_pay21 x0 (ValueIdx.ix2 (⟨(y 0).val - 16, by omega⟩ : Fin 256) (y 1)) else Scalar.ofBits .f32 0x00000000#32

/-- The same moved up by the copy's number. -/
def shv (x0 : Vec F S256x512 .bf16) : Vec F S8x288x256 .f32 := fun y =>
  if h : (y 1).val + (y 0).val < 288 then padv x0 (ValueIdx.ix2 (⟨(y 1).val + (y 0).val, h⟩ : Fin 288) (y 2)) else Scalar.ofBits .f32 0x00000000#32

/-- Sixty-four rows of the result, from the moved copies, the taps, the bias and the norm's weights. -/
def chunk (sh : Vec F S8x288x256 .f32) (x1 : Vec F S31x256 .f32) (x2 x3 x4 : Vec F S1x256 .f32) (k0_t1 : Fin k0_t1_loop.trips) : Vec F S64x256 .bf16 :=
  let v54 : Vec F S1x64x256 .f32 := View.ld sh (Rect.unit (s := S8x288x256) (k0_off1 k0_t1 0#32) S1x64x256.size (k0_off1_inb k0_t1 0))
  let v56 : Vec F S1x256 .f32 := View.ld x1 (Rect.unit (s := S31x256) ![0, 0] S1x256.size inb_S31x256_S1x256_0_0)
  let v62 : Vec F S1x64x256 .f32 := View.ld sh (Rect.unit (s := S8x288x256) (k0_off2 k0_t1 0#32) S1x64x256.size (k0_off2_inb k0_t1 0))
  let v64 : Vec F S1x256 .f32 := View.ld x1 (Rect.unit (s := S31x256) ![1, 0] S1x256.size inb_S31x256_S1x256_1_0)
  let v70 : Vec F S1x64x256 .f32 := View.ld sh (Rect.unit (s := S8x288x256) (k0_off3 k0_t1 0#32) S1x64x256.size (k0_off3_inb k0_t1 0))
  let v72 : Vec F S1x256 .f32 := View.ld x1 (Rect.unit (s := S31x256) ![2, 0] S1x256.size inb_S31x256_S1x256_2_0)
  let v78 : Vec F S1x64x256 .f32 := View.ld sh (Rect.unit (s := S8x288x256) (k0_off4 k0_t1 0#32) S1x64x256.size (k0_off4_inb k0_t1 0))
  let v80 : Vec F S1x256 .f32 := View.ld x1 (Rect.unit (s := S31x256) ![3, 0] S1x256.size inb_S31x256_S1x256_3_0)
  let v86 : Vec F S1x64x256 .f32 := View.ld sh (Rect.unit (s := S8x288x256) (k0_off5 k0_t1 0#32) S1x64x256.size (k0_off5_inb k0_t1 0))
  let v88 : Vec F S1x256 .f32 := View.ld x1 (Rect.unit (s := S31x256) ![4, 0] S1x256.size inb_S31x256_S1x256_4_0)
  let v94 : Vec F S1x64x256 .f32 := View.ld sh (Rect.unit (s := S8x288x256) (k0_off6 k0_t1 0#32) S1x64x256.size (k0_off6_inb k0_t1 0))
  let v96 : Vec F S1x256 .f32 := View.ld x1 (Rect.unit (s := S31x256) ![5, 0] S1x256.size inb_S31x256_S1x256_5_0)
  let v102 : Vec F S1x64x256 .f32 := View.ld sh (Rect.unit (s := S8x288x256) (k0_off7 k0_t1 0#32) S1x64x256.size (k0_off7_inb k0_t1 0))
  let v104 : Vec F S1x256 .f32 := View.ld x1 (Rect.unit (s := S31x256) ![6, 0] S1x256.size inb_S31x256_S1x256_6_0)
  let v110 : Vec F S1x64x256 .f32 := View.ld sh (Rect.unit (s := S8x288x256) (k0_off8 k0_t1 8#32) S1x64x256.size (k0_off8_inb k0_t1 0))
  let v112 : Vec F S1x256 .f32 := View.ld x1 (Rect.unit (s := S31x256) ![7, 0] S1x256.size inb_S31x256_S1x256_7_0)
  let v118 : Vec F S1x64x256 .f32 := View.ld sh (Rect.unit (s := S8x288x256) (k0_off1 k0_t1 8#32) S1x64x256.size (k0_off1_inb k0_t1 1))
  let v120 : Vec F S1x256 .f32 := View.ld x1 (Rect.unit (s := S31x256) ![8, 0] S1x256.size inb_S31x256_S1x256_8_0)
  let v126 : Vec F S1x64x256 .f32 := View.ld sh (Rect.unit (s := S8x288x256) (k0_off2 k0_t1 8#32) S1x64x256.size (k0_off2_inb k0_t1 1))
  let v128 : Vec F S1x256 .f32 := View.ld x1 (Rect.unit (s := S31x256) ![9, 0] S1x256.size inb_S31x256_S1x256_9_0)
  let v134 : Vec F S1x64x256 .f32 := View.ld sh (Rect.unit (s := S8x288x256) (k0_off3 k0_t1 8#32) S1x64x256.size (k0_off3_inb k0_t1 1))
  let v136 : Vec F S1x256 .f32 := View.ld x1 (Rect.unit (s := S31x256) ![10, 0] S1x256.size inb_S31x256_S1x256_10_0)
  let v142 : Vec F S1x64x256 .f32 := View.ld sh (Rect.unit (s := S8x288x256) (k0_off4 k0_t1 8#32) S1x64x256.size (k0_off4_inb k0_t1 1))
  let v144 : Vec F S1x256 .f32 := View.ld x1 (Rect.unit (s := S31x256) ![11, 0] S1x256.size inb_S31x256_S1x256_11_0)
  let v150 : Vec F S1x64x256 .f32 := View.ld sh (Rect.unit (s := S8x288x256) (k0_off5 k0_t1 8#32) S1x64x256.size (k0_off5_inb k0_t1 1))
  let v152 : Vec F S1x256 .f32 := View.ld x1 (Rect.unit (s := S31x256) ![12, 0] S1x256.size inb_S31x256_S1x256_12_0)
  let v158 : Vec F S1x64x256 .f32 := View.ld sh (Rect.unit (s := S8x288x256) (k0_off6 k0_t1 8#32) S1x64x256.size (k0_off6_inb k0_t1 1))
  let v160 : Vec F S1x256 .f32 := View.ld x1 (Rect.unit (s := S31x256) ![13, 0] S1x256.size inb_S31x256_S1x256_13_0)
  let v166 : Vec F S1x64x256 .f32 := View.ld sh (Rect.unit (s := S8x288x256) (k0_off7 k0_t1 8#32) S1x64x256.size (k0_off7_inb k0_t1 1))
  let v168 : Vec F S1x256 .f32 := View.ld x1 (Rect.unit (s := S31x256) ![14, 0] S1x256.size inb_S31x256_S1x256_14_0)
  let v174 : Vec F S1x64x256 .f32 := View.ld sh (Rect.unit (s := S8x288x256) (k0_off8 k0_t1 16#32) S1x64x256.size (k0_off8_inb k0_t1 1))
  let v176 : Vec F S1x256 .f32 := View.ld x1 (Rect.unit (s := S31x256) ![15, 0] S1x256.size inb_S31x256_S1x256_15_0)
  let v182 : Vec F S1x64x256 .f32 := View.ld sh (Rect.unit (s := S8x288x256) (k0_off1 k0_t1 16#32) S1x64x256.size (k0_off1_inb k0_t1 2))
  let v184 : Vec F S1x256 .f32 := View.ld x1 (Rect.unit (s := S31x256) ![16, 0] S1x256.size inb_S31x256_S1x256_16_0)
  let v190 : Vec F S1x64x256 .f32 := View.ld sh (Rect.unit (s := S8x288x256) (k0_off2 k0_t1 16#32) S1x64x256.size (k0_off2_inb k0_t1 2))
  let v192 : Vec F S1x256 .f32 := View.ld x1 (Rect.unit (s := S31x256) ![17, 0] S1x256.size inb_S31x256_S1x256_17_0)
  let v198 : Vec F S1x64x256 .f32 := View.ld sh (Rect.unit (s := S8x288x256) (k0_off3 k0_t1 16#32) S1x64x256.size (k0_off3_inb k0_t1 2))
  let v200 : Vec F S1x256 .f32 := View.ld x1 (Rect.unit (s := S31x256) ![18, 0] S1x256.size inb_S31x256_S1x256_18_0)
  let v206 : Vec F S1x64x256 .f32 := View.ld sh (Rect.unit (s := S8x288x256) (k0_off4 k0_t1 16#32) S1x64x256.size (k0_off4_inb k0_t1 2))
  let v208 : Vec F S1x256 .f32 := View.ld x1 (Rect.unit (s := S31x256) ![19, 0] S1x256.size inb_S31x256_S1x256_19_0)
  let v214 : Vec F S1x64x256 .f32 := View.ld sh (Rect.unit (s := S8x288x256) (k0_off5 k0_t1 16#32) S1x64x256.size (k0_off5_inb k0_t1 2))
  let v216 : Vec F S1x256 .f32 := View.ld x1 (Rect.unit (s := S31x256) ![20, 0] S1x256.size inb_S31x256_S1x256_20_0)
  let v222 : Vec F S1x64x256 .f32 := View.ld sh (Rect.unit (s := S8x288x256) (k0_off6 k0_t1 16#32) S1x64x256.size (k0_off6_inb k0_t1 2))
  let v224 : Vec F S1x256 .f32 := View.ld x1 (Rect.unit (s := S31x256) ![21, 0] S1x256.size inb_S31x256_S1x256_21_0)
  let v230 : Vec F S1x64x256 .f32 := View.ld sh (Rect.unit (s := S8x288x256) (k0_off7 k0_t1 16#32) S1x64x256.size (k0_off7_inb k0_t1 2))
  let v232 : Vec F S1x256 .f32 := View.ld x1 (Rect.unit (s := S31x256) ![22, 0] S1x256.size inb_S31x256_S1x256_22_0)
  let v238 : Vec F S1x64x256 .f32 := View.ld sh (Rect.unit (s := S8x288x256) (k0_off8 k0_t1 24#32) S1x64x256.size (k0_off8_inb k0_t1 2))
  let v240 : Vec F S1x256 .f32 := View.ld x1 (Rect.unit (s := S31x256) ![23, 0] S1x256.size inb_S31x256_S1x256_23_0)
  let v246 : Vec F S1x64x256 .f32 := View.ld sh (Rect.unit (s := S8x288x256) (k0_off1 k0_t1 24#32) S1x64x256.size (k0_off1_inb k0_t1 3))
  let v248 : Vec F S1x256 .f32 := View.ld x1 (Rect.unit (s := S31x256) ![24, 0] S1x256.size inb_S31x256_S1x256_24_0)
  let v254 : Vec F S1x64x256 .f32 := View.ld sh (Rect.unit (s := S8x288x256) (k0_off2 k0_t1 24#32) S1x64x256.size (k0_off2_inb k0_t1 3))
  let v256 : Vec F S1x256 .f32 := View.ld x1 (Rect.unit (s := S31x256) ![25, 0] S1x256.size inb_S31x256_S1x256_25_0)
  let v262 : Vec F S1x64x256 .f32 := View.ld sh (Rect.unit (s := S8x288x256) (k0_off3 k0_t1 24#32) S1x64x256.size (k0_off3_inb k0_t1 3))
  let v264 : Vec F S1x256 .f32 := View.ld x1 (Rect.unit (s := S31x256) ![26, 0] S1x256.size inb_S31x256_S1x256_26_0)
  let v270 : Vec F S1x64x256 .f32 := View.ld sh (Rect.unit (s := S8x288x256) (k0_off4 k0_t1 24#32) S1x64x256.size (k0_off4_inb k0_t1 3))
  let v272 : Vec F S1x256 .f32 := View.ld x1 (Rect.unit (s := S31x256) ![27, 0] S1x256.size inb_S31x256_S1x256_27_0)
  let v278 : Vec F S1x64x256 .f32 := View.ld sh (Rect.unit (s := S8x288x256) (k0_off5 k0_t1 24#32) S1x64x256.size (k0_off5_inb k0_t1 3))
  let v280 : Vec F S1x256 .f32 := View.ld x1 (Rect.unit (s := S31x256) ![28, 0] S1x256.size inb_S31x256_S1x256_28_0)
  let v286 : Vec F S1x64x256 .f32 := View.ld sh (Rect.unit (s := S8x288x256) (k0_off6 k0_t1 24#32) S1x64x256.size (k0_off6_inb k0_t1 3))
  let v288 : Vec F S1x256 .f32 := View.ld x1 (Rect.unit (s := S31x256) ![29, 0] S1x256.size inb_S31x256_S1x256_29_0)
  let v294 : Vec F S1x64x256 .f32 := View.ld sh (Rect.unit (s := S8x288x256) (k0_off7 k0_t1 24#32) S1x64x256.size (k0_off7_inb k0_t1 3))
  let v296 : Vec F S1x256 .f32 := View.ld x1 (Rect.unit (s := S31x256) ![30, 0] S1x256.size inb_S31x256_S1x256_30_0)
  let v300 : Vec F S1x256 .f32 := View.ld x2 (Rect.unit (s := S1x256) ![0, 0] S1x256.size inb_S1x256_S1x256_0_0)
  let v83 := k0_pay7 v54 v56 v62 v64 v70 v72 v78 v80
  let v115 := k0_pay8 v83 v86 v88 v94 v96 v102 v104 v110 v112
  let v155 := k0_pay10 v115 (k0_pay9 v118) v120 v126 v128 v134 v136 v142 v144 v150 v152
  let v195 := k0_pay11 v155 v158 v160 v166 v168 v174 v176 v182 v184 v190 v192
  let v227 := k0_pay12 v195 v198 v200 v206 v208 v214 v216 v222 v224
  let v267 := k0_pay14 v227 (k0_pay13 v230) v232 v238 v240 v246 v248 v254 v256 v262 v264
  k0_pay6 (k0_pay15 v267 v270 v272 v278 v280 v286 v288 v294 v296 v300) (k0_pay16 v267 v270 v272 v278 v280 v286 v288 v294 v296 v300) k0_pay17
    (View.ld x3 (Rect.unit (s := S1x256) ![0, 0] S1x256.size inb_S1x256_S1x256_0_0)) (View.ld x4 (Rect.unit (s := S1x256) ![0, 0] S1x256.size inb_S1x256_S1x256_0_0))

/-- A load of rows below 280 sees only rows below 280. -/
theorem ld_congr {Y Z : Vec F S8x288x256 .f32} (h : ∀ y : S8x288x256.Idx, (y 1).val < 280 → Y y = Z y) (off : Fin 3 → ℕ)
    (inb : ∀ a, off a + S1x64x256.size a ≤ S8x288x256.size a) (ho : off 1 + 64 ≤ 280) :
    View.ld Y (Rect.unit (s := S8x288x256) off S1x64x256.size inb) = View.ld Z (Rect.unit (s := S8x288x256) off S1x64x256.size inb) := by
  funext y
  refine h _ ?_
  have := (y 1).isLt
  have h64 : (y 1).val < 64 := this
  show off 1 + 1 * (y 1).val < 280
  omega

/-- Every load of a trip is of rows below 280. -/
theorem off_le : ∀ k : Fin k0_t1_loop.trips, k0_off1 k 0#32 1 + 64 ≤ 280 ∧ k0_off2 k 0#32 1 + 64 ≤ 280 ∧ k0_off3 k 0#32 1 + 64 ≤ 280 ∧ k0_off4 k 0#32 1 + 64 ≤ 280 ∧ k0_off5 k 0#32 1 + 64 ≤ 280 ∧ k0_off6 k 0#32 1 + 64 ≤ 280 ∧ k0_off7 k 0#32 1 + 64 ≤ 280 ∧ k0_off8 k 8#32 1 + 64 ≤ 280 ∧ k0_off1 k 8#32 1 + 64 ≤ 280 ∧ k0_off2 k 8#32 1 + 64 ≤ 280 ∧ k0_off3 k 8#32 1 + 64 ≤ 280 ∧ k0_off4 k 8#32 1 + 64 ≤ 280 ∧ k0_off5 k 8#32 1 + 64 ≤ 280 ∧ k0_off6 k 8#32 1 + 64 ≤ 280 ∧ k0_off7 k 8#32 1 + 64 ≤ 280 ∧ k0_off8 k 16#32 1 + 64 ≤ 280 ∧ k0_off1 k 16#32 1 + 64 ≤ 280 ∧ k0_off2 k 16#32 1 + 64 ≤ 280 ∧ k0_off3 k 16#32 1 + 64 ≤ 280 ∧ k0_off4 k 16#32 1 + 64 ≤ 280 ∧ k0_off5 k 16#32 1 + 64 ≤ 280 ∧ k0_off6 k 16#32 1 + 64 ≤ 280 ∧ k0_off7 k 16#32 1 + 64 ≤ 280 ∧ k0_off8 k 24#32 1 + 64 ≤ 280 ∧ k0_off1 k 24#32 1 + 64 ≤ 280 ∧ k0_off2 k 24#32 1 + 64 ≤ 280 ∧ k0_off3 k 24#32 1 + 64 ≤ 280 ∧ k0_off4 k 24#32 1 + 64 ≤ 280 ∧ k0_off5 k 24#32 1 + 64 ≤ 280 ∧ k0_off6 k 24#32 1 + 64 ≤ 280 ∧ k0_off7 k 24#32 1 + 64 ≤ 280 := by decide +kernel

/-- A trip's rows depend on rows below 280 only. -/
theorem chunk_congr {Y Z : Vec F S8x288x256 .f32} (h : ∀ y : S8x288x256.Idx, (y 1).val < 280 → Y y = Z y) (x1 : Vec F S31x256 .f32) (x2 x3 x4 : Vec F S1x256 .f32) (k : Fin k0_t1_loop.trips) :
    chunk Y x1 x2 x3 x4 k = chunk Z x1 x2 x3 x4 k := by
  obtain ⟨h0, h1, h2, h3, h4, h5, h6, h7, h8, h9, h10, h11, h12, h13, h14, h15, h16, h17, h18, h19, h20, h21, h22, h23, h24, h25, h26, h27, h28, h29, h30⟩ := off_le k
  unfold chunk
  rw [ld_congr h (k0_off1 k 0#32) (k0_off1_inb k 0) h0]
  rw [ld_congr h (k0_off2 k 0#32) (k0_off2_inb k 0) h1]
  rw [ld_congr h (k0_off3 k 0#32) (k0_off3_inb k 0) h2]
  rw [ld_congr h (k0_off4 k 0#32) (k0_off4_inb k 0) h3]
  rw [ld_congr h (k0_off5 k 0#32) (k0_off5_inb k 0) h4]
  rw [ld_congr h (k0_off6 k 0#32) (k0_off6_inb k 0) h5]
  rw [ld_congr h (k0_off7 k 0#32) (k0_off7_inb k 0) h6]
  rw [ld_congr h (k0_off8 k 8#32) (k0_off8_inb k 0) h7]
  rw [ld_congr h (k0_off1 k 8#32) (k0_off1_inb k 1) h8]
  rw [ld_congr h (k0_off2 k 8#32) (k0_off2_inb k 1) h9]
  rw [ld_congr h (k0_off3 k 8#32) (k0_off3_inb k 1) h10]
  rw [ld_congr h (k0_off4 k 8#32) (k0_off4_inb k 1) h11]
  rw [ld_congr h (k0_off5 k 8#32) (k0_off5_inb k 1) h12]
  rw [ld_congr h (k0_off6 k 8#32) (k0_off6_inb k 1) h13]
  rw [ld_congr h (k0_off7 k 8#32) (k0_off7_inb k 1) h14]
  rw [ld_congr h (k0_off8 k 16#32) (k0_off8_inb k 1) h15]
  rw [ld_congr h (k0_off1 k 16#32) (k0_off1_inb k 2) h16]
  rw [ld_congr h (k0_off2 k 16#32) (k0_off2_inb k 2) h17]
  rw [ld_congr h (k0_off3 k 16#32) (k0_off3_inb k 2) h18]
  rw [ld_congr h (k0_off4 k 16#32) (k0_off4_inb k 2) h19]
  rw [ld_congr h (k0_off5 k 16#32) (k0_off5_inb k 2) h20]
  rw [ld_congr h (k0_off6 k 16#32) (k0_off6_inb k 2) h21]
  rw [ld_congr h (k0_off7 k 16#32) (k0_off7_inb k 2) h22]
  rw [ld_congr h (k0_off8 k 24#32) (k0_off8_inb k 2) h23]
  rw [ld_congr h (k0_off1 k 24#32) (k0_off1_inb k 3) h24]
  rw [ld_congr h (k0_off2 k 24#32) (k0_off2_inb k 3) h25]
  rw [ld_congr h (k0_off3 k 24#32) (k0_off3_inb k 3) h26]
  rw [ld_congr h (k0_off4 k 24#32) (k0_off4_inb k 3) h27]
  rw [ld_congr h (k0_off5 k 24#32) (k0_off5_inb k 3) h28]
  rw [ld_congr h (k0_off6 k 24#32) (k0_off6_inb k 3) h29]
  rw [ld_congr h (k0_off7 k 24#32) (k0_off7_inb k 3) h30]

/-- Rows of the result, by trips of sixty-four. -/
def outB (x0 : Vec F S256x512 .bf16) (x1 : Vec F S31x256 .f32) (x2 x3 x4 : Vec F S1x256 .f32) : Vec F S256x256 .bf16 := fun y =>
  chunk (shv x0) x1 x2 x3 x4 ⟨(y 0).val / 64, by rw [trips_eq]; have : (y 0).val < 256 := (y 0).isLt; omega⟩ (ValueIdx.ix2 (⟨(y 0).val % 64, Nat.mod_lt _ (by decide)⟩ : Fin 64) (y 1))

set_option maxHeartbeats 4000000 in
/-- What a trip stores. -/
theorem tripL_eq (𝒱 : Variants) (c : Dev nD) (bd : Option 𝒱.V) (i : grid0.Coords) (arg1 : Memref sig .tc .vmem S256x512 .bf16) (harg1 : arg1.IsWhole) (arg2 : Memref sig .tc .vmem S31x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S288x256 .f32) (harg7 : arg7.IsWhole) (arg8 : Memref sig .tc .vmem S8x288x256 .f32) (harg8 : arg8.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (k : Fin k0_t1_loop.trips) :
    tripL_k0_t1 (F := F) 𝒱 c bd i arg1 harg1 arg2 harg2 arg3 harg3 arg4 harg4 arg5 harg5 arg6 harg6 arg7 harg7 arg8 harg8 X2 X3 X4 X5 X8 k
      = [⟨Rect.unit (k0_off9 k) S64x256.size (k0_off9_inb k), chunk (arg8.view.read (Elt F) X8) (arg2.view.read (Elt F) X2) (arg3.view.read (Elt F) X3) (arg4.view.read (Elt F) X4) (arg5.view.read (Elt F) X5) k⟩] := by
  unfold tripL_k0_t1 trip_k0_t1
  rfl

/-- Where a trip's rows lie. -/
theorem off9_eq : ∀ k : Fin k0_t1_loop.trips, k0_off9 k 0 = 64 * k.val ∧ k0_off9 k 1 = 0 := by decide +kernel

set_option maxHeartbeats 1000000 in
/-- The result's buffer after the loop. -/
theorem out_read (𝒱 : Variants) (c : Dev nD) (bd : Option 𝒱.V) (i : grid0.Coords) (arg1 : Memref sig .tc .vmem S256x512 .bf16) (harg1 : arg1.IsWhole) (arg2 : Memref sig .tc .vmem S31x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S288x256 .f32) (harg7 : arg7.IsWhole) (arg8 : Memref sig .tc .vmem S8x288x256 .f32) (harg8 : arg8.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty)
    (x0 : Vec F S256x512 .bf16) (h8 : ∀ y : S8x288x256.Idx, (y 1).val < 280 → arg8.view.read (Elt F) X8 y = shv x0 y) (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 X2 X3 X4 X5 X8 k0_t1_loop.trips))
      = outB x0 (arg2.view.read (Elt F) X2) (arg3.view.read (Elt F) X3) (arg4.view.read (Elt F) X4) (arg5.view.read (Elt F) X5) := by
  have hp : ∀ n, n ≤ 4 → ∀ p, p ∈ pb_k0_t1 (F := F) 𝒱 c bd i arg1 harg1 arg2 harg2 arg3 harg3 arg4 harg4 arg5 harg5 arg6 harg6 arg7 harg7 arg8 harg8 X2 X3 X4 X5 X8 n ↔
      ∃ k : Fin k0_t1_loop.trips, k.val < n ∧ p = (⟨Rect.unit (k0_off9 k) S64x256.size (k0_off9_inb k), chunk (shv x0) (arg2.view.read (Elt F) X2) (arg3.view.read (Elt F) X3) (arg4.view.read (Elt F) X4) (arg5.view.read (Elt F) X5) k⟩ : View.Piece (Elt F) S256x256 .bf16) := by
    intro n
    induction n with
    | zero => intro _ p; constructor
              · intro h; exact absurd h List.not_mem_nil
              · rintro ⟨k, hk, _⟩; exact absurd hk (Nat.not_lt_zero _)
    | succ n ih =>
      intro hn p
      have e := pb_k0_t1_succ (F := F) 𝒱 c bd i arg1 harg1 arg2 harg2 arg3 harg3 arg4 harg4 arg5 harg5 arg6 harg6 arg7 harg7 arg8 harg8 X2 X3 X4 X5 X8 ⟨n, by rw [trips_eq]; omega⟩
      rw [show pb_k0_t1 (F := F) 𝒱 c bd i arg1 harg1 arg2 harg2 arg3 harg3 arg4 harg4 arg5 harg5 arg6 harg6 arg7 harg7 arg8 harg8 X2 X3 X4 X5 X8 (n + 1) = _ from e, tripL_eq, chunk_congr h8, List.mem_append, List.mem_singleton, ih (by omega) p]
      constructor
      · rintro (h | ⟨k, hk, h⟩)
        · exact ⟨⟨n, by rw [trips_eq]; omega⟩, Nat.lt_succ_self n, h⟩
        · exact ⟨k, by omega, h⟩
      · rintro ⟨k, hk, h⟩
        by_cases hkn : k.val = n
        · left; rw [show k = ⟨n, by rw [trips_eq]; omega⟩ from Fin.ext hkn] at h; exact h
        · right; exact ⟨k, by omega, h⟩
  funext y
  rw [show k0_t1_loop.trips = 4 from trips_eq]
  have hy : (y 0).val < 256 := (y 0).isLt
  have hy1 : (y 1).val < 256 := (y 1).isLt
  refine View.read_writes_apply_of_pieces arg6.view f (outB x0 _ _ _ _) _ (fun p hpm x => ?_) y
    ⟨_, (hp 4 le_rfl _).2 ⟨⟨(y 0).val / 64, by rw [trips_eq]; omega⟩, by show (y 0).val / 64 < 4; omega, rfl⟩, ?_⟩
  · obtain ⟨k, hk, rfl⟩ := (hp 4 le_rfl p).1 hpm
    have hx : (x 0).val < 64 := (x 0).isLt
    have h9 := off9_eq k
    have a0 : ((Rect.unit (s := S256x256) (k0_off9 k) S64x256.size (k0_off9_inb k)).emb x 0).val = 64 * k.val + (x 0).val := by
      show k0_off9 k 0 + 1 * (x 0).val = _; omega
    have a1 : ((Rect.unit (s := S256x256) (k0_off9 k) S64x256.size (k0_off9_inb k)).emb x 1).val = (x 1).val := by
      show k0_off9 k 1 + 1 * (x 1).val = _; omega
    unfold outB
    have key : ∀ (k' : Fin k0_t1_loop.trips) (x' : S64x256.Idx), k' = k → x' = x →
        chunk (shv x0) (arg2.view.read (Elt F) X2) (arg3.view.read (Elt F) X3) (arg4.view.read (Elt F) X4) (arg5.view.read (Elt F) X5) k x
          = chunk (shv x0) (arg2.view.read (Elt F) X2) (arg3.view.read (Elt F) X3) (arg4.view.read (Elt F) X4) (arg5.view.read (Elt F) X5) k' x' := by
      rintro _ _ rfl rfl; rfl
    refine key _ _ (Fin.ext ?_) (funext fun a => Fin.ext ?_)
    · show ((Rect.unit (s := S256x256) (k0_off9 k) S64x256.size (k0_off9_inb k)).emb x 0).val / 64 = k.val
      rw [a0]; omega
    · match a with
      | ⟨0, _⟩ => show ((Rect.unit (s := S256x256) (k0_off9 k) S64x256.size (k0_off9_inb k)).emb x 0).val % 64 = (x 0).val; rw [a0]; omega
      | ⟨1, _⟩ => exact a1
  · rw [Rect.mem_set_unit]
    have h9 := off9_eq ⟨(y 0).val / 64, by rw [trips_eq]; omega⟩
    intro a
    match a with
    | ⟨0, _⟩ =>
      show k0_off9 _ 0 ≤ (y 0).val ∧ (y 0).val < k0_off9 _ 0 + 64
      rw [h9.1]; dsimp only; omega
    | ⟨1, _⟩ =>
      show k0_off9 _ 1 ≤ (y 1).val ∧ (y 1).val < k0_off9 _ 1 + 256
      rw [h9.2]; omega

/-- The copy's payload is the rows it was read from. -/
theorem cast_at (v : Vec F S280x256 .f32) (x : S1x280x256.Idx) : shapeCast S1x280x256 v shapeCasts_S280x256_S1x280x256 x = v (ValueIdx.ix2 (x 1) (x 2)) := by
  idx_vars x
  pointwise
  rfl

/-- The padded rows, after the three stores. -/
theorem pad_read (arg7 : Memref sig .tc .vmem S288x256 .f32) (f : BufTy.Contents (Elt F) arg7.view.ty) (x0 : Vec F S256x512 .bf16) :
    arg7.view.read (Elt F) (arg7.view.writes (Elt F) f
      [⟨Rect.unit ![16, 0] S256x256.size inb_S288x256_S256x256_16_0, k0_pay21 x0⟩, ⟨Rect.unit ![272, 0] S16x256.size inb_S288x256_S16x256_272_0, k0_pay20⟩,
        ⟨Rect.unit ![0, 0] S16x256.size inb_S288x256_S16x256_0_0, k0_pay19⟩]) = padv x0 := by
  funext y
  have hy : (y 0).val < 288 := (y 0).isLt
  have hy1 : (y 1).val < 256 := (y 1).isLt
  refine View.read_writes_apply_of_pieces arg7.view f (padv x0) _ (fun p hp x => ?_) y ?_
  · simp only [List.mem_cons, List.not_mem_nil, or_false] at hp
    rcases hp with rfl | rfl | rfl
    · have hx : (x 0).val < 256 := (x 0).isLt
      unfold padv
      rw [dif_pos (by show 16 ≤ 16 + 1 * (x 0).val ∧ 16 + 1 * (x 0).val < 272; omega)]
      refine congrArg (k0_pay21 x0) (funext fun a => Fin.ext ?_)
      match a with
      | ⟨0, _⟩ => show (x 0).val = 16 + 1 * (x 0).val - 16; omega
      | ⟨1, _⟩ => show (x 1).val = 0 + 1 * (x 1).val; omega
    · have hx : (x 0).val < 16 := (x 0).isLt
      unfold padv
      rw [dif_neg (by show ¬ (16 ≤ 272 + 1 * (x 0).val ∧ 272 + 1 * (x 0).val < 272); omega)]
      unfold k0_pay20 shapeCast
      rfl
    · have hx : (x 0).val < 16 := (x 0).isLt
      unfold padv
      rw [dif_neg (by show ¬ (16 ≤ 0 + 1 * (x 0).val ∧ 0 + 1 * (x 0).val < 272); omega)]
      unfold k0_pay19 shapeCast
      rfl
  · by_cases h1 : (y 0).val < 16
    · refine ⟨_, List.mem_cons_of_mem _ (List.mem_cons_of_mem _ List.mem_cons_self), ?_⟩
      rw [Rect.mem_set_unit]
      intro a
      match a with
      | ⟨0, _⟩ => show 0 ≤ (y 0).val ∧ (y 0).val < 0 + 16; omega
      | ⟨1, _⟩ => show 0 ≤ (y 1).val ∧ (y 1).val < 0 + 256; omega
    · by_cases h2 : (y 0).val < 272
      · refine ⟨_, List.mem_cons_self, ?_⟩
        rw [Rect.mem_set_unit]
        intro a
        match a with
        | ⟨0, _⟩ => show 16 ≤ (y 0).val ∧ (y 0).val < 16 + 256; omega
        | ⟨1, _⟩ => show 0 ≤ (y 1).val ∧ (y 1).val < 0 + 256; omega
      · refine ⟨_, List.mem_cons_of_mem _ List.mem_cons_self, ?_⟩
        rw [Rect.mem_set_unit]
        intro a
        match a with
        | ⟨0, _⟩ => show 272 ≤ (y 0).val ∧ (y 0).val < 272 + 16; omega
        | ⟨1, _⟩ => show 0 ≤ (y 1).val ∧ (y 1).val < 0 + 256; omega

/-- One copy's payload agrees with the moved rows. -/
theorem sh_piece (x0 : Vec F S256x512 .bf16) (r : ℕ) (hr : r < 8) (i2 : ∀ a, (![r, 0] : Fin 2 → ℕ) a + S280x256.size a ≤ S288x256.size a)
    (i3 : ∀ a, (![r, 0, 0] : Fin 3 → ℕ) a + S1x280x256.size a ≤ S8x288x256.size a) (x : S1x280x256.Idx) :
    shapeCast S1x280x256 (View.ld (padv x0) (Rect.unit (s := S288x256) ![r, 0] S280x256.size i2)) shapeCasts_S280x256_S1x280x256 x
      = shv x0 ((Rect.unit (s := S8x288x256) ![r, 0, 0] S1x280x256.size i3).emb x) := by
  have h0 : (x 0).val < 1 := (x 0).isLt
  have h1 : (x 1).val < 280 := (x 1).isLt
  rw [cast_at]
  unfold shv
  rw [dif_pos (by show 0 + 1 * (x 1).val + (r + 1 * (x 0).val) < 288; omega)]
  refine congrArg (padv x0) (funext fun a => Fin.ext ?_)
  match a with
  | ⟨0, _⟩ => show r + 1 * (x 1).val = 0 + 1 * (x 1).val + (r + 1 * (x 0).val); omega
  | ⟨1, _⟩ => show 0 + 1 * (x 2).val = 0 + 1 * (x 2).val; rfl

set_option maxHeartbeats 1000000 in
/-- The eight moved copies, after their stores, in the rows below 280. -/
theorem sh_read (arg8 : Memref sig .tc .vmem S8x288x256 .f32) (f : BufTy.Contents (Elt F) arg8.view.ty) (x0 : Vec F S256x512 .bf16)
    (w0 w1 w2 w3 w4 w5 w6 w7 : Vec F S280x256 .f32) (h0 : w0 = View.ld (padv x0) (Rect.unit ![0, 0] S280x256.size inb_S288x256_S280x256_0_0)) (h1 : w1 = View.ld (padv x0) (Rect.unit ![1, 0] S280x256.size inb_S288x256_S280x256_1_0)) (h2 : w2 = View.ld (padv x0) (Rect.unit ![2, 0] S280x256.size inb_S288x256_S280x256_2_0)) (h3 : w3 = View.ld (padv x0) (Rect.unit ![3, 0] S280x256.size inb_S288x256_S280x256_3_0)) (h4 : w4 = View.ld (padv x0) (Rect.unit ![4, 0] S280x256.size inb_S288x256_S280x256_4_0)) (h5 : w5 = View.ld (padv x0) (Rect.unit ![5, 0] S280x256.size inb_S288x256_S280x256_5_0)) (h6 : w6 = View.ld (padv x0) (Rect.unit ![6, 0] S280x256.size inb_S288x256_S280x256_6_0)) (h7 : w7 = View.ld (padv x0) (Rect.unit ![7, 0] S280x256.size inb_S288x256_S280x256_7_0)) (y : S8x288x256.Idx) (hy : (y 1).val < 280) :
    arg8.view.read (Elt F) (arg8.view.writes (Elt F) f
      [⟨Rect.unit ![7, 0, 0] S1x280x256.size inb_S8x288x256_S1x280x256_7_0_0, k0_pay5 w7⟩,
        ⟨Rect.unit ![6, 0, 0] S1x280x256.size inb_S8x288x256_S1x280x256_6_0_0, k0_pay4 w6⟩,
        ⟨Rect.unit ![5, 0, 0] S1x280x256.size inb_S8x288x256_S1x280x256_5_0_0, k0_pay3 w5⟩,
        ⟨Rect.unit ![4, 0, 0] S1x280x256.size inb_S8x288x256_S1x280x256_4_0_0, k0_pay2 w4⟩,
        ⟨Rect.unit ![3, 0, 0] S1x280x256.size inb_S8x288x256_S1x280x256_3_0_0, k0_pay1 w3⟩,
        ⟨Rect.unit ![2, 0, 0] S1x280x256.size inb_S8x288x256_S1x280x256_2_0_0, k0_pay24 w2⟩,
        ⟨Rect.unit ![1, 0, 0] S1x280x256.size inb_S8x288x256_S1x280x256_1_0_0, k0_pay23 w1⟩,
        ⟨Rect.unit ![0, 0, 0] S1x280x256.size inb_S8x288x256_S1x280x256_0_0_0, k0_pay22 w0⟩]) y = shv x0 y := by
  have hy2 : (y 2).val < 256 := (y 2).isLt
  subst h0 h1 h2 h3 h4 h5 h6 h7
  refine View.read_writes_apply_of_pieces arg8.view f (shv x0) _ (fun p hp x => ?_) y ?_
  · simp only [List.mem_cons, List.not_mem_nil, or_false] at hp
    rcases hp with rfl | rfl | rfl | rfl | rfl | rfl | rfl | rfl
    · exact sh_piece x0 7 (by decide) inb_S288x256_S280x256_7_0 inb_S8x288x256_S1x280x256_7_0_0 x
    · exact sh_piece x0 6 (by decide) inb_S288x256_S280x256_6_0 inb_S8x288x256_S1x280x256_6_0_0 x
    · exact sh_piece x0 5 (by decide) inb_S288x256_S280x256_5_0 inb_S8x288x256_S1x280x256_5_0_0 x
    · exact sh_piece x0 4 (by decide) inb_S288x256_S280x256_4_0 inb_S8x288x256_S1x280x256_4_0_0 x
    · exact sh_piece x0 3 (by decide) inb_S288x256_S280x256_3_0 inb_S8x288x256_S1x280x256_3_0_0 x
    · exact sh_piece x0 2 (by decide) inb_S288x256_S280x256_2_0 inb_S8x288x256_S1x280x256_2_0_0 x
    · exact sh_piece x0 1 (by decide) inb_S288x256_S280x256_1_0 inb_S8x288x256_S1x280x256_1_0_0 x
    · exact sh_piece x0 0 (by decide) inb_S288x256_S280x256_0_0 inb_S8x288x256_S1x280x256_0_0_0 x
  · have h0 : (y 0).val < 8 := (y 0).isLt
    have hm : ∀ (r : ℕ) (i3 : ∀ a, (![r, 0, 0] : Fin 3 → ℕ) a + S1x280x256.size a ≤ S8x288x256.size a), (y 0).val = r → y ∈ (Rect.unit (s := S8x288x256) ![r, 0, 0] S1x280x256.size i3).set := by
      intro r i3 hr
      rw [Rect.mem_set_unit]
      intro a
      match a with
      | ⟨0, _⟩ => show r ≤ (y 0).val ∧ (y 0).val < r + 1; omega
      | ⟨1, _⟩ => show 0 ≤ (y 1).val ∧ (y 1).val < 0 + 280; omega
      | ⟨2, _⟩ => show 0 ≤ (y 2).val ∧ (y 2).val < 0 + 256; omega
    have hc : (y 0).val = 0 ∨ (y 0).val = 1 ∨ (y 0).val = 2 ∨ (y 0).val = 3 ∨ (y 0).val = 4 ∨ (y 0).val = 5 ∨ (y 0).val = 6 ∨ (y 0).val = 7 := by omega
    rcases hc with h | h | h | h | h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hm 0 inb_S8x288x256_S1x280x256_0_0_0 h⟩
    · exact ⟨_, (List.mem_cons_of_mem _ (List.mem_cons_of_mem _ (List.mem_cons_of_mem _ (List.mem_cons_of_mem _ (List.mem_cons_of_mem _ (List.mem_cons_of_mem _ List.mem_cons_self)))))), hm 1 inb_S8x288x256_S1x280x256_1_0_0 h⟩
    · exact ⟨_, (List.mem_cons_of_mem _ (List.mem_cons_of_mem _ (List.mem_cons_of_mem _ (List.mem_cons_of_mem _ (List.mem_cons_of_mem _ List.mem_cons_self))))), hm 2 inb_S8x288x256_S1x280x256_2_0_0 h⟩
    · exact ⟨_, (List.mem_cons_of_mem _ (List.mem_cons_of_mem _ (List.mem_cons_of_mem _ (List.mem_cons_of_mem _ List.mem_cons_self)))), hm 3 inb_S8x288x256_S1x280x256_3_0_0 h⟩
    · exact ⟨_, (List.mem_cons_of_mem _ (List.mem_cons_of_mem _ (List.mem_cons_of_mem _ List.mem_cons_self))), hm 4 inb_S8x288x256_S1x280x256_4_0_0 h⟩
    · exact ⟨_, (List.mem_cons_of_mem _ (List.mem_cons_of_mem _ List.mem_cons_self)), hm 5 inb_S8x288x256_S1x280x256_5_0_0 h⟩
    · exact ⟨_, (List.mem_cons_of_mem _ List.mem_cons_self), hm 6 inb_S8x288x256_S1x280x256_6_0_0 h⟩
    · exact ⟨_, List.mem_cons_self, hm 7 inb_S8x288x256_S1x280x256_7_0_0 h⟩

set_option maxHeartbeats 4000000 in
/-- ONE RUN OF THE BODY: the inputs' buffers as they were, the result's at `outB`, the scratch at something. -/
theorem body_run (c : Dev nD) (i : grid0.Coords) (arg1 : Memref sig .tc .vmem S256x512 .bf16) (harg1 : arg1.IsWhole) (arg2 : Memref sig .tc .vmem S31x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S288x256 .f32) (harg7 : arg7.IsWhole) (arg8 : Memref sig .tc .vmem S8x288x256 .f32) (harg8 : arg8.IsWhole)
    (x0 : Vec F S256x512 .bf16) (x1 : Vec F S31x256 .f32) (x2 x3 x4 : Vec F S1x256 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outB x0 x1 x2 x3 x4) ∗ (∃ d, owns (c : Thread nD τ) arg7 fullShare d) ∗ (∃ d, owns (c : Thread nD τ) arg8 fullShare d)) -∗ K ⟨⟩))
          ⊢ wp frame (wpE (defs₀ (F := F)) Variants.none c none) E (cc0_conformer i arg1 harg1 arg2 harg2 arg3 harg3 arg4 harg4 arg5 harg5 arg6 harg6 arg7 harg7 arg8 harg8) K := by
    simp only [cc0_conformer_eq_skeleton]; unfold cc0_conformer_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    sl_exec
    sl_step
    have e0 : View.readAt (Elt F) arg1.view (Rect.unit ![0, 0] S256x512.size inb_S256x512_S256x512_0_0).toLoadRect f0 = x0 := (View.readAt_full _ _ _).trans hf0
    have hpad := fun f => (congrArg (fun z => arg7.view.read (Elt F) (arg7.view.writes (Elt F) f
      [⟨Rect.unit ![16, 0] S256x256.size inb_S288x256_S256x256_16_0, k0_pay21 z⟩, ⟨Rect.unit ![272, 0] S16x256.size inb_S288x256_S16x256_272_0, k0_pay20⟩,
        ⟨Rect.unit ![0, 0] S16x256.size inb_S288x256_S16x256_0_0, k0_pay19⟩])) e0).trans (pad_read arg7 f x0)
    have hv0 : body_run.sl.v16 c arg1 arg7 f0 = View.ld (padv x0) (Rect.unit ![0, 0] S280x256.size inb_S288x256_S280x256_0_0) := by
      unfold body_run.sl.v16
      have hq := congrArg (fun z : Vec F S288x256 .f32 => View.ld z (Rect.unit (s := S288x256) ![0, 0] S280x256.size inb_S288x256_S280x256_0_0)) (hpad arg7.view.junk)
      exact hq
    have hv1 : body_run.sl.v20 c arg1 arg7 f0 = View.ld (padv x0) (Rect.unit ![1, 0] S280x256.size inb_S288x256_S280x256_1_0) := by
      unfold body_run.sl.v20
      have hq := congrArg (fun z : Vec F S288x256 .f32 => View.ld z (Rect.unit (s := S288x256) ![1, 0] S280x256.size inb_S288x256_S280x256_1_0)) (hpad arg7.view.junk)
      exact hq
    have hv2 : body_run.sl.v24 c arg1 arg7 f0 = View.ld (padv x0) (Rect.unit ![2, 0] S280x256.size inb_S288x256_S280x256_2_0) := by
      unfold body_run.sl.v24
      have hq := congrArg (fun z : Vec F S288x256 .f32 => View.ld z (Rect.unit (s := S288x256) ![2, 0] S280x256.size inb_S288x256_S280x256_2_0)) (hpad arg7.view.junk)
      exact hq
    have hv3 : body_run.sl.v28 c arg1 arg7 f0 = View.ld (padv x0) (Rect.unit ![3, 0] S280x256.size inb_S288x256_S280x256_3_0) := by
      unfold body_run.sl.v28
      have hq := congrArg (fun z : Vec F S288x256 .f32 => View.ld z (Rect.unit (s := S288x256) ![3, 0] S280x256.size inb_S288x256_S280x256_3_0)) (hpad arg7.view.junk)
      exact hq
    have hv4 : body_run.sl.v32 c arg1 arg7 f0 = View.ld (padv x0) (Rect.unit ![4, 0] S280x256.size inb_S288x256_S280x256_4_0) := by
      unfold body_run.sl.v32
      have hq := congrArg (fun z : Vec F S288x256 .f32 => View.ld z (Rect.unit (s := S288x256) ![4, 0] S280x256.size inb_S288x256_S280x256_4_0)) (hpad arg7.view.junk)
      exact hq
    have hv5 : body_run.sl.v36 c arg1 arg7 f0 = View.ld (padv x0) (Rect.unit ![5, 0] S280x256.size inb_S288x256_S280x256_5_0) := by
      unfold body_run.sl.v36
      have hq := congrArg (fun z : Vec F S288x256 .f32 => View.ld z (Rect.unit (s := S288x256) ![5, 0] S280x256.size inb_S288x256_S280x256_5_0)) (hpad arg7.view.junk)
      exact hq
    have hv6 : body_run.sl.v40 c arg1 arg7 f0 = View.ld (padv x0) (Rect.unit ![6, 0] S280x256.size inb_S288x256_S280x256_6_0) := by
      unfold body_run.sl.v40
      have hq := congrArg (fun z : Vec F S288x256 .f32 => View.ld z (Rect.unit (s := S288x256) ![6, 0] S280x256.size inb_S288x256_S280x256_6_0)) (hpad arg7.view.junk)
      exact hq
    have hv7 : body_run.sl.v44 c arg1 arg7 f0 = View.ld (padv x0) (Rect.unit ![7, 0] S280x256.size inb_S288x256_S280x256_7_0) := by
      unfold body_run.sl.v44
      have hq := congrArg (fun z : Vec F S288x256 .f32 => View.ld z (Rect.unit (s := S288x256) ![7, 0] S280x256.size inb_S288x256_S280x256_7_0)) (hpad arg7.view.junk)
      exact hq
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro
      have hr := out_read Variants.none c none i arg1 harg1 arg2 harg2 arg3 harg3 arg4 harg4 arg5 harg5 arg6 harg6 arg7 harg7 arg8 harg8 f1 f2 f3 f4 _ x0 (fun y hy => sh_read arg8 f7 x0 _ _ _ _ _ _ _ _
        hv0 hv1 hv2 hv3 hv4 hv5 hv6 hv7 y hy) f5
      rw [hf1, hf2, hf3, hf4] at hr
      exact hr
    isplitl [H6]
    · iexists _, _; isplitr
      swap; · iexact H6
      ipureintro; rfl
    iexists _, _; isplitr
    swap; · iexact H7
    ipureintro; rfl

end Cert.ConformerIdeal.Run

end
-- ==== Proof.ConFrame.lean ====
module

public import proofs.«01_k».proof.Proof.ConBody
public import Idealize.ShloMosaic.Lib.Claim

/-! # The conformer kernel: its launch, point by point -/

@[expose] public section

set_option maxRecDepth 16384

noncomputable section

namespace Cert.ConformerIdeal.Run

open Cert.ConformerIdeal Cert.ConformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

abbrev scM0_0 : Memref sig .tc .vmem S288x256 .f32 := Memref.whole cc0_scratch0
abbrev scM0_1 : Memref sig .tc .vmem S8x288x256 .f32 := Memref.whole cc0_scratch1

/-- The invariant with the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- What the body leaves at a point: the result's block at `outB` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outB (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point: the inputs' buffers hold their blocks, the scratch comes out of the invariant and goes back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every weakly fair execution terminates with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ConformerIdeal.Run

end
-- ==== Proof.ConRef.lean ====
module

public import proofs.«01_k».proof.Proof.Gen.ConformerRefIdeal.Run
public import proofs.«01_k».proof.Proof.Gen.ConformerRefIdeal.Read
public import Idealize.ShloMosaic.Lib.Pointwise
public import Idealize.ShloMosaic.Lib.Pipeline.ValueKit
public import Idealize.ShloMosaic.Lib.ValueIdx
public import Idealize.ShloMosaic.PureOps.Ideal.Laws

/-! # The conformer convolution's reference, read at a token and a channel -/

@[expose] public section

set_option maxRecDepth 16384

noncomputable section

namespace Cert.Own.Con

open Idealize.ShloMosaic Idealize.ShloMosaic.TcCoe Idealize.SL.Sem

/-- A token's channel times the logistic of its gate. -/
def gat (u : Fin 512 → EReal) (l : Fin 256) : EReal := u ⟨l.val, by omega⟩ * Ideal.logistic (u ⟨256 + l.val, by omega⟩)

/-- The gated tokens of a sequence with fifteen rows of zeros before them and zeros after. -/
def padr (u : Fin 256 → Fin 512 → EReal) (n : ℕ) (l : Fin 256) : EReal :=
  if h : 15 ≤ n ∧ n < 271 then gat (u ⟨n - 15, by omega⟩) l else 0

/-- Thirty-one neighbours of a row, each times its tap. -/
def taps (P : ℕ → EReal) (w : Fin 31 → EReal) (s : ℕ) : EReal :=
  Ideal.ofBits FTy.f32 0x00000000#32 + P (s + 0) * w 0
    + P (s + 1) * w 1
    + P (s + 2) * w 2
    + P (s + 3) * w 3
    + P (s + 4) * w 4
    + P (s + 5) * w 5
    + P (s + 6) * w 6
    + P (s + 7) * w 7
    + P (s + 8) * w 8
    + P (s + 9) * w 9
    + P (s + 10) * w 10
    + P (s + 11) * w 11
    + P (s + 12) * w 12
    + P (s + 13) * w 13
    + P (s + 14) * w 14
    + P (s + 15) * w 15
    + P (s + 16) * w 16
    + P (s + 17) * w 17
    + P (s + 18) * w 18
    + P (s + 19) * w 19
    + P (s + 20) * w 20
    + P (s + 21) * w 21
    + P (s + 22) * w 22
    + P (s + 23) * w 23
    + P (s + 24) * w 24
    + P (s + 25) * w 25
    + P (s + 26) * w 26
    + P (s + 27) * w 27
    + P (s + 28) * w 28
    + P (s + 29) * w 29
    + P (s + 30) * w 30

/-- The convolution of a row's channel, with the bias. -/
def cnv (u : Fin 256 → Fin 512 → EReal) (w : Fin 31 → Fin 256 → EReal) (b : Fin 256 → EReal) (s : ℕ) (l : Fin 256) : EReal :=
  taps (fun n => padr u n l) (fun t => w t l) s + b l

/-- A row's mean. -/
def mean (c : Fin 256 → EReal) : EReal := Ideal.div (∑ k, c k) (Ideal.ofBits FTy.f32 0x43800000#32)

/-- A row less its value `a`, over its root mean square, scaled and shifted. -/
def lnr (a : EReal) (c g b : Fin 256 → EReal) (l : Fin 256) : EReal :=
  (c l - a) * Ideal.rsqrt (Ideal.div (∑ k, (c k - a) * (c k - a)) (Ideal.ofBits FTy.f32 0x43800000#32) + Ideal.ofBits FTy.f32 0x358637BD#32) * g l + b l

/-- A number times its logistic. -/
def act (x : EReal) : EReal := x * Ideal.logistic x

section Ref
open Cert.ConformerRefIdeal Cert.ConformerRefIdeal.Gen Cert.ConformerRefIdeal.Read

variable (x0 : FVec Ideal S8192x512 .bf16) (x1 : FVec Ideal S31x256 .f32) (x2 x3 x4 : FVec Ideal S256 .f32)

/-- The tokens of sequence `b`. -/
def seq (b : Fin 32) (s : Fin 256) (k : Fin 512) : EReal := x0 (ix2 (⟨b.val * 256 + s.val, by omega⟩ : Fin 8192) k)

theorem v1_at (b : Fin 32) (s : Fin 256) (k : Fin 512) : val_main_v1 (F := Ideal) x0 (ix3 b s k) = seq x0 b s k := by
  rw [val_main_v1_apply, val_main_v0_apply]
  rw [show idx_main_v1 (ix3 b s k) = ix2 (⟨b.val * 256 + s.val, by omega⟩ : Fin 8192) k from funext fun a => Fin.ext (by
      match a with
      | ⟨0, _⟩ => show ((b.val * 256 + s.val) * 512 + k.val) / 512 = b.val * 256 + s.val; omega
      | ⟨1, _⟩ => show ((b.val * 256 + s.val) * 512 + k.val) % 512 = k.val; omega)]
  rfl

theorem v10_at (b : Fin 32) (s : Fin 256) (l : Fin 256) : val_main_v10 (F := Ideal) x0 (ix3 b s l) = gat (seq x0 b s) l := by
  rw [val_main_v10_apply, val_main_v9_apply, val_main_v8_apply, val_main_v7_apply, val_main_v6_apply, val_main_v5_apply, val_main_v4_apply,
    val_main_v3_apply, val_main_v2_apply, val_main_cst_apply, val_main_cst_0_apply,
    show idx_main_v2 (ix3 b s l) = ix3 b s (⟨l.val, by omega⟩ : Fin 512) from by funext a; fin_cases a <;> rfl,
    show idx_main_v3 (ix3 b s l) = ix3 b s (⟨256 + l.val, by omega⟩ : Fin 512) from by funext a; fin_cases a <;> rfl,
    v1_at, v1_at]
  pointwise [gat]
  rfl

theorem pad_val (i : S_.Idx) : val_main_call0_v0 (F := Ideal) i = 0 := by
  rw [val_main_call0_v0_apply, val_main_c_apply]
  show (((0#32 : BitVec 32).toInt : ℝ) : EReal) = 0
  simp

theorem v11_at (b : Fin 32) (n : Fin 286) (l : Fin 256) : val_main_v11 (F := Ideal) x0 (ix3 b n l) = padr (seq x0 b) n.val l := by
  unfold val_main_v11 padr
  rw [pad_apply]
  by_cases h : 15 ≤ n.val ∧ n.val < 271
  · rw [dif_pos h, dif_pos (fun a => match a with
      | ⟨0, _⟩ => by have := b.isLt; show 0 ≤ b.val ∧ (b.val - 0) % (0 + 1) = 0 ∧ (b.val - 0) / (0 + 1) < 32; omega
      | ⟨1, _⟩ => by show 15 ≤ n.val ∧ (n.val - 15) % (0 + 1) = 0 ∧ (n.val - 15) / (0 + 1) < 256; omega
      | ⟨2, _⟩ => by have := l.isLt; show 0 ≤ l.val ∧ (l.val - 0) % (0 + 1) = 0 ∧ (l.val - 0) / (0 + 1) < 256; omega)]
    rw [← v10_at]
    refine congrArg (val_main_v10 (F := Ideal) x0) (funext fun a => Fin.ext ?_)
    match a with
    | ⟨0, _⟩ => show (b.val - 0) / (0 + 1) = b.val; omega
    | ⟨1, _⟩ => show (n.val - 15) / (0 + 1) = n.val - 15; omega
    | ⟨2, _⟩ => show (l.val - 0) / (0 + 1) = l.val; omega
  · rw [dif_neg h, dif_neg (fun hall => h ?_), pad_val]
    have h1 : 15 ≤ n.val ∧ (n.val - 15) % (0 + 1) = 0 ∧ (n.val - 15) / (0 + 1) < 256 := hall (1 : Fin 3)
    omega

theorem tap0 (b : Fin 32) (s : Fin 256) (l : Fin 256) : val_main_v17 (F := Ideal) x0 x1 (ix3 b s l) = padr (seq x0 b) (s.val + 0) l * x1 (ix2 0 l) := by
  rw [val_main_v17_apply, val_main_v12_apply, val_main_v16_apply, val_main_v15_apply, val_main_v14_apply, val_main_v13_apply,
    show idx_main_v12 (ix3 b s l) = ix3 b (⟨s.val + 0, by omega⟩ : Fin 286) l from funext fun a => Fin.ext (by
      match a with
      | ⟨0, _⟩ => rfl
      | ⟨1, _⟩ => show s.val = s.val + 0; omega
      | ⟨2, _⟩ => rfl),
    show idx_main_v13 (idx_main_v14 (idx_main_v15 (idx_main_v16 (ix3 b s l)))) = ix2 0 l from funext fun a => Fin.ext (by
      match a with
      | ⟨0, _⟩ => rfl
      | ⟨1, _⟩ => exact Nat.mod_eq_of_lt l.isLt), v11_at]
  rfl

theorem tap1 (b : Fin 32) (s : Fin 256) (l : Fin 256) : val_main_v25 (F := Ideal) x0 x1 (ix3 b s l) = padr (seq x0 b) (s.val + 1) l * x1 (ix2 1 l) := by
  rw [val_main_v25_apply, val_main_v20_apply, val_main_v24_apply, val_main_v23_apply, val_main_v22_apply, val_main_v21_apply,
    show idx_main_v20 (ix3 b s l) = ix3 b (⟨s.val + 1, by omega⟩ : Fin 286) l from funext fun a => Fin.ext (by
      match a with
      | ⟨0, _⟩ => rfl
      | ⟨1, _⟩ => show 1 + s.val = s.val + 1; omega
      | ⟨2, _⟩ => rfl),
    show idx_main_v21 (idx_main_v22 (idx_main_v23 (idx_main_v24 (ix3 b s l)))) = ix2 1 l from funext fun a => Fin.ext (by
      match a with
      | ⟨0, _⟩ => rfl
      | ⟨1, _⟩ => exact Nat.mod_eq_of_lt l.isLt), v11_at]
  rfl

theorem tap2 (b : Fin 32) (s : Fin 256) (l : Fin 256) : val_main_v32 (F := Ideal) x0 x1 (ix3 b s l) = padr (seq x0 b) (s.val + 2) l * x1 (ix2 2 l) := by
  rw [val_main_v32_apply, val_main_v27_apply, val_main_v31_apply, val_main_v30_apply, val_main_v29_apply, val_main_v28_apply,
    show idx_main_v27 (ix3 b s l) = ix3 b (⟨s.val + 2, by omega⟩ : Fin 286) l from funext fun a => Fin.ext (by
      match a with
      | ⟨0, _⟩ => rfl
      | ⟨1, _⟩ => show 2 + s.val = s.val + 2; omega
      | ⟨2, _⟩ => rfl),
    show idx_main_v28 (idx_main_v29 (idx_main_v30 (idx_main_v31 (ix3 b s l)))) = ix2 2 l from funext fun a => Fin.ext (by
      match a with
      | ⟨0, _⟩ => rfl
      | ⟨1, _⟩ => exact Nat.mod_eq_of_lt l.isLt), v11_at]
  rfl

theorem tap3 (b : Fin 32) (s : Fin 256) (l : Fin 256) : val_main_v39 (F := Ideal) x0 x1 (ix3 b s l) = padr (seq x0 b) (s.val + 3) l * x1 (ix2 3 l) := by
  rw [val_main_v39_apply, val_main_v34_apply, val_main_v38_apply, val_main_v37_apply, val_main_v36_apply, val_main_v35_apply,
    show idx_main_v34 (ix3 b s l) = ix3 b (⟨s.val + 3, by omega⟩ : Fin 286) l from funext fun a => Fin.ext (by
      match a with
      | ⟨0, _⟩ => rfl
      | ⟨1, _⟩ => show 3 + s.val = s.val + 3; omega
      | ⟨2, _⟩ => rfl),
    show idx_main_v35 (idx_main_v36 (idx_main_v37 (idx_main_v38 (ix3 b s l)))) = ix2 3 l from funext fun a => Fin.ext (by
      match a with
      | ⟨0, _⟩ => rfl
      | ⟨1, _⟩ => exact Nat.mod_eq_of_lt l.isLt), v11_at]
  rfl

theorem tap4 (b : Fin 32) (s : Fin 256) (l : Fin 256) : val_main_v46 (F := Ideal) x0 x1 (ix3 b s l) = padr (seq x0 b) (s.val + 4) l * x1 (ix2 4 l) := by
  rw [val_main_v46_apply, val_main_v41_apply, val_main_v45_apply, val_main_v44_apply, val_main_v43_apply, val_main_v42_apply,
    show idx_main_v41 (ix3 b s l) = ix3 b (⟨s.val + 4, by omega⟩ : Fin 286) l from funext fun a => Fin.ext (by
      match a with
      | ⟨0, _⟩ => rfl
      | ⟨1, _⟩ => show 4 + s.val = s.val + 4; omega
      | ⟨2, _⟩ => rfl),
    show idx_main_v42 (idx_main_v43 (idx_main_v44 (idx_main_v45 (ix3 b s l)))) = ix2 4 l from funext fun a => Fin.ext (by
      match a with
      | ⟨0, _⟩ => rfl
      | ⟨1, _⟩ => exact Nat.mod_eq_of_lt l.isLt), v11_at]
  rfl

theorem tap5 (b : Fin 32) (s : Fin 256) (l : Fin 256) : val_main_v53 (F := Ideal) x0 x1 (ix3 b s l) = padr (seq x0 b) (s.val + 5) l * x1 (ix2 5 l) := by
  rw [val_main_v53_apply, val_main_v48_apply, val_main_v52_apply, val_main_v51_apply, val_main_v50_apply, val_main_v49_apply,
    show idx_main_v48 (ix3 b s l) = ix3 b (⟨s.val + 5, by omega⟩ : Fin 286) l from funext fun a => Fin.ext (by
      match a with
      | ⟨0, _⟩ => rfl
      | ⟨1, _⟩ => show 5 + s.val = s.val + 5; omega
      | ⟨2, _⟩ => rfl),
    show idx_main_v49 (idx_main_v50 (idx_main_v51 (idx_main_v52 (ix3 b s l)))) = ix2 5 l from funext fun a => Fin.ext (by
      match a with
      | ⟨0, _⟩ => rfl
      | ⟨1, _⟩ => exact Nat.mod_eq_of_lt l.isLt), v11_at]
  rfl

theorem tap6 (b : Fin 32) (s : Fin 256) (l : Fin 256) : val_main_v60 (F := Ideal) x0 x1 (ix3 b s l) = padr (seq x0 b) (s.val + 6) l * x1 (ix2 6 l) := by
  rw [val_main_v60_apply, val_main_v55_apply, val_main_v59_apply, val_main_v58_apply, val_main_v57_apply, val_main_v56_apply,
    show idx_main_v55 (ix3 b s l) = ix3 b (⟨s.val + 6, by omega⟩ : Fin 286) l from funext fun a => Fin.ext (by
      match a with
      | ⟨0, _⟩ => rfl
      | ⟨1, _⟩ => show 6 + s.val = s.val + 6; omega
      | ⟨2, _⟩ => rfl),
    show idx_main_v56 (idx_main_v57 (idx_main_v58 (idx_main_v59 (ix3 b s l)))) = ix2 6 l from funext fun a => Fin.ext (by
      match a with
      | ⟨0, _⟩ => rfl
      | ⟨1, _⟩ => exact Nat.mod_eq_of_lt l.isLt), v11_at]
  rfl

theorem tap7 (b : Fin 32) (s : Fin 256) (l : Fin 256) : val_main_v67 (F := Ideal) x0 x1 (ix3 b s l) = padr (seq x0 b) (s.val + 7) l * x1 (ix2 7 l) := by
  rw [val_main_v67_apply, val_main_v62_apply, val_main_v66_apply, val_main_v65_apply, val_main_v64_apply, val_main_v63_apply,
    show idx_main_v62 (ix3 b s l) = ix3 b (⟨s.val + 7, by omega⟩ : Fin 286) l from funext fun a => Fin.ext (by
      match a with
      | ⟨0, _⟩ => rfl
      | ⟨1, _⟩ => show 7 + s.val = s.val + 7; omega
      | ⟨2, _⟩ => rfl),
    show idx_main_v63 (idx_main_v64 (idx_main_v65 (idx_main_v66 (ix3 b s l)))) = ix2 7 l from funext fun a => Fin.ext (by
      match a with
      | ⟨0, _⟩ => rfl
      | ⟨1, _⟩ => exact Nat.mod_eq_of_lt l.isLt), v11_at]
  rfl

theorem tap8 (b : Fin 32) (s : Fin 256) (l : Fin 256) : val_main_v74 (F := Ideal) x0 x1 (ix3 b s l) = padr (seq x0 b) (s.val + 8) l * x1 (ix2 8 l) := by
  rw [val_main_v74_apply, val_main_v69_apply, val_main_v73_apply, val_main_v72_apply, val_main_v71_apply, val_main_v70_apply,
    show idx_main_v69 (ix3 b s l) = ix3 b (⟨s.val + 8, by omega⟩ : Fin 286) l from funext fun a => Fin.ext (by
      match a with
      | ⟨0, _⟩ => rfl
      | ⟨1, _⟩ => show 8 + s.val = s.val + 8; omega
      | ⟨2, _⟩ => rfl),
    show idx_main_v70 (idx_main_v71 (idx_main_v72 (idx_main_v73 (ix3 b s l)))) = ix2 8 l from funext fun a => Fin.ext (by
      match a with
      | ⟨0, _⟩ => rfl
      | ⟨1, _⟩ => exact Nat.mod_eq_of_lt l.isLt), v11_at]
  rfl

theorem tap9 (b : Fin 32) (s : Fin 256) (l : Fin 256) : val_main_v81 (F := Ideal) x0 x1 (ix3 b s l) = padr (seq x0 b) (s.val + 9) l * x1 (ix2 9 l) := by
  rw [val_main_v81_apply, val_main_v76_apply, val_main_v80_apply, val_main_v79_apply, val_main_v78_apply, val_main_v77_apply,
    show idx_main_v76 (ix3 b s l) = ix3 b (⟨s.val + 9, by omega⟩ : Fin 286) l from funext fun a => Fin.ext (by
      match a with
      | ⟨0, _⟩ => rfl
      | ⟨1, _⟩ => show 9 + s.val = s.val + 9; omega
      | ⟨2, _⟩ => rfl),
    show idx_main_v77 (idx_main_v78 (idx_main_v79 (idx_main_v80 (ix3 b s l)))) = ix2 9 l from funext fun a => Fin.ext (by
      match a with
      | ⟨0, _⟩ => rfl
      | ⟨1, _⟩ => exact Nat.mod_eq_of_lt l.isLt), v11_at]
  rfl

theorem tap10 (b : Fin 32) (s : Fin 256) (l : Fin 256) : val_main_v88 (F := Ideal) x0 x1 (ix3 b s l) = padr (seq x0 b) (s.val + 10) l * x1 (ix2 10 l) := by
  rw [val_main_v88_apply, val_main_v83_apply, val_main_v87_apply, val_main_v86_apply, val_main_v85_apply, val_main_v84_apply,
    show idx_main_v83 (ix3 b s l) = ix3 b (⟨s.val + 10, by omega⟩ : Fin 286) l from funext fun a => Fin.ext (by
      match a with
      | ⟨0, _⟩ => rfl
      | ⟨1, _⟩ => show 10 + s.val = s.val + 10; omega
      | ⟨2, _⟩ => rfl),
    show idx_main_v84 (idx_main_v85 (idx_main_v86 (idx_main_v87 (ix3 b s l)))) = ix2 10 l from funext fun a => Fin.ext (by
      match a with
      | ⟨0, _⟩ => rfl
      | ⟨1, _⟩ => exact Nat.mod_eq_of_lt l.isLt), v11_at]
  rfl

theorem tap11 (b : Fin 32) (s : Fin 256) (l : Fin 256) : val_main_v95 (F := Ideal) x0 x1 (ix3 b s l) = padr (seq x0 b) (s.val + 11) l * x1 (ix2 11 l) := by
  rw [val_main_v95_apply, val_main_v90_apply, val_main_v94_apply, val_main_v93_apply, val_main_v92_apply, val_main_v91_apply,
    show idx_main_v90 (ix3 b s l) = ix3 b (⟨s.val + 11, by omega⟩ : Fin 286) l from funext fun a => Fin.ext (by
      match a with
      | ⟨0, _⟩ => rfl
      | ⟨1, _⟩ => show 11 + s.val = s.val + 11; omega
      | ⟨2, _⟩ => rfl),
    show idx_main_v91 (idx_main_v92 (idx_main_v93 (idx_main_v94 (ix3 b s l)))) = ix2 11 l from funext fun a => Fin.ext (by
      match a with
      | ⟨0, _⟩ => rfl
      | ⟨1, _⟩ => exact Nat.mod_eq_of_lt l.isLt), v11_at]
  rfl

theorem tap12 (b : Fin 32) (s : Fin 256) (l : Fin 256) : val_main_v102 (F := Ideal) x0 x1 (ix3 b s l) = padr (seq x0 b) (s.val + 12) l * x1 (ix2 12 l) := by
  rw [val_main_v102_apply, val_main_v97_apply, val_main_v101_apply, val_main_v100_apply, val_main_v99_apply, val_main_v98_apply,
    show idx_main_v97 (ix3 b s l) = ix3 b (⟨s.val + 12, by omega⟩ : Fin 286) l from funext fun a => Fin.ext (by
      match a with
      | ⟨0, _⟩ => rfl
      | ⟨1, _⟩ => show 12 + s.val = s.val + 12; omega
      | ⟨2, _⟩ => rfl),
    show idx_main_v98 (idx_main_v99 (idx_main_v100 (idx_main_v101 (ix3 b s l)))) = ix2 12 l from funext fun a => Fin.ext (by
      match a with
      | ⟨0, _⟩ => rfl
      | ⟨1, _⟩ => exact Nat.mod_eq_of_lt l.isLt), v11_at]
  rfl

theorem tap13 (b : Fin 32) (s : Fin 256) (l : Fin 256) : val_main_v109 (F := Ideal) x0 x1 (ix3 b s l) = padr (seq x0 b) (s.val + 13) l * x1 (ix2 13 l) := by
  rw [val_main_v109_apply, val_main_v104_apply, val_main_v108_apply, val_main_v107_apply, val_main_v106_apply, val_main_v105_apply,
    show idx_main_v104 (ix3 b s l) = ix3 b (⟨s.val + 13, by omega⟩ : Fin 286) l from funext fun a => Fin.ext (by
      match a with
      | ⟨0, _⟩ => rfl
      | ⟨1, _⟩ => show 13 + s.val = s.val + 13; omega
      | ⟨2, _⟩ => rfl),
    show idx_main_v105 (idx_main_v106 (idx_main_v107 (idx_main_v108 (ix3 b s l)))) = ix2 13 l from funext fun a => Fin.ext (by
      match a with
      | ⟨0, _⟩ => rfl
      | ⟨1, _⟩ => exact Nat.mod_eq_of_lt l.isLt), v11_at]
  rfl

theorem tap14 (b : Fin 32) (s : Fin 256) (l : Fin 256) : val_main_v116 (F := Ideal) x0 x1 (ix3 b s l) = padr (seq x0 b) (s.val + 14) l * x1 (ix2 14 l) := by
  rw [val_main_v116_apply, val_main_v111_apply, val_main_v115_apply, val_main_v114_apply, val_main_v113_apply, val_main_v112_apply,
    show idx_main_v111 (ix3 b s l) = ix3 b (⟨s.val + 14, by omega⟩ : Fin 286) l from funext fun a => Fin.ext (by
      match a with
      | ⟨0, _⟩ => rfl
      | ⟨1, _⟩ => show 14 + s.val = s.val + 14; omega
      | ⟨2, _⟩ => rfl),
    show idx_main_v112 (idx_main_v113 (idx_main_v114 (idx_main_v115 (ix3 b s l)))) = ix2 14 l from funext fun a => Fin.ext (by
      match a with
      | ⟨0, _⟩ => rfl
      | ⟨1, _⟩ => exact Nat.mod_eq_of_lt l.isLt), v11_at]
  rfl

theorem tap15 (b : Fin 32) (s : Fin 256) (l : Fin 256) : val_main_v123 (F := Ideal) x0 x1 (ix3 b s l) = padr (seq x0 b) (s.val + 15) l * x1 (ix2 15 l) := by
  rw [val_main_v123_apply, val_main_v118_apply, val_main_v122_apply, val_main_v121_apply, val_main_v120_apply, val_main_v119_apply,
    show idx_main_v118 (ix3 b s l) = ix3 b (⟨s.val + 15, by omega⟩ : Fin 286) l from funext fun a => Fin.ext (by
      match a with
      | ⟨0, _⟩ => rfl
      | ⟨1, _⟩ => show 15 + s.val = s.val + 15; omega
      | ⟨2, _⟩ => rfl),
    show idx_main_v119 (idx_main_v120 (idx_main_v121 (idx_main_v122 (ix3 b s l)))) = ix2 15 l from funext fun a => Fin.ext (by
      match a with
      | ⟨0, _⟩ => rfl
      | ⟨1, _⟩ => exact Nat.mod_eq_of_lt l.isLt), v11_at]
  rfl

theorem tap16 (b : Fin 32) (s : Fin 256) (l : Fin 256) : val_main_v130 (F := Ideal) x0 x1 (ix3 b s l) = padr (seq x0 b) (s.val + 16) l * x1 (ix2 16 l) := by
  rw [val_main_v130_apply, val_main_v125_apply, val_main_v129_apply, val_main_v128_apply, val_main_v127_apply, val_main_v126_apply,
    show idx_main_v125 (ix3 b s l) = ix3 b (⟨s.val + 16, by omega⟩ : Fin 286) l from funext fun a => Fin.ext (by
      match a with
      | ⟨0, _⟩ => rfl
      | ⟨1, _⟩ => show 16 + s.val = s.val + 16; omega
      | ⟨2, _⟩ => rfl),
    show idx_main_v126 (idx_main_v127 (idx_main_v128 (idx_main_v129 (ix3 b s l)))) = ix2 16 l from funext fun a => Fin.ext (by
      match a with
      | ⟨0, _⟩ => rfl
      | ⟨1, _⟩ => exact Nat.mod_eq_of_lt l.isLt), v11_at]
  rfl

theorem tap17 (b : Fin 32) (s : Fin 256) (l : Fin 256) : val_main_v137 (F := Ideal) x0 x1 (ix3 b s l) = padr (seq x0 b) (s.val + 17) l * x1 (ix2 17 l) := by
  rw [val_main_v137_apply, val_main_v132_apply, val_main_v136_apply, val_main_v135_apply, val_main_v134_apply, val_main_v133_apply,
    show idx_main_v132 (ix3 b s l) = ix3 b (⟨s.val + 17, by omega⟩ : Fin 286) l from funext fun a => Fin.ext (by
      match a with
      | ⟨0, _⟩ => rfl
      | ⟨1, _⟩ => show 17 + s.val = s.val + 17; omega
      | ⟨2, _⟩ => rfl),
    show idx_main_v133 (idx_main_v134 (idx_main_v135 (idx_main_v136 (ix3 b s l)))) = ix2 17 l from funext fun a => Fin.ext (by
      match a with
      | ⟨0, _⟩ => rfl
      | ⟨1, _⟩ => exact Nat.mod_eq_of_lt l.isLt), v11_at]
  rfl

theorem tap18 (b : Fin 32) (s : Fin 256) (l : Fin 256) : val_main_v144 (F := Ideal) x0 x1 (ix3 b s l) = padr (seq x0 b) (s.val + 18) l * x1 (ix2 18 l) := by
  rw [val_main_v144_apply, val_main_v139_apply, val_main_v143_apply, val_main_v142_apply, val_main_v141_apply, val_main_v140_apply,
    show idx_main_v139 (ix3 b s l) = ix3 b (⟨s.val + 18, by omega⟩ : Fin 286) l from funext fun a => Fin.ext (by
      match a with
      | ⟨0, _⟩ => rfl
      | ⟨1, _⟩ => show 18 + s.val = s.val + 18; omega
      | ⟨2, _⟩ => rfl),
    show idx_main_v140 (idx_main_v141 (idx_main_v142 (idx_main_v143 (ix3 b s l)))) = ix2 18 l from funext fun a => Fin.ext (by
      match a with
      | ⟨0, _⟩ => rfl
      | ⟨1, _⟩ => exact Nat.mod_eq_of_lt l.isLt), v11_at]
  rfl

theorem tap19 (b : Fin 32) (s : Fin 256) (l : Fin 256) : val_main_v151 (F := Ideal) x0 x1 (ix3 b s l) = padr (seq x0 b) (s.val + 19) l * x1 (ix2 19 l) := by
  rw [val_main_v151_apply, val_main_v146_apply, val_main_v150_apply, val_main_v149_apply, val_main_v148_apply, val_main_v147_apply,
    show idx_main_v146 (ix3 b s l) = ix3 b (⟨s.val + 19, by omega⟩ : Fin 286) l from funext fun a => Fin.ext (by
      match a with
      | ⟨0, _⟩ => rfl
      | ⟨1, _⟩ => show 19 + s.val = s.val + 19; omega
      | ⟨2, _⟩ => rfl),
    show idx_main_v147 (idx_main_v148 (idx_main_v149 (idx_main_v150 (ix3 b s l)))) = ix2 19 l from funext fun a => Fin.ext (by
      match a with
      | ⟨0, _⟩ => rfl
      | ⟨1, _⟩ => exact Nat.mod_eq_of_lt l.isLt), v11_at]
  rfl

theorem tap20 (b : Fin 32) (s : Fin 256) (l : Fin 256) : val_main_v158 (F := Ideal) x0 x1 (ix3 b s l) = padr (seq x0 b) (s.val + 20) l * x1 (ix2 20 l) := by
  rw [val_main_v158_apply, val_main_v153_apply, val_main_v157_apply, val_main_v156_apply, val_main_v155_apply, val_main_v154_apply,
    show idx_main_v153 (ix3 b s l) = ix3 b (⟨s.val + 20, by omega⟩ : Fin 286) l from funext fun a => Fin.ext (by
      match a with
      | ⟨0, _⟩ => rfl
      | ⟨1, _⟩ => show 20 + s.val = s.val + 20; omega
      | ⟨2, _⟩ => rfl),
    show idx_main_v154 (idx_main_v155 (idx_main_v156 (idx_main_v157 (ix3 b s l)))) = ix2 20 l from funext fun a => Fin.ext (by
      match a with
      | ⟨0, _⟩ => rfl
      | ⟨1, _⟩ => exact Nat.mod_eq_of_lt l.isLt), v11_at]
  rfl

theorem tap21 (b : Fin 32) (s : Fin 256) (l : Fin 256) : val_main_v165 (F := Ideal) x0 x1 (ix3 b s l) = padr (seq x0 b) (s.val + 21) l * x1 (ix2 21 l) := by
  rw [val_main_v165_apply, val_main_v160_apply, val_main_v164_apply, val_main_v163_apply, val_main_v162_apply, val_main_v161_apply,
    show idx_main_v160 (ix3 b s l) = ix3 b (⟨s.val + 21, by omega⟩ : Fin 286) l from funext fun a => Fin.ext (by
      match a with
      | ⟨0, _⟩ => rfl
      | ⟨1, _⟩ => show 21 + s.val = s.val + 21; omega
      | ⟨2, _⟩ => rfl),
    show idx_main_v161 (idx_main_v162 (idx_main_v163 (idx_main_v164 (ix3 b s l)))) = ix2 21 l from funext fun a => Fin.ext (by
      match a with
      | ⟨0, _⟩ => rfl
      | ⟨1, _⟩ => exact Nat.mod_eq_of_lt l.isLt), v11_at]
  rfl

theorem tap22 (b : Fin 32) (s : Fin 256) (l : Fin 256) : val_main_v172 (F := Ideal) x0 x1 (ix3 b s l) = padr (seq x0 b) (s.val + 22) l * x1 (ix2 22 l) := by
  rw [val_main_v172_apply, val_main_v167_apply, val_main_v171_apply, val_main_v170_apply, val_main_v169_apply, val_main_v168_apply,
    show idx_main_v167 (ix3 b s l) = ix3 b (⟨s.val + 22, by omega⟩ : Fin 286) l from funext fun a => Fin.ext (by
      match a with
      | ⟨0, _⟩ => rfl
      | ⟨1, _⟩ => show 22 + s.val = s.val + 22; omega
      | ⟨2, _⟩ => rfl),
    show idx_main_v168 (idx_main_v169 (idx_main_v170 (idx_main_v171 (ix3 b s l)))) = ix2 22 l from funext fun a => Fin.ext (by
      match a with
      | ⟨0, _⟩ => rfl
      | ⟨1, _⟩ => exact Nat.mod_eq_of_lt l.isLt), v11_at]
  rfl

theorem tap23 (b : Fin 32) (s : Fin 256) (l : Fin 256) : val_main_v179 (F := Ideal) x0 x1 (ix3 b s l) = padr (seq x0 b) (s.val + 23) l * x1 (ix2 23 l) := by
  rw [val_main_v179_apply, val_main_v174_apply, val_main_v178_apply, val_main_v177_apply, val_main_v176_apply, val_main_v175_apply,
    show idx_main_v174 (ix3 b s l) = ix3 b (⟨s.val + 23, by omega⟩ : Fin 286) l from funext fun a => Fin.ext (by
      match a with
      | ⟨0, _⟩ => rfl
      | ⟨1, _⟩ => show 23 + s.val = s.val + 23; omega
      | ⟨2, _⟩ => rfl),
    show idx_main_v175 (idx_main_v176 (idx_main_v177 (idx_main_v178 (ix3 b s l)))) = ix2 23 l from funext fun a => Fin.ext (by
      match a with
      | ⟨0, _⟩ => rfl
      | ⟨1, _⟩ => exact Nat.mod_eq_of_lt l.isLt), v11_at]
  rfl

theorem tap24 (b : Fin 32) (s : Fin 256) (l : Fin 256) : val_main_v186 (F := Ideal) x0 x1 (ix3 b s l) = padr (seq x0 b) (s.val + 24) l * x1 (ix2 24 l) := by
  rw [val_main_v186_apply, val_main_v181_apply, val_main_v185_apply, val_main_v184_apply, val_main_v183_apply, val_main_v182_apply,
    show idx_main_v181 (ix3 b s l) = ix3 b (⟨s.val + 24, by omega⟩ : Fin 286) l from funext fun a => Fin.ext (by
      match a with
      | ⟨0, _⟩ => rfl
      | ⟨1, _⟩ => show 24 + s.val = s.val + 24; omega
      | ⟨2, _⟩ => rfl),
    show idx_main_v182 (idx_main_v183 (idx_main_v184 (idx_main_v185 (ix3 b s l)))) = ix2 24 l from funext fun a => Fin.ext (by
      match a with
      | ⟨0, _⟩ => rfl
      | ⟨1, _⟩ => exact Nat.mod_eq_of_lt l.isLt), v11_at]
  rfl

theorem tap25 (b : Fin 32) (s : Fin 256) (l : Fin 256) : val_main_v193 (F := Ideal) x0 x1 (ix3 b s l) = padr (seq x0 b) (s.val + 25) l * x1 (ix2 25 l) := by
  rw [val_main_v193_apply, val_main_v188_apply, val_main_v192_apply, val_main_v191_apply, val_main_v190_apply, val_main_v189_apply,
    show idx_main_v188 (ix3 b s l) = ix3 b (⟨s.val + 25, by omega⟩ : Fin 286) l from funext fun a => Fin.ext (by
      match a with
      | ⟨0, _⟩ => rfl
      | ⟨1, _⟩ => show 25 + s.val = s.val + 25; omega
      | ⟨2, _⟩ => rfl),
    show idx_main_v189 (idx_main_v190 (idx_main_v191 (idx_main_v192 (ix3 b s l)))) = ix2 25 l from funext fun a => Fin.ext (by
      match a with
      | ⟨0, _⟩ => rfl
      | ⟨1, _⟩ => exact Nat.mod_eq_of_lt l.isLt), v11_at]
  rfl

theorem tap26 (b : Fin 32) (s : Fin 256) (l : Fin 256) : val_main_v200 (F := Ideal) x0 x1 (ix3 b s l) = padr (seq x0 b) (s.val + 26) l * x1 (ix2 26 l) := by
  rw [val_main_v200_apply, val_main_v195_apply, val_main_v199_apply, val_main_v198_apply, val_main_v197_apply, val_main_v196_apply,
    show idx_main_v195 (ix3 b s l) = ix3 b (⟨s.val + 26, by omega⟩ : Fin 286) l from funext fun a => Fin.ext (by
      match a with
      | ⟨0, _⟩ => rfl
      | ⟨1, _⟩ => show 26 + s.val = s.val + 26; omega
      | ⟨2, _⟩ => rfl),
    show idx_main_v196 (idx_main_v197 (idx_main_v198 (idx_main_v199 (ix3 b s l)))) = ix2 26 l from funext fun a => Fin.ext (by
      match a with
      | ⟨0, _⟩ => rfl
      | ⟨1, _⟩ => exact Nat.mod_eq_of_lt l.isLt), v11_at]
  rfl

theorem tap27 (b : Fin 32) (s : Fin 256) (l : Fin 256) : val_main_v207 (F := Ideal) x0 x1 (ix3 b s l) = padr (seq x0 b) (s.val + 27) l * x1 (ix2 27 l) := by
  rw [val_main_v207_apply, val_main_v202_apply, val_main_v206_apply, val_main_v205_apply, val_main_v204_apply, val_main_v203_apply,
    show idx_main_v202 (ix3 b s l) = ix3 b (⟨s.val + 27, by omega⟩ : Fin 286) l from funext fun a => Fin.ext (by
      match a with
      | ⟨0, _⟩ => rfl
      | ⟨1, _⟩ => show 27 + s.val = s.val + 27; omega
      | ⟨2, _⟩ => rfl),
    show idx_main_v203 (idx_main_v204 (idx_main_v205 (idx_main_v206 (ix3 b s l)))) = ix2 27 l from funext fun a => Fin.ext (by
      match a with
      | ⟨0, _⟩ => rfl
      | ⟨1, _⟩ => exact Nat.mod_eq_of_lt l.isLt), v11_at]
  rfl

theorem tap28 (b : Fin 32) (s : Fin 256) (l : Fin 256) : val_main_v214 (F := Ideal) x0 x1 (ix3 b s l) = padr (seq x0 b) (s.val + 28) l * x1 (ix2 28 l) := by
  rw [val_main_v214_apply, val_main_v209_apply, val_main_v213_apply, val_main_v212_apply, val_main_v211_apply, val_main_v210_apply,
    show idx_main_v209 (ix3 b s l) = ix3 b (⟨s.val + 28, by omega⟩ : Fin 286) l from funext fun a => Fin.ext (by
      match a with
      | ⟨0, _⟩ => rfl
      | ⟨1, _⟩ => show 28 + s.val = s.val + 28; omega
      | ⟨2, _⟩ => rfl),
    show idx_main_v210 (idx_main_v211 (idx_main_v212 (idx_main_v213 (ix3 b s l)))) = ix2 28 l from funext fun a => Fin.ext (by
      match a with
      | ⟨0, _⟩ => rfl
      | ⟨1, _⟩ => exact Nat.mod_eq_of_lt l.isLt), v11_at]
  rfl

theorem tap29 (b : Fin 32) (s : Fin 256) (l : Fin 256) : val_main_v221 (F := Ideal) x0 x1 (ix3 b s l) = padr (seq x0 b) (s.val + 29) l * x1 (ix2 29 l) := by
  rw [val_main_v221_apply, val_main_v216_apply, val_main_v220_apply, val_main_v219_apply, val_main_v218_apply, val_main_v217_apply,
    show idx_main_v216 (ix3 b s l) = ix3 b (⟨s.val + 29, by omega⟩ : Fin 286) l from funext fun a => Fin.ext (by
      match a with
      | ⟨0, _⟩ => rfl
      | ⟨1, _⟩ => show 29 + s.val = s.val + 29; omega
      | ⟨2, _⟩ => rfl),
    show idx_main_v217 (idx_main_v218 (idx_main_v219 (idx_main_v220 (ix3 b s l)))) = ix2 29 l from funext fun a => Fin.ext (by
      match a with
      | ⟨0, _⟩ => rfl
      | ⟨1, _⟩ => exact Nat.mod_eq_of_lt l.isLt), v11_at]
  rfl

theorem tap30 (b : Fin 32) (s : Fin 256) (l : Fin 256) : val_main_v228 (F := Ideal) x0 x1 (ix3 b s l) = padr (seq x0 b) (s.val + 30) l * x1 (ix2 30 l) := by
  rw [val_main_v228_apply, val_main_v223_apply, val_main_v227_apply, val_main_v226_apply, val_main_v225_apply, val_main_v224_apply,
    show idx_main_v223 (ix3 b s l) = ix3 b (⟨s.val + 30, by omega⟩ : Fin 286) l from funext fun a => Fin.ext (by
      match a with
      | ⟨0, _⟩ => rfl
      | ⟨1, _⟩ => show 30 + s.val = s.val + 30; omega
      | ⟨2, _⟩ => rfl),
    show idx_main_v224 (idx_main_v225 (idx_main_v226 (idx_main_v227 (ix3 b s l)))) = ix2 30 l from funext fun a => Fin.ext (by
      match a with
      | ⟨0, _⟩ => rfl
      | ⟨1, _⟩ => exact Nat.mod_eq_of_lt l.isLt), v11_at]
  rfl

set_option maxHeartbeats 1000000 in
/-- The reference's sum over the taps. -/
theorem v229_at (b : Fin 32) (s : Fin 256) (l : Fin 256) : val_main_v229 (F := Ideal) x0 x1 (ix3 b s l)
    = taps (fun n => padr (seq x0 b) n l) (fun t => x1 (ix2 t l)) s.val := by
  rw [val_main_v229_apply, val_main_v222_apply, val_main_v215_apply, val_main_v208_apply, val_main_v201_apply, val_main_v194_apply, val_main_v187_apply, val_main_v180_apply, val_main_v173_apply, val_main_v166_apply, val_main_v159_apply, val_main_v152_apply, val_main_v145_apply, val_main_v138_apply, val_main_v131_apply, val_main_v124_apply, val_main_v117_apply, val_main_v110_apply, val_main_v103_apply, val_main_v96_apply, val_main_v89_apply, val_main_v82_apply, val_main_v75_apply, val_main_v68_apply, val_main_v61_apply, val_main_v54_apply, val_main_v47_apply, val_main_v40_apply, val_main_v33_apply, val_main_v26_apply, val_main_v19_apply, val_main_v18_apply, val_main_cst_1_apply,
    tap30, tap29, tap28, tap27, tap26, tap25, tap24, tap23, tap22, tap21, tap20, tap19, tap18, tap17, tap16, tap15, tap14, tap13, tap12, tap11, tap10, tap9, tap8, tap7, tap6, tap5, tap4, tap3, tap2, tap1, tap0]
  rfl

theorem v232_at (b : Fin 32) (s : Fin 256) (l : Fin 256) : val_main_v232 (F := Ideal) x0 x1 x2 (ix3 b s l)
    = cnv (seq x0 b) (fun t k => x1 (ix2 t k)) (fun k => x2 (ix1 k)) s.val l := by
  rw [val_main_v232_apply, v229_at, val_main_v231_apply, val_main_v230_apply,
    show idx_main_v230 (idx_main_v231 (ix3 b s l)) = ix1 l from by funext a; fin_cases a; rfl]
  rfl

/-- The convolved row of token `s` of sequence `b`. -/
abbrev row (b : Fin 32) (s : Fin 256) : Fin 256 → EReal := cnv (seq x0 b) (fun t k => x1 (ix2 t k)) (fun k => x2 (ix1 k)) s.val

theorem v236_at (b : Fin 32) (s : Fin 256) (p : Fin 1) : val_main_v236 (F := Ideal) x0 x1 x2 (ix3 b s p) = mean (row x0 x1 x2 b s) := by
  rw [val_main_v236_apply, val_main_v234_apply, val_main_v235_apply, val_main_v233_apply, val_main_cst_2_apply, val_main_cst_3_apply]
  have hs : ∀ k : Fin 256, idx_main_v233 (idx_main_v234 (ix3 b s p)) k = ix3 b s k := fun k => by funext a; fin_cases a <;> rfl
  simp only [hs, v232_at]
  pointwise [mean]

theorem v238_at (b : Fin 32) (s : Fin 256) (l : Fin 256) : val_main_v238 (F := Ideal) x0 x1 x2 (ix3 b s l)
    = row x0 x1 x2 b s l - mean (row x0 x1 x2 b s) := by
  rw [val_main_v238_apply, val_main_v237_apply, v232_at,
    show idx_main_v237 (ix3 b s l) = ix3 b s (0 : Fin 1) from by funext a; fin_cases a <;> rfl, v236_at]
  rfl

theorem v246_at (b : Fin 32) (s : Fin 256) (p : Fin 1) : val_main_v246 (F := Ideal) x0 x1 x2 (ix3 b s p)
    = Ideal.rsqrt (Ideal.div (∑ k, (row x0 x1 x2 b s k - mean (row x0 x1 x2 b s)) * (row x0 x1 x2 b s k - mean (row x0 x1 x2 b s)))
        (Ideal.ofBits FTy.f32 0x43800000#32) + Ideal.ofBits FTy.f32 0x358637BD#32) := by
  rw [val_main_v246_apply, val_main_v245_apply, val_main_v244_apply, val_main_v243_apply, val_main_v242_apply, val_main_v241_apply,
    val_main_v240_apply, val_main_cst_4_apply, val_main_cst_5_apply, val_main_cst_6_apply]
  have hs : ∀ k : Fin 256, idx_main_v240 (idx_main_v241 (ix3 b s p)) k = ix3 b s k := fun k => by funext a; fin_cases a <;> rfl
  simp only [hs, val_main_v239_apply, v238_at]
  pointwise

theorem v254_at (b : Fin 32) (s : Fin 256) (l : Fin 256) : val_main_v254 (F := Ideal) x0 x1 x2 x3 x4 (ix3 b s l)
    = lnr (mean (row x0 x1 x2 b s)) (row x0 x1 x2 b s) (fun k => x3 (ix1 k)) (fun k => x4 (ix1 k)) l := by
  rw [val_main_v254_apply, val_main_v253_apply, val_main_v252_apply, val_main_v251_apply, val_main_v250_apply, val_main_v249_apply,
    val_main_v248_apply, val_main_v247_apply, v238_at,
    show idx_main_v247 (ix3 b s l) = ix3 b s (0 : Fin 1) from by funext a; fin_cases a <;> rfl, v246_at,
    show idx_main_v249 (idx_main_v250 (ix3 b s l)) = ix1 l from by funext a; fin_cases a; rfl,
    show idx_main_v252 (idx_main_v253 (ix3 b s l)) = ix1 l from by funext a; fin_cases a; rfl]
  rfl

/-- The reference at a token and a channel. -/
theorem ref_at (b : Fin 32) (s : Fin 256) (l : Fin 256) :
    val_main_v257 (F := Ideal) x0 x1 x2 x3 x4 (ix2 (⟨b.val * 256 + s.val, by omega⟩ : Fin 8192) l)
      = act (lnr (mean (row x0 x1 x2 b s)) (row x0 x1 x2 b s) (fun k => x3 (ix1 k)) (fun k => x4 (ix1 k)) l) := by
  rw [val_main_v257_apply, val_main_v256_apply,
    show idx_main_v256 (ix2 (⟨b.val * 256 + s.val, by omega⟩ : Fin 8192) l) = ix3 b s l from funext fun a => Fin.ext (by
      match a with
      | ⟨0, _⟩ => show ((b.val * 256 + s.val) * 256 + l.val) / 65536 = b.val; omega
      | ⟨1, _⟩ => show ((b.val * 256 + s.val) * 256 + l.val) / 256 % 256 = s.val; omega
      | ⟨2, _⟩ => show ((b.val * 256 + s.val) * 256 + l.val) % 256 = l.val; omega),
    val_main_v255_apply, val_main_call1_v5_apply, val_main_call1_v4_apply, val_main_call1_v3_apply, val_main_call1_v2_apply,
    val_main_call1_v1_apply, val_main_call1_v0_apply, val_main_call1_cst_apply, val_main_call1_cst_0_apply, v254_at]
  pointwise [act]
  rfl

end Ref

end Cert.Own.Con

end
-- ==== Proof.ConValue.lean ====
module

public import proofs.«01_k».proof.Proof.ConRef
public import proofs.«01_k».proof.Proof.ConFrame
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.ValueIdx
public import Idealize.ShloMosaic.PureOps.Ideal.Laws

/-! # The conformer convolution: the kernel's array is the reference's -/

@[expose] public section

set_option maxRecDepth 16384

noncomputable section

namespace Cert.Own.Con

open Idealize.ShloMosaic Idealize.ShloMosaic.TcCoe Idealize.SL.Sem
open Idealize.ShloMosaic.Pipeline (Dat)

open Cert.ConformerIdeal Cert.ConformerIdeal.Gen Cert.ConformerIdeal.Run
open Cert.ConformerRefIdeal.Read (val_main_v257)
variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-! ## The moved rows -/

/-- The body's gated values. -/
theorem p21_at (x : FVec Ideal S256x512 .bf16) (s : Fin 256) (l : Fin 256) : k0_pay21 (F := Ideal) x (ix2 s l) = gat (fun k => x (ix2 s k)) l := by
  pointwise [k0_pay21, gat]
  try rfl

/-- The zero the padding holds. -/
theorem zero_bits : (Scalar.ofBits .f32 0x00000000#32 : Ideal .f32) = (0 : EReal) := by
  show Ideal.ofBits FTy.f32 0x00000000#32 = 0
  simp [Ideal.ofBits, Ideal.ieee]

/-- The padded rows are the reference's, one row further. -/
theorem padv_at (x : FVec Ideal S256x512 .bf16) (n : ℕ) (hn : n + 1 < 288) (l : Fin 256) :
    padv (F := Ideal) x (ix2 (⟨n + 1, hn⟩ : Fin 288) l) = padr (fun s k => x (ix2 s k)) n l := by
  unfold padv padr
  by_cases h : 15 ≤ n ∧ n < 271
  · rw [dif_pos h, dif_pos (by show 16 ≤ n + 1 ∧ n + 1 < 272; omega)]
    refine Eq.trans (congrArg (k0_pay21 (F := Ideal) x) (funext fun a => Fin.ext ?_)) (p21_at x (⟨n - 15, by omega⟩ : Fin 256) l)
    match a with
    | ⟨0, _⟩ => show n + 1 - 16 = n - 15; omega
    | ⟨1, _⟩ => rfl
  · rw [dif_neg h, dif_neg (by show ¬ (16 ≤ n + 1 ∧ n + 1 < 272); omega)]
    exact zero_bits

/-- A load of the moved rows: copy `r`, from row `o`. -/
theorem ld_at (x : FVec Ideal S256x512 .bf16) (off : Fin 3 → ℕ) (inb : ∀ a, off a + S1x64x256.size a ≤ S8x288x256.size a) (n : ℕ)
    (p : Fin 64) (l : Fin 256) (h01 : off 1 + off 0 = n + 1) (hn : n + 64 < 288) (h2 : off 2 = 0) :
    View.ld (shv (F := Ideal) x) (Rect.unit (s := S8x288x256) off S1x64x256.size inb) (ix3 0 p l) = padr (fun s k => x (ix2 s k)) (n + p.val) l := by
  have hp := p.isLt
  rw [← padv_at x (n + p.val) (by omega) l]
  show shv (F := Ideal) x _ = _
  unfold shv
  rw [dif_pos (by show off 1 + 1 * p.val + (off 0 + 1 * 0) < 288; omega)]
  refine congrArg (padv (F := Ideal) x) (funext fun a => Fin.ext ?_)
  match a with
  | ⟨0, _⟩ => show off 1 + 1 * p.val + (off 0 + 1 * 0) = n + p.val + 1; omega
  | ⟨1, _⟩ => show off 2 + 1 * l.val = l.val; omega

/-- A load of one tap. -/
theorem wt_at (x1 : Vec Ideal S31x256 .f32) (t : ℕ) (ht : t < 31) (inb : ∀ a, (![t, 0] : Fin 2 → ℕ) a + S1x256.size a ≤ S31x256.size a) (l : Fin 256) :
    View.ld x1 (Rect.unit (s := S31x256) ![t, 0] S1x256.size inb) (ix2 0 l) = x1 (ix2 ⟨t, ht⟩ l) := by
  refine congrArg x1 (funext fun a => Fin.ext ?_)
  match a with
  | ⟨0, _⟩ => show t + 1 * 0 = t; omega
  | ⟨1, _⟩ => show 0 + 1 * l.val = l.val; omega

/-- A load of a whole row of weights. -/
theorem one_at (x : Vec Ideal S1x256 .f32) (inb : ∀ a, (![0, 0] : Fin 2 → ℕ) a + S1x256.size a ≤ S1x256.size a) (l : Fin 256) :
    View.ld x (Rect.unit (s := S1x256) ![0, 0] S1x256.size inb) (ix2 0 l) = x (ix2 0 l) := by
  refine congrArg x (funext fun a => Fin.ext ?_)
  match a with
  | ⟨0, _⟩ => rfl
  | ⟨1, _⟩ => show 0 + 1 * l.val = l.val; omega

/-- Where the loads of a trip lie. -/
theorem offs : ∀ k : Fin k0_t1_loop.trips, (k0_off1 k 0#32 1 + k0_off1 k 0#32 0 = 0 + 64 * k.val + 1 ∧ k0_off1 k 0#32 2 = 0) ∧ (k0_off2 k 0#32 1 + k0_off2 k 0#32 0 = 1 + 64 * k.val + 1 ∧ k0_off2 k 0#32 2 = 0) ∧ (k0_off3 k 0#32 1 + k0_off3 k 0#32 0 = 2 + 64 * k.val + 1 ∧ k0_off3 k 0#32 2 = 0) ∧ (k0_off4 k 0#32 1 + k0_off4 k 0#32 0 = 3 + 64 * k.val + 1 ∧ k0_off4 k 0#32 2 = 0) ∧ (k0_off5 k 0#32 1 + k0_off5 k 0#32 0 = 4 + 64 * k.val + 1 ∧ k0_off5 k 0#32 2 = 0) ∧ (k0_off6 k 0#32 1 + k0_off6 k 0#32 0 = 5 + 64 * k.val + 1 ∧ k0_off6 k 0#32 2 = 0) ∧ (k0_off7 k 0#32 1 + k0_off7 k 0#32 0 = 6 + 64 * k.val + 1 ∧ k0_off7 k 0#32 2 = 0) ∧ (k0_off8 k 8#32 1 + k0_off8 k 8#32 0 = 7 + 64 * k.val + 1 ∧ k0_off8 k 8#32 2 = 0) ∧ (k0_off1 k 8#32 1 + k0_off1 k 8#32 0 = 8 + 64 * k.val + 1 ∧ k0_off1 k 8#32 2 = 0) ∧ (k0_off2 k 8#32 1 + k0_off2 k 8#32 0 = 9 + 64 * k.val + 1 ∧ k0_off2 k 8#32 2 = 0) ∧ (k0_off3 k 8#32 1 + k0_off3 k 8#32 0 = 10 + 64 * k.val + 1 ∧ k0_off3 k 8#32 2 = 0) ∧ (k0_off4 k 8#32 1 + k0_off4 k 8#32 0 = 11 + 64 * k.val + 1 ∧ k0_off4 k 8#32 2 = 0) ∧ (k0_off5 k 8#32 1 + k0_off5 k 8#32 0 = 12 + 64 * k.val + 1 ∧ k0_off5 k 8#32 2 = 0) ∧ (k0_off6 k 8#32 1 + k0_off6 k 8#32 0 = 13 + 64 * k.val + 1 ∧ k0_off6 k 8#32 2 = 0) ∧ (k0_off7 k 8#32 1 + k0_off7 k 8#32 0 = 14 + 64 * k.val + 1 ∧ k0_off7 k 8#32 2 = 0) ∧ (k0_off8 k 16#32 1 + k0_off8 k 16#32 0 = 15 + 64 * k.val + 1 ∧ k0_off8 k 16#32 2 = 0) ∧ (k0_off1 k 16#32 1 + k0_off1 k 16#32 0 = 16 + 64 * k.val + 1 ∧ k0_off1 k 16#32 2 = 0) ∧ (k0_off2 k 16#32 1 + k0_off2 k 16#32 0 = 17 + 64 * k.val + 1 ∧ k0_off2 k 16#32 2 = 0) ∧ (k0_off3 k 16#32 1 + k0_off3 k 16#32 0 = 18 + 64 * k.val + 1 ∧ k0_off3 k 16#32 2 = 0) ∧ (k0_off4 k 16#32 1 + k0_off4 k 16#32 0 = 19 + 64 * k.val + 1 ∧ k0_off4 k 16#32 2 = 0) ∧ (k0_off5 k 16#32 1 + k0_off5 k 16#32 0 = 20 + 64 * k.val + 1 ∧ k0_off5 k 16#32 2 = 0) ∧ (k0_off6 k 16#32 1 + k0_off6 k 16#32 0 = 21 + 64 * k.val + 1 ∧ k0_off6 k 16#32 2 = 0) ∧ (k0_off7 k 16#32 1 + k0_off7 k 16#32 0 = 22 + 64 * k.val + 1 ∧ k0_off7 k 16#32 2 = 0) ∧ (k0_off8 k 24#32 1 + k0_off8 k 24#32 0 = 23 + 64 * k.val + 1 ∧ k0_off8 k 24#32 2 = 0) ∧ (k0_off1 k 24#32 1 + k0_off1 k 24#32 0 = 24 + 64 * k.val + 1 ∧ k0_off1 k 24#32 2 = 0) ∧ (k0_off2 k 24#32 1 + k0_off2 k 24#32 0 = 25 + 64 * k.val + 1 ∧ k0_off2 k 24#32 2 = 0) ∧ (k0_off3 k 24#32 1 + k0_off3 k 24#32 0 = 26 + 64 * k.val + 1 ∧ k0_off3 k 24#32 2 = 0) ∧ (k0_off4 k 24#32 1 + k0_off4 k 24#32 0 = 27 + 64 * k.val + 1 ∧ k0_off4 k 24#32 2 = 0) ∧ (k0_off5 k 24#32 1 + k0_off5 k 24#32 0 = 28 + 64 * k.val + 1 ∧ k0_off5 k 24#32 2 = 0) ∧ (k0_off6 k 24#32 1 + k0_off6 k 24#32 0 = 29 + 64 * k.val + 1 ∧ k0_off6 k 24#32 2 = 0) ∧ (k0_off7 k 24#32 1 + k0_off7 k 24#32 0 = 30 + 64 * k.val + 1 ∧ k0_off7 k 24#32 2 = 0) := by decide +kernel

/-! ## The payloads of a trip -/

section Pays
variable (c : FVec Ideal S64x256 .f32) (a0 a1 a2 a3 a4 : FVec Ideal S1x64x256 .f32) (w0 w1 w2 w3 w4 bi : FVec Ideal S1x256 .f32)

theorem p7_at (p : Fin 64) (l : Fin 256) : k0_pay7 (F := Ideal) a0 w0 a1 w1 a2 w2 a3 w3 (ix2 p l)
    = Ideal.ofBits FTy.f32 0x00000000#32 + a0 (ix3 0 p l) * w0 (ix2 0 l) + a1 (ix3 0 p l) * w1 (ix2 0 l) + a2 (ix3 0 p l) * w2 (ix2 0 l) + a3 (ix3 0 p l) * w3 (ix2 0 l) := by
  pointwise [k0_pay7]
theorem p8_at (p : Fin 64) (l : Fin 256) : k0_pay8 (F := Ideal) c a0 w0 a1 w1 a2 w2 a3 w3 (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) := by
  pointwise [k0_pay8]
theorem p10_at (p : Fin 64) (l : Fin 256) : k0_pay10 (F := Ideal) c (k0_pay9 (F := Ideal) a0) w0 a1 w1 a2 w2 a3 w3 a4 w4 (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) + a4 (ix3 0 p l) * w4 (ix2 0 l) := by
  pointwise [k0_pay10, k0_pay9]
theorem p11_at (p : Fin 64) (l : Fin 256) : k0_pay11 (F := Ideal) c a0 w0 a1 w1 a2 w2 a3 w3 a4 w4 (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) + a4 (ix3 0 p l) * w4 (ix2 0 l) := by
  pointwise [k0_pay11]
theorem p12_at (p : Fin 64) (l : Fin 256) : k0_pay12 (F := Ideal) c a0 w0 a1 w1 a2 w2 a3 w3 (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) := by
  pointwise [k0_pay12]
theorem p14_at (p : Fin 64) (l : Fin 256) : k0_pay14 (F := Ideal) c (k0_pay13 (F := Ideal) a0) w0 a1 w1 a2 w2 a3 w3 a4 w4 (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) + a4 (ix3 0 p l) * w4 (ix2 0 l) := by
  pointwise [k0_pay14, k0_pay13]
theorem p15_at (p : Fin 64) (l : Fin 256) : k0_pay15 (F := Ideal) c a0 w0 a1 w1 a2 w2 a3 w3 bi (ix2 p l)
    = c (ix2 p l) + a0 (ix3 0 p l) * w0 (ix2 0 l) + a1 (ix3 0 p l) * w1 (ix2 0 l) + a2 (ix3 0 p l) * w2 (ix2 0 l) + a3 (ix3 0 p l) * w3 (ix2 0 l) + bi (ix2 0 l) := by
  pointwise [k0_pay15]
theorem p16_at (p : Fin 64) : k0_pay16 (F := Ideal) c a0 w0 a1 w1 a2 w2 a3 w3 bi (ix2 p 0)
    = ∑ k, k0_pay15 (F := Ideal) c a0 w0 a1 w1 a2 w2 a3 w3 bi (ix2 p k) := by
  unfold k0_pay16
  generalize k0_pay15 (F := Ideal) c a0 w0 a1 w1 a2 w2 a3 w3 bi = y
  pointwise

end Pays

/-- A trip's rows of the result. -/
theorem p6_at (c : FVec Ideal S64x256 .f32) (a n : FVec Ideal S64x1 .f32) (g b : FVec Ideal S1x256 .f32) (p : Fin 64) (l : Fin 256) :
    k0_pay6 (F := Ideal) c a n g b (ix2 p l)
      = act (lnr (Ideal.div (a (ix2 p 0)) (n (ix2 p 0))) (fun k => c (ix2 p k)) (fun k => g (ix2 0 k)) (fun k => b (ix2 0 k)) l) := by
  pointwise [k0_pay6, act, lnr]

/-- The number of channels, in every row. -/
theorem p17_at (p : Fin 64) : k0_pay17 (F := Ideal) (ix2 p 0) = Ideal.ofBits FTy.f32 0x43800000#32 := by
  pointwise [k0_pay17]

/-- The convolved rows of a trip. -/
def conv (x0 : FVec Ideal S256x512 .bf16) (x1 : FVec Ideal S31x256 .f32) (x2 : FVec Ideal S1x256 .f32) (k : Fin k0_t1_loop.trips) : FVec Ideal S64x256 .f32 :=
  k0_pay15 (F := Ideal) (k0_pay14 (F := Ideal) (k0_pay12 (F := Ideal) (k0_pay11 (F := Ideal) (k0_pay10 (F := Ideal) (k0_pay8 (F := Ideal) (k0_pay7 (F := Ideal) (View.ld (shv x0) (Rect.unit (s := S8x288x256) (k0_off1 k 0#32) S1x64x256.size (k0_off1_inb k 0))) (View.ld x1 (Rect.unit (s := S31x256) ![0, 0] S1x256.size inb_S31x256_S1x256_0_0)) (View.ld (shv x0) (Rect.unit (s := S8x288x256) (k0_off2 k 0#32) S1x64x256.size (k0_off2_inb k 0))) (View.ld x1 (Rect.unit (s := S31x256) ![1, 0] S1x256.size inb_S31x256_S1x256_1_0)) (View.ld (shv x0) (Rect.unit (s := S8x288x256) (k0_off3 k 0#32) S1x64x256.size (k0_off3_inb k 0))) (View.ld x1 (Rect.unit (s := S31x256) ![2, 0] S1x256.size inb_S31x256_S1x256_2_0)) (View.ld (shv x0) (Rect.unit (s := S8x288x256) (k0_off4 k 0#32) S1x64x256.size (k0_off4_inb k 0))) (View.ld x1 (Rect.unit (s := S31x256) ![3, 0] S1x256.size inb_S31x256_S1x256_3_0))) (View.ld (shv x0) (Rect.unit (s := S8x288x256) (k0_off5 k 0#32) S1x64x256.size (k0_off5_inb k 0))) (View.ld x1 (Rect.unit (s := S31x256) ![4, 0] S1x256.size inb_S31x256_S1x256_4_0)) (View.ld (shv x0) (Rect.unit (s := S8x288x256) (k0_off6 k 0#32) S1x64x256.size (k0_off6_inb k 0))) (View.ld x1 (Rect.unit (s := S31x256) ![5, 0] S1x256.size inb_S31x256_S1x256_5_0)) (View.ld (shv x0) (Rect.unit (s := S8x288x256) (k0_off7 k 0#32) S1x64x256.size (k0_off7_inb k 0))) (View.ld x1 (Rect.unit (s := S31x256) ![6, 0] S1x256.size inb_S31x256_S1x256_6_0)) (View.ld (shv x0) (Rect.unit (s := S8x288x256) (k0_off8 k 8#32) S1x64x256.size (k0_off8_inb k 0))) (View.ld x1 (Rect.unit (s := S31x256) ![7, 0] S1x256.size inb_S31x256_S1x256_7_0))) (k0_pay9 (F := Ideal) (View.ld (shv x0) (Rect.unit (s := S8x288x256) (k0_off1 k 8#32) S1x64x256.size (k0_off1_inb k 1)))) (View.ld x1 (Rect.unit (s := S31x256) ![8, 0] S1x256.size inb_S31x256_S1x256_8_0)) (View.ld (shv x0) (Rect.unit (s := S8x288x256) (k0_off2 k 8#32) S1x64x256.size (k0_off2_inb k 1))) (View.ld x1 (Rect.unit (s := S31x256) ![9, 0] S1x256.size inb_S31x256_S1x256_9_0)) (View.ld (shv x0) (Rect.unit (s := S8x288x256) (k0_off3 k 8#32) S1x64x256.size (k0_off3_inb k 1))) (View.ld x1 (Rect.unit (s := S31x256) ![10, 0] S1x256.size inb_S31x256_S1x256_10_0)) (View.ld (shv x0) (Rect.unit (s := S8x288x256) (k0_off4 k 8#32) S1x64x256.size (k0_off4_inb k 1))) (View.ld x1 (Rect.unit (s := S31x256) ![11, 0] S1x256.size inb_S31x256_S1x256_11_0)) (View.ld (shv x0) (Rect.unit (s := S8x288x256) (k0_off5 k 8#32) S1x64x256.size (k0_off5_inb k 1))) (View.ld x1 (Rect.unit (s := S31x256) ![12, 0] S1x256.size inb_S31x256_S1x256_12_0))) (View.ld (shv x0) (Rect.unit (s := S8x288x256) (k0_off6 k 8#32) S1x64x256.size (k0_off6_inb k 1))) (View.ld x1 (Rect.unit (s := S31x256) ![13, 0] S1x256.size inb_S31x256_S1x256_13_0)) (View.ld (shv x0) (Rect.unit (s := S8x288x256) (k0_off7 k 8#32) S1x64x256.size (k0_off7_inb k 1))) (View.ld x1 (Rect.unit (s := S31x256) ![14, 0] S1x256.size inb_S31x256_S1x256_14_0)) (View.ld (shv x0) (Rect.unit (s := S8x288x256) (k0_off8 k 16#32) S1x64x256.size (k0_off8_inb k 1))) (View.ld x1 (Rect.unit (s := S31x256) ![15, 0] S1x256.size inb_S31x256_S1x256_15_0)) (View.ld (shv x0) (Rect.unit (s := S8x288x256) (k0_off1 k 16#32) S1x64x256.size (k0_off1_inb k 2))) (View.ld x1 (Rect.unit (s := S31x256) ![16, 0] S1x256.size inb_S31x256_S1x256_16_0)) (View.ld (shv x0) (Rect.unit (s := S8x288x256) (k0_off2 k 16#32) S1x64x256.size (k0_off2_inb k 2))) (View.ld x1 (Rect.unit (s := S31x256) ![17, 0] S1x256.size inb_S31x256_S1x256_17_0))) (View.ld (shv x0) (Rect.unit (s := S8x288x256) (k0_off3 k 16#32) S1x64x256.size (k0_off3_inb k 2))) (View.ld x1 (Rect.unit (s := S31x256) ![18, 0] S1x256.size inb_S31x256_S1x256_18_0)) (View.ld (shv x0) (Rect.unit (s := S8x288x256) (k0_off4 k 16#32) S1x64x256.size (k0_off4_inb k 2))) (View.ld x1 (Rect.unit (s := S31x256) ![19, 0] S1x256.size inb_S31x256_S1x256_19_0)) (View.ld (shv x0) (Rect.unit (s := S8x288x256) (k0_off5 k 16#32) S1x64x256.size (k0_off5_inb k 2))) (View.ld x1 (Rect.unit (s := S31x256) ![20, 0] S1x256.size inb_S31x256_S1x256_20_0)) (View.ld (shv x0) (Rect.unit (s := S8x288x256) (k0_off6 k 16#32) S1x64x256.size (k0_off6_inb k 2))) (View.ld x1 (Rect.unit (s := S31x256) ![21, 0] S1x256.size inb_S31x256_S1x256_21_0))) (k0_pay13 (F := Ideal) (View.ld (shv x0) (Rect.unit (s := S8x288x256) (k0_off7 k 16#32) S1x64x256.size (k0_off7_inb k 2)))) (View.ld x1 (Rect.unit (s := S31x256) ![22, 0] S1x256.size inb_S31x256_S1x256_22_0)) (View.ld (shv x0) (Rect.unit (s := S8x288x256) (k0_off8 k 24#32) S1x64x256.size (k0_off8_inb k 2))) (View.ld x1 (Rect.unit (s := S31x256) ![23, 0] S1x256.size inb_S31x256_S1x256_23_0)) (View.ld (shv x0) (Rect.unit (s := S8x288x256) (k0_off1 k 24#32) S1x64x256.size (k0_off1_inb k 3))) (View.ld x1 (Rect.unit (s := S31x256) ![24, 0] S1x256.size inb_S31x256_S1x256_24_0)) (View.ld (shv x0) (Rect.unit (s := S8x288x256) (k0_off2 k 24#32) S1x64x256.size (k0_off2_inb k 3))) (View.ld x1 (Rect.unit (s := S31x256) ![25, 0] S1x256.size inb_S31x256_S1x256_25_0)) (View.ld (shv x0) (Rect.unit (s := S8x288x256) (k0_off3 k 24#32) S1x64x256.size (k0_off3_inb k 3))) (View.ld x1 (Rect.unit (s := S31x256) ![26, 0] S1x256.size inb_S31x256_S1x256_26_0))) (View.ld (shv x0) (Rect.unit (s := S8x288x256) (k0_off4 k 24#32) S1x64x256.size (k0_off4_inb k 3))) (View.ld x1 (Rect.unit (s := S31x256) ![27, 0] S1x256.size inb_S31x256_S1x256_27_0)) (View.ld (shv x0) (Rect.unit (s := S8x288x256) (k0_off5 k 24#32) S1x64x256.size (k0_off5_inb k 3))) (View.ld x1 (Rect.unit (s := S31x256) ![28, 0] S1x256.size inb_S31x256_S1x256_28_0)) (View.ld (shv x0) (Rect.unit (s := S8x288x256) (k0_off6 k 24#32) S1x64x256.size (k0_off6_inb k 3))) (View.ld x1 (Rect.unit (s := S31x256) ![29, 0] S1x256.size inb_S31x256_S1x256_29_0)) (View.ld (shv x0) (Rect.unit (s := S8x288x256) (k0_off7 k 24#32) S1x64x256.size (k0_off7_inb k 3))) (View.ld x1 (Rect.unit (s := S31x256) ![30, 0] S1x256.size inb_S31x256_S1x256_30_0)) (View.ld x2 (Rect.unit (s := S1x256) ![0, 0] S1x256.size inb_S1x256_S1x256_0_0))

set_option maxHeartbeats 4000000 in
/-- The convolved rows of a trip are the reference's. -/
theorem conv_at (x0 : FVec Ideal S256x512 .bf16) (x1 : FVec Ideal S31x256 .f32) (x2 : FVec Ideal S1x256 .f32) (k : Fin k0_t1_loop.trips) (p : Fin 64) (j : Fin 256) :
    conv x0 x1 x2 k (ix2 p j) = cnv (fun s k => x0 (ix2 s k)) (fun t l => x1 (ix2 t l)) (fun l => x2 (ix2 0 l)) (64 * k.val + p.val) j := by
  obtain ⟨h0, h1, h2, h3, h4, h5, h6, h7, h8, h9, h10, h11, h12, h13, h14, h15, h16, h17, h18, h19, h20, h21, h22, h23, h24, h25, h26, h27, h28, h29, h30⟩ := offs k
  have hk : k.val < 4 := lt_of_lt_of_eq k.isLt trips_eq
  unfold conv
  rw [p15_at, p14_at, p12_at, p11_at, p10_at, p8_at, p7_at]
  rw [ld_at x0 (k0_off1 k 0#32) (k0_off1_inb k 0) (0 + 64 * k.val) p j h0.1 (by omega) h0.2, wt_at x1 0 (by decide) inb_S31x256_S1x256_0_0 j, show 0 + 64 * k.val + p.val = 64 * k.val + p.val + 0 from by omega]
  rw [ld_at x0 (k0_off2 k 0#32) (k0_off2_inb k 0) (1 + 64 * k.val) p j h1.1 (by omega) h1.2, wt_at x1 1 (by decide) inb_S31x256_S1x256_1_0 j, show 1 + 64 * k.val + p.val = 64 * k.val + p.val + 1 from by omega]
  rw [ld_at x0 (k0_off3 k 0#32) (k0_off3_inb k 0) (2 + 64 * k.val) p j h2.1 (by omega) h2.2, wt_at x1 2 (by decide) inb_S31x256_S1x256_2_0 j, show 2 + 64 * k.val + p.val = 64 * k.val + p.val + 2 from by omega]
  rw [ld_at x0 (k0_off4 k 0#32) (k0_off4_inb k 0) (3 + 64 * k.val) p j h3.1 (by omega) h3.2, wt_at x1 3 (by decide) inb_S31x256_S1x256_3_0 j, show 3 + 64 * k.val + p.val = 64 * k.val + p.val + 3 from by omega]
  rw [ld_at x0 (k0_off5 k 0#32) (k0_off5_inb k 0) (4 + 64 * k.val) p j h4.1 (by omega) h4.2, wt_at x1 4 (by decide) inb_S31x256_S1x256_4_0 j, show 4 + 64 * k.val + p.val = 64 * k.val + p.val + 4 from by omega]
  rw [ld_at x0 (k0_off6 k 0#32) (k0_off6_inb k 0) (5 + 64 * k.val) p j h5.1 (by omega) h5.2, wt_at x1 5 (by decide) inb_S31x256_S1x256_5_0 j, show 5 + 64 * k.val + p.val = 64 * k.val + p.val + 5 from by omega]
  rw [ld_at x0 (k0_off7 k 0#32) (k0_off7_inb k 0) (6 + 64 * k.val) p j h6.1 (by omega) h6.2, wt_at x1 6 (by decide) inb_S31x256_S1x256_6_0 j, show 6 + 64 * k.val + p.val = 64 * k.val + p.val + 6 from by omega]
  rw [ld_at x0 (k0_off8 k 8#32) (k0_off8_inb k 0) (7 + 64 * k.val) p j h7.1 (by omega) h7.2, wt_at x1 7 (by decide) inb_S31x256_S1x256_7_0 j, show 7 + 64 * k.val + p.val = 64 * k.val + p.val + 7 from by omega]
  rw [ld_at x0 (k0_off1 k 8#32) (k0_off1_inb k 1) (8 + 64 * k.val) p j h8.1 (by omega) h8.2, wt_at x1 8 (by decide) inb_S31x256_S1x256_8_0 j, show 8 + 64 * k.val + p.val = 64 * k.val + p.val + 8 from by omega]
  rw [ld_at x0 (k0_off2 k 8#32) (k0_off2_inb k 1) (9 + 64 * k.val) p j h9.1 (by omega) h9.2, wt_at x1 9 (by decide) inb_S31x256_S1x256_9_0 j, show 9 + 64 * k.val + p.val = 64 * k.val + p.val + 9 from by omega]
  rw [ld_at x0 (k0_off3 k 8#32) (k0_off3_inb k 1) (10 + 64 * k.val) p j h10.1 (by omega) h10.2, wt_at x1 10 (by decide) inb_S31x256_S1x256_10_0 j, show 10 + 64 * k.val + p.val = 64 * k.val + p.val + 10 from by omega]
  rw [ld_at x0 (k0_off4 k 8#32) (k0_off4_inb k 1) (11 + 64 * k.val) p j h11.1 (by omega) h11.2, wt_at x1 11 (by decide) inb_S31x256_S1x256_11_0 j, show 11 + 64 * k.val + p.val = 64 * k.val + p.val + 11 from by omega]
  rw [ld_at x0 (k0_off5 k 8#32) (k0_off5_inb k 1) (12 + 64 * k.val) p j h12.1 (by omega) h12.2, wt_at x1 12 (by decide) inb_S31x256_S1x256_12_0 j, show 12 + 64 * k.val + p.val = 64 * k.val + p.val + 12 from by omega]
  rw [ld_at x0 (k0_off6 k 8#32) (k0_off6_inb k 1) (13 + 64 * k.val) p j h13.1 (by omega) h13.2, wt_at x1 13 (by decide) inb_S31x256_S1x256_13_0 j, show 13 + 64 * k.val + p.val = 64 * k.val + p.val + 13 from by omega]
  rw [ld_at x0 (k0_off7 k 8#32) (k0_off7_inb k 1) (14 + 64 * k.val) p j h14.1 (by omega) h14.2, wt_at x1 14 (by decide) inb_S31x256_S1x256_14_0 j, show 14 + 64 * k.val + p.val = 64 * k.val + p.val + 14 from by omega]
  rw [ld_at x0 (k0_off8 k 16#32) (k0_off8_inb k 1) (15 + 64 * k.val) p j h15.1 (by omega) h15.2, wt_at x1 15 (by decide) inb_S31x256_S1x256_15_0 j, show 15 + 64 * k.val + p.val = 64 * k.val + p.val + 15 from by omega]
  rw [ld_at x0 (k0_off1 k 16#32) (k0_off1_inb k 2) (16 + 64 * k.val) p j h16.1 (by omega) h16.2, wt_at x1 16 (by decide) inb_S31x256_S1x256_16_0 j, show 16 + 64 * k.val + p.val = 64 * k.val + p.val + 16 from by omega]
  rw [ld_at x0 (k0_off2 k 16#32) (k0_off2_inb k 2) (17 + 64 * k.val) p j h17.1 (by omega) h17.2, wt_at x1 17 (by decide) inb_S31x256_S1x256_17_0 j, show 17 + 64 * k.val + p.val = 64 * k.val + p.val + 17 from by omega]
  rw [ld_at x0 (k0_off3 k 16#32) (k0_off3_inb k 2) (18 + 64 * k.val) p j h18.1 (by omega) h18.2, wt_at x1 18 (by decide) inb_S31x256_S1x256_18_0 j, show 18 + 64 * k.val + p.val = 64 * k.val + p.val + 18 from by omega]
  rw [ld_at x0 (k0_off4 k 16#32) (k0_off4_inb k 2) (19 + 64 * k.val) p j h19.1 (by omega) h19.2, wt_at x1 19 (by decide) inb_S31x256_S1x256_19_0 j, show 19 + 64 * k.val + p.val = 64 * k.val + p.val + 19 from by omega]
  rw [ld_at x0 (k0_off5 k 16#32) (k0_off5_inb k 2) (20 + 64 * k.val) p j h20.1 (by omega) h20.2, wt_at x1 20 (by decide) inb_S31x256_S1x256_20_0 j, show 20 + 64 * k.val + p.val = 64 * k.val + p.val + 20 from by omega]
  rw [ld_at x0 (k0_off6 k 16#32) (k0_off6_inb k 2) (21 + 64 * k.val) p j h21.1 (by omega) h21.2, wt_at x1 21 (by decide) inb_S31x256_S1x256_21_0 j, show 21 + 64 * k.val + p.val = 64 * k.val + p.val + 21 from by omega]
  rw [ld_at x0 (k0_off7 k 16#32) (k0_off7_inb k 2) (22 + 64 * k.val) p j h22.1 (by omega) h22.2, wt_at x1 22 (by decide) inb_S31x256_S1x256_22_0 j, show 22 + 64 * k.val + p.val = 64 * k.val + p.val + 22 from by omega]
  rw [ld_at x0 (k0_off8 k 24#32) (k0_off8_inb k 2) (23 + 64 * k.val) p j h23.1 (by omega) h23.2, wt_at x1 23 (by decide) inb_S31x256_S1x256_23_0 j, show 23 + 64 * k.val + p.val = 64 * k.val + p.val + 23 from by omega]
  rw [ld_at x0 (k0_off1 k 24#32) (k0_off1_inb k 3) (24 + 64 * k.val) p j h24.1 (by omega) h24.2, wt_at x1 24 (by decide) inb_S31x256_S1x256_24_0 j, show 24 + 64 * k.val + p.val = 64 * k.val + p.val + 24 from by omega]
  rw [ld_at x0 (k0_off2 k 24#32) (k0_off2_inb k 3) (25 + 64 * k.val) p j h25.1 (by omega) h25.2, wt_at x1 25 (by decide) inb_S31x256_S1x256_25_0 j, show 25 + 64 * k.val + p.val = 64 * k.val + p.val + 25 from by omega]
  rw [ld_at x0 (k0_off3 k 24#32) (k0_off3_inb k 3) (26 + 64 * k.val) p j h26.1 (by omega) h26.2, wt_at x1 26 (by decide) inb_S31x256_S1x256_26_0 j, show 26 + 64 * k.val + p.val = 64 * k.val + p.val + 26 from by omega]
  rw [ld_at x0 (k0_off4 k 24#32) (k0_off4_inb k 3) (27 + 64 * k.val) p j h27.1 (by omega) h27.2, wt_at x1 27 (by decide) inb_S31x256_S1x256_27_0 j, show 27 + 64 * k.val + p.val = 64 * k.val + p.val + 27 from by omega]
  rw [ld_at x0 (k0_off5 k 24#32) (k0_off5_inb k 3) (28 + 64 * k.val) p j h28.1 (by omega) h28.2, wt_at x1 28 (by decide) inb_S31x256_S1x256_28_0 j, show 28 + 64 * k.val + p.val = 64 * k.val + p.val + 28 from by omega]
  rw [ld_at x0 (k0_off6 k 24#32) (k0_off6_inb k 3) (29 + 64 * k.val) p j h29.1 (by omega) h29.2, wt_at x1 29 (by decide) inb_S31x256_S1x256_29_0 j, show 29 + 64 * k.val + p.val = 64 * k.val + p.val + 29 from by omega]
  rw [ld_at x0 (k0_off7 k 24#32) (k0_off7_inb k 3) (30 + 64 * k.val) p j h30.1 (by omega) h30.2, wt_at x1 30 (by decide) inb_S31x256_S1x256_30_0 j, show 30 + 64 * k.val + p.val = 64 * k.val + p.val + 30 from by omega]
  rw [one_at]
  unfold cnv taps
  rfl

/-- What a trip stores, at a row and a channel. -/
theorem chunk_at (x0 : FVec Ideal S256x512 .bf16) (x1 : FVec Ideal S31x256 .f32) (x2 x3 x4 : FVec Ideal S1x256 .f32) (k : Fin k0_t1_loop.trips) (p : Fin 64) (l : Fin 256) :
    chunk (F := Ideal) (shv x0) x1 x2 x3 x4 k (ix2 p l)
      = act (lnr (mean (cnv (fun s k => x0 (ix2 s k)) (fun t l => x1 (ix2 t l)) (fun l => x2 (ix2 0 l)) (64 * k.val + p.val)))
          (cnv (fun s k => x0 (ix2 s k)) (fun t l => x1 (ix2 t l)) (fun l => x2 (ix2 0 l)) (64 * k.val + p.val))
          (fun l => x3 (ix2 0 l)) (fun l => x4 (ix2 0 l)) l) := by
  unfold chunk
  refine (p6_at _ _ _ _ _ p l).trans ?_
  rw [p16_at, p17_at]
  have h := fun j => conv_at x0 x1 x2 k p j
  unfold conv at h
  simp only [h]
  exact congrArg₂ (fun g b : Fin 256 → EReal => act (lnr (mean (cnv (fun s k => x0 (ix2 s k)) (fun t l => x1 (ix2 t l)) (fun l => x2 (ix2 0 l)) (64 * k.val + p.val))) (cnv (fun s k => x0 (ix2 s k)) (fun t l => x1 (ix2 t l)) (fun l => x2 (ix2 0 l)) (64 * k.val + p.val)) g b l)) (funext fun l => one_at x3 inb_S1x256_S1x256_0_0 l) (funext fun l => one_at x4 inb_S1x256_S1x256_0_0 l)

/-- The contents of the bias and the norm's weights at the region's entry. -/
theorem entries (c : Dev nD) : V m c main_v0 = shapeCast S1x256 (m ((c : Thread nD τ).loc main_arg2)) shapeCasts_S256_S1x256
    ∧ V m c main_v1 = shapeCast S1x256 (m ((c : Thread nD τ).loc main_arg3)) shapeCasts_S256_S1x256
    ∧ V m c main_v2 = shapeCast S1x256 (m ((c : Thread nD τ).loc main_arg4)) shapeCasts_S256_S1x256 := by
  refine ⟨?_, ?_, ?_⟩ <;> (entry_read; try rfl)

/-- A vector as a row, at an index. -/
theorem vec_at (x : FVec Ideal S256 .f32) (p : Fin 1) (l : Fin 256) : shapeCast S1x256 x shapeCasts_S256_S1x256 (ix2 p l) = x (ix1 l) := by
  pointwise

/-- The array after the run is the reference's. -/
theorem final (c : Dev nD) : (dats m 0 c).arrAt 5 (cfgs 0).N
      = val_main_v257 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have ht : t.val < 32 := t.isLt
  have he : ((cfg0.win 5).blk t).view.emb (ix2 y0 y1) = ix2 (⟨(⟨t.val, ht⟩ : Fin 32).val * 256 + y0.val, by omega⟩ : Fin 8192) y1 := by
    blk_ext [idx t]
  obtain ⟨e0, e1, e2⟩ := entries m c
  rw [he, ref_at]
  unfold outB
  refine (chunk_at _ _ _ _ _ _ _ _).trans ?_
  have hs : 64 * (y0.val / 64) + y0.val % 64 = y0.val := by omega
  have h0 : (fun (s : Fin 256) (k : Fin 512) => iblk m c 0 t (ix2 s k)) = seq (m ((c : Thread nD τ).loc main_arg0)) ⟨t.val, ht⟩ := by
    funext s k; blk_ext [iblk, V, seq, idx t]
  have h1 : (fun (s : Fin 31) (k : Fin 256) => iblk m c 1 t (ix2 s k)) = fun s k => m ((c : Thread nD τ).loc main_arg1) (ix2 s k) := by
    funext s k; blk_ext [iblk, V, idx t]
  have h2 : (fun k : Fin 256 => iblk m c 2 t (ix2 0 k)) = fun k => m ((c : Thread nD τ).loc main_arg2) (ix1 k) := by
    funext k
    have hb : ((cfg0.win 2).blk t).view.emb (ix2 0 k) = ix2 (0 : Fin 1) k := by blk_ext [idx t]
    show V m c main_v0 (((cfg0.win 2).blk t).view.emb (ix2 0 k)) = _
    rw [hb, e0]; exact vec_at _ _ _
  have h3 : (fun k : Fin 256 => iblk m c 3 t (ix2 0 k)) = fun k => m ((c : Thread nD τ).loc main_arg3) (ix1 k) := by
    funext k
    have hb : ((cfg0.win 3).blk t).view.emb (ix2 0 k) = ix2 (0 : Fin 1) k := by blk_ext [idx t]
    show V m c main_v1 (((cfg0.win 3).blk t).view.emb (ix2 0 k)) = _
    rw [hb, e1]; exact vec_at _ _ _
  have h4 : (fun k : Fin 256 => iblk m c 4 t (ix2 0 k)) = fun k => m ((c : Thread nD τ).loc main_arg4) (ix1 k) := by
    funext k
    have hb : ((cfg0.win 4).blk t).view.emb (ix2 0 k) = ix2 (0 : Fin 1) k := by blk_ext [idx t]
    show V m c main_v2 (((cfg0.win 4).blk t).view.emb (ix2 0 k)) = _
    rw [hb, e2]; exact vec_at _ _ _
  have hr := congrArg₂ (fun (u : Fin 256 → Fin 512 → EReal) (w : Fin 31 → Fin 256 → EReal) => fun b n => cnv u w b n) h0 h1
  unfold row
  rw [← h0, ← h1, ← h2, ← h3, ← h4, ← hs]
  rfl

end Cert.Own.Con

end
-- ==== Proof.lean ====
module

public import proofs.«01_k».proof.Defs
public import proofs.«01_k».proof.Proof.AttnValue
public import proofs.«01_k».proof.Proof.Gen.Kernel.Frame
public import proofs.«01_k».proof.Proof.Gen.ReferenceIdeal.Run
public import proofs.«01_k».proof.Proof.Gen.ReferenceIdeal.Read
public import proofs.«01_k».proof.Proof.Gen.Pre_finite_inputs
public import proofs.«01_k».proof.Proof.FfnValue
public import proofs.«01_k».proof.Proof.Gen.Ffn.Frame
public import proofs.«01_k».proof.Proof.Gen.FfnRefIdeal.Run
public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.ExpertsRefIdeal.Read
public import proofs.«01_k».proof.Proof.Gen.Pre_tables_in_range
public import proofs.«01_k».proof.Proof.ExpBitsFrame
public import proofs.«01_k».proof.Proof.ExpBitsPre
public import proofs.«01_k».proof.Proof.ExpValue
public import proofs.«01_k».proof.Proof.Gen.Premix.Frame
public import proofs.«01_k».proof.Proof.Gen.PremixIdeal.Frame
public import proofs.«01_k».proof.Proof.Gen.PremixRefIdeal.Run
public import proofs.«01_k».proof.Proof.Gen.PremixRefIdeal.Read
public import proofs.«01_k».proof.Proof.PmxValue
public import proofs.«01_k».proof.Proof.PmxRef
public import proofs.«01_k».proof.Proof.Gen.Postmix.Frame
public import proofs.«01_k».proof.Proof.Gen.PostmixIdeal.Frame
public import proofs.«01_k».proof.Proof.Gen.PostmixRefIdeal.Run
public import proofs.«01_k».proof.Proof.Gen.PostmixRefIdeal.Read
public import proofs.«01_k».proof.Proof.Gen.Pre_finite_router
public import proofs.«01_k».proof.Proof.PstMath
public import proofs.«01_k».proof.Proof.PstRef
public import proofs.«01_k».proof.Proof.PstPre
public import proofs.«01_k».proof.Proof.PstValue
public import proofs.«01_k».proof.Proof.Gen.Modulation.Frame
public import proofs.«01_k».proof.Proof.Gen.ModulationIdeal.Frame
public import proofs.«01_k».proof.Proof.Gen.ModulationRefIdeal.Run
public import proofs.«01_k».proof.Proof.Gen.ModulationRefIdeal.Read
public import proofs.«01_k».proof.Proof.ModValue
public import proofs.«01_k».proof.Proof.Gen.Conformer.Frame
public import proofs.«01_k».proof.Proof.Gen.ConformerIdeal.Frame
public import proofs.«01_k».proof.Proof.Gen.ConformerRefIdeal.Run
public import proofs.«01_k».proof.Proof.Gen.ConformerRefIdeal.Read
public import proofs.«01_k».proof.Proof.Gen.ConformerIdeal.Skeleton
public import proofs.«01_k».proof.Proof.Gen.Conformer.Skeleton
public import proofs.«01_k».proof.Proof.Gen.ConformerIdeal.Loops
public import proofs.«01_k».proof.Proof.Gen.Conformer.Loops
public import proofs.«01_k».proof.Proof.ConBody
public import proofs.«01_k».proof.Proof.ConFrame
public import proofs.«01_k».proof.Proof.ConBitsBody
public import proofs.«01_k».proof.Proof.ConBitsFrame
public import proofs.«01_k».proof.Proof.ConRef
public import proofs.«01_k».proof.Proof.ConValue
public import Idealize.ShloMosaic.Lib.Claim
public import Idealize.ShloMosaic.Lib.Quiescent

@[expose] public section

noncomputable section

namespace Cert.Proof

open Idealize.ShloMosaic Idealize.SL.Sem

/-- The attention leaves its arguments as they were. -/
theorem quiescent_Kernel : Cert.quiescent_Kernel := fun m g _ => Cert.Kernel.Gen.frame m g

/-- The idealized attention leaves its arguments as they were. -/
theorem quiescent_KernelIdeal : Cert.quiescent_KernelIdeal := fun m g _ => Cert.KernelIdeal.Gen.frame m g

/-- The same, of the inputs the value claim reads. -/
theorem quiescent_KernelIdeal_pre_finite_inputs : Cert.quiescent_KernelIdeal_pre_finite_inputs :=
  fun m g _ => Cert.KernelIdeal.Gen.frame m g

/-- The attention's reference leaves its arguments as they were. -/
theorem quiescent_ReferenceIdeal : Cert.quiescent_ReferenceIdeal := by
  intro m g _
  refine θ_run_mono (Cert.ReferenceIdeal.Value.run m g) fun r h => ⟨fun c => (h c).2, sem_eq_zero_of_no_sems rfl _⟩

/-- The same, of the inputs the value claim reads. -/
theorem quiescent_ReferenceIdeal_pre_finite_inputs : Cert.quiescent_ReferenceIdeal_pre_finite_inputs :=
  fun m g _ => quiescent_ReferenceIdeal m g trivial

/-- No operation of the attention was changed by the idealization. -/
theorem preserves_Kernel_KernelIdeal : Cert.preserves_Kernel_KernelIdeal := trivial

/-- The idealized attention computes its reference, on inputs that are real numbers. -/
theorem algebraic_KernelIdeal_ReferenceIdeal_pre_finite_inputs :
    Cert.algebraic_KernelIdeal_ReferenceIdeal_pre_finite_inputs := by
  pair_intro
  · run_from Cert.KernelIdeal.Gen.run_main m g
  · run_from Cert.ReferenceIdeal.Value.run m' g'
    have h2 := (Cert.Own.Attn.final m c (Cert.Own.Attn.pre_fin _ _ _ _ _ _ _ _ _ _ (hpre c))).symm
    obtain ⟨e0, e1, e2, e3, e4, e5, e6, e7, e8, e9⟩ := hagree c
    rw [Cert.ReferenceIdeal.Read.val_main_v71_eq, e0, e1, e2, e3, e4, e5, e6, e7, e8, e9]
    exact h2

/-- The shared expert leaves its arguments as they were. -/
theorem quiescent_Ffn : Cert.quiescent_Ffn := fun m g _ => Cert.Ffn.Gen.frame m g

/-- The idealized shared expert leaves its arguments as they were. -/
theorem quiescent_FfnIdeal : Cert.quiescent_FfnIdeal := fun m g _ => Cert.FfnIdeal.Gen.frame m g

/-- The shared expert's reference leaves its arguments as they were. -/
theorem quiescent_FfnRefIdeal : Cert.quiescent_FfnRefIdeal := by
  intro m g _
  refine θ_run_mono (Cert.FfnRefIdeal.Value.run m g) fun r h => ⟨fun c => (h c).2, sem_eq_zero_of_no_sems rfl _⟩

/-- No operation of the shared expert was changed by the idealization. -/
theorem preserves_Ffn_FfnIdeal : Cert.preserves_Ffn_FfnIdeal := trivial

/-- The idealized shared expert computes its reference. -/
theorem algebraic_FfnIdeal_FfnRefIdeal : Cert.algebraic_FfnIdeal_FfnRefIdeal := by
  pair_intro
  · run_from Cert.FfnIdeal.Gen.run_main m g
  · run_from Cert.FfnRefIdeal.Value.run m' g'
    exact (Cert.Own.Ffn.final m c).symm

/-- The routed experts leave their arguments as they were. -/
theorem quiescent_Experts : Cert.quiescent_Experts := fun m g h =>
  Cert.Experts.Run.frame m g (Cert.Experts.Run.ok_of_words m (Cert.ExpertsIdeal.Run.words _ _ _ _ _ _ (h 0)))

/-- The idealized routed experts leave their arguments as they were. -/
theorem quiescent_ExpertsIdeal : Cert.quiescent_ExpertsIdeal := fun m g h =>
  Cert.ExpertsIdeal.Run.frame m g (Cert.ExpertsIdeal.Run.ok_of_words m (Cert.ExpertsIdeal.Run.words _ _ _ _ _ _ (h 0)))

/-- The routed experts' reference leaves its arguments as they were. -/
theorem quiescent_ExpertsRefIdeal : Cert.quiescent_ExpertsRefIdeal := by
  intro m g _
  refine θ_run_mono (Cert.ExpertsRefIdeal.Value.run m g) fun r h => ⟨fun c => (h c).2, sem_eq_zero_of_no_sems rfl _⟩

/-- The same, of the tables the value claim reads. -/
theorem quiescent_ExpertsRefIdeal_pre_tables_in_range : Cert.quiescent_ExpertsRefIdeal_pre_tables_in_range :=
  fun m g _ => quiescent_ExpertsRefIdeal m g trivial

/-- No operation of the routed experts was changed by the idealization. -/
theorem preserves_Experts_ExpertsIdeal : Cert.preserves_Experts_ExpertsIdeal := trivial

/-- The idealized routed experts compute their reference, where the table's words name experts. -/
theorem algebraic_ExpertsIdeal_ExpertsRefIdeal : Cert.algebraic_ExpertsIdeal_ExpertsRefIdeal := by
  intro m g m' g' hpre hagree
  have hw := fun c => Cert.ExpertsIdeal.Run.words _ _ _ _ _ _ (hpre c)
  have hO := Cert.ExpertsIdeal.Run.ok_of_words m (hw 0)
  refine ⟨fun c => (Cert.ExpertsIdeal.Run.dats m hO 0 c).arrAt 4 (Cert.ExpertsIdeal.Run.cfgM m hO).N, ?_, ?_⟩
  · refine θ_run_mono (θ_run_and (Cert.ExpertsIdeal.Run.run_main m g hO) (Cert.ExpertsIdeal.Run.unchanged m g hO)) fun r h c => ?_
    exact ⟨h.1.out_eq c 4, h.2 c⟩
  · refine θ_run_mono (Cert.ExpertsRefIdeal.Value.run m' g') fun r h c => ⟨(h c).1.trans ?_, (h c).2⟩
    have h2 := (Cert.Own.Exp.final m hO c (hw c)).symm
    obtain ⟨e0, e1, e2, e3, e4, e5⟩ := hagree c
    rw [Cert.ExpertsRefIdeal.Read.val_main_v34_eq, e0, e1, e2, e3, e4, e5]
    exact h2

/-- The input projection leaves its arguments as they were. -/
theorem quiescent_Premix : Cert.quiescent_Premix := fun m g _ => Cert.Premix.Gen.frame m g

/-- The idealized input projection leaves its arguments as they were. -/
theorem quiescent_PremixIdeal : Cert.quiescent_PremixIdeal := fun m g _ => Cert.PremixIdeal.Gen.frame m g

/-- The input projection's reference leaves its arguments as they were. -/
theorem quiescent_PremixRefIdeal : Cert.quiescent_PremixRefIdeal := by
  intro m g _
  refine θ_run_mono (Cert.PremixRefIdeal.Value.run m g) fun r h => ⟨fun c => (h c).2.2.2.2.2.2.2, sem_eq_zero_of_no_sems rfl _⟩

/-- No operation of the input projection was changed by the idealization. -/
theorem preserves_Premix_PremixIdeal : Cert.preserves_Premix_PremixIdeal := trivial

set_option maxHeartbeats 4000000 in
/-- The idealized input projection computes its reference, result by result. -/
theorem algebraic_PremixIdeal_PremixRefIdeal : Cert.algebraic_PremixIdeal_PremixRefIdeal := by
  intro m g m' g' hpre hagree
  refine ⟨fun c => (Cert.PremixIdeal.Gen.dats m 0 c).arrAt 4 (Cert.PremixIdeal.cfgs 0).N,
    fun c => (Cert.PremixIdeal.Gen.dats m 0 c).arrAt 5 (Cert.PremixIdeal.cfgs 0).N,
    fun c => (Cert.PremixIdeal.Gen.dats m 0 c).arrAt 6 (Cert.PremixIdeal.cfgs 0).N,
    fun c => (Cert.PremixIdeal.Gen.dats m 0 c).arrAt 7 (Cert.PremixIdeal.cfgs 0).N,
    fun c => (Cert.PremixIdeal.Gen.dats m 0 c).arrAt 8 (Cert.PremixIdeal.cfgs 0).N,
    fun c => (Cert.PremixIdeal.Gen.dats m 0 c).arrAt 9 (Cert.PremixIdeal.cfgs 0).N,
    fun c => (Cert.PremixIdeal.Gen.dats m 0 c).arrAt 10 (Cert.PremixIdeal.cfgs 0).N, ?_, ?_⟩
  · refine θ_run_mono (θ_run_and (Cert.PremixIdeal.Gen.run_main m g) (Cert.PremixIdeal.Gen.unchanged m g)) fun r h c => ?_
    exact ⟨h.1.out_eq c 4, h.1.out_eq c 5, h.1.out_eq c 6, h.1.out_eq c 7, h.1.out_eq c 8, h.1.out_eq c 9, h.1.out_eq c 10, h.2 c⟩
  · refine θ_run_mono (Cert.PremixRefIdeal.Value.run m' g') fun r h c => ?_
    obtain ⟨e0, e1, e2, e3, e4, e5⟩ := hagree c
    obtain ⟨h0, h1, h2, h3, h4, h5, h6, hu⟩ := h c
    refine ⟨h0.trans ?_, h1.trans ?_, h2.trans ?_, h3.trans ?_, h4.trans ?_, h5.trans ?_, h6.trans ?_, hu⟩
    · rw [Cert.PremixRefIdeal.Read.val_main_v46_eq, e0, e1, e2, e3]; exact (Cert.Own.Pmx.final4 m c).symm
    · rw [Cert.PremixRefIdeal.Read.val_main_v48_eq, e0, e1, e2, e3]; exact (Cert.Own.Pmx.final5 m c).symm
    · rw [Cert.PremixRefIdeal.Read.val_main_v49_eq, e0, e1, e2, e3]; exact (Cert.Own.Pmx.final6 m c).symm
    · rw [Cert.PremixRefIdeal.Read.val_main_v50_eq, e0, e1, e2, e3]; exact (Cert.Own.Pmx.final7 m c).symm
    · rw [Cert.PremixRefIdeal.Read.val_main_v51_eq, e0, e1, e2, e3]; exact (Cert.Own.Pmx.final8 m c).symm
    · rw [Cert.PremixRefIdeal.Read.val_main_v37_eq, e0, e1, e2, e3, e4]; exact (Cert.Own.Pmx.final9 m c).symm
    · rw [Cert.PremixRefIdeal.Read.val_main_v44_eq, e0, e1, e2, e3, e5]; exact (Cert.Own.Pmx.final10 m c).symm

/-- The output projection leaves its arguments as they were. -/
theorem quiescent_Postmix : Cert.quiescent_Postmix := fun m g _ => Cert.Postmix.Gen.frame m g

/-- The idealized output projection leaves its arguments as they were. -/
theorem quiescent_PostmixIdeal : Cert.quiescent_PostmixIdeal := fun m g _ => Cert.PostmixIdeal.Gen.frame m g

/-- The same, of the inputs the value claim reads. -/
theorem quiescent_PostmixIdeal_pre_finite_router : Cert.quiescent_PostmixIdeal_pre_finite_router :=
  fun m g _ => Cert.PostmixIdeal.Gen.frame m g

/-- The output projection's reference leaves its arguments as they were. -/
theorem quiescent_PostmixRefIdeal : Cert.quiescent_PostmixRefIdeal := by
  intro m g _
  refine θ_run_mono (Cert.PostmixRefIdeal.Value.run m g) fun r h => ⟨fun c => (h c).2.2.2, sem_eq_zero_of_no_sems rfl _⟩

/-- The same, of the inputs the value claim reads. -/
theorem quiescent_PostmixRefIdeal_pre_finite_router : Cert.quiescent_PostmixRefIdeal_pre_finite_router :=
  fun m g _ => quiescent_PostmixRefIdeal m g trivial

/-- No operation of the output projection was changed by the idealization. -/
theorem preserves_Postmix_PostmixIdeal : Cert.preserves_Postmix_PostmixIdeal := trivial

set_option maxHeartbeats 4000000 in
/-- The idealized output projection computes its reference, result by result. -/
theorem algebraic_PostmixIdeal_PostmixRefIdeal_pre_finite_router : Cert.algebraic_PostmixIdeal_PostmixRefIdeal_pre_finite_router := by
  intro m g m' g' hpre hagree
  refine ⟨fun c => (Cert.PostmixIdeal.Gen.dats m 0 c).arrAt 9 (Cert.PostmixIdeal.cfgs 0).N,
    fun c => (Cert.PostmixIdeal.Gen.dats m 0 c).arrAt 10 (Cert.PostmixIdeal.cfgs 0).N,
    fun c => (Cert.PostmixIdeal.Gen.dats m 0 c).arrAt 11 (Cert.PostmixIdeal.cfgs 0).N, ?_, ?_⟩
  · refine θ_run_mono (θ_run_and (Cert.PostmixIdeal.Gen.run_main m g) (Cert.PostmixIdeal.Gen.unchanged m g)) fun r h c => ?_
    exact ⟨h.1.out_eq c 9, h.1.out_eq c 10, h.1.out_eq c 11, h.2 c⟩
  · refine θ_run_mono (Cert.PostmixRefIdeal.Value.run m' g') fun r h c => ?_
    obtain ⟨e0, e1, e2, e3, e4, e5, e6, e7, e8⟩ := hagree c
    obtain ⟨h0, h1, h2, hu⟩ := h c
    obtain ⟨f4, f6, f8⟩ := Cert.Own.Pst.pre_fin _ _ _ _ _ _ _ _ _ (hpre c)
    refine ⟨h0.trans ?_, h1.trans ?_, h2.trans ?_, hu⟩
    · rw [Cert.PostmixRefIdeal.Read.val_main_v52_eq, e0, e1, e2, e3, e4, e5, e7]; exact (Cert.Own.Pst.final9 m c).symm
    · rw [Cert.PostmixRefIdeal.Read.val_main_v53_eq, e0, e1, e2, e3, e4, e5, e6, e7]; exact (Cert.Own.Pst.final10 m c).symm
    · rw [Cert.PostmixRefIdeal.Read.val_main_v54_eq, e0, e1, e2, e3, e4, e5, e6, e7, e8]
      exact (Cert.Own.Pst.final11 m c f4 f6 f8).symm

/-- The modulation leaves its arguments as they were. -/
theorem quiescent_Modulation : Cert.quiescent_Modulation := fun m g _ => Cert.Modulation.Gen.frame m g

/-- The idealized modulation leaves its arguments as they were. -/
theorem quiescent_ModulationIdeal : Cert.quiescent_ModulationIdeal := fun m g _ => Cert.ModulationIdeal.Gen.frame m g

/-- The modulation's reference leaves its arguments as they were. -/
theorem quiescent_ModulationRefIdeal : Cert.quiescent_ModulationRefIdeal := by
  intro m g _
  refine θ_run_mono (Cert.ModulationRefIdeal.Value.run m g) fun r h => ⟨fun c => (h c).2, sem_eq_zero_of_no_sems rfl _⟩

/-- No operation of the modulation was changed by the idealization. -/
theorem preserves_Modulation_ModulationIdeal : Cert.preserves_Modulation_ModulationIdeal := trivial

/-- The idealized modulation computes its reference. -/
theorem algebraic_ModulationIdeal_ModulationRefIdeal : Cert.algebraic_ModulationIdeal_ModulationRefIdeal := by
  pair_intro
  · run_from Cert.ModulationIdeal.Gen.run_main m g
  · run_from Cert.ModulationRefIdeal.Value.run m' g'
    rw [Cert.ModulationRefIdeal.Read.val_main_v5_eq]
    exact (Cert.Own.Mod.final m c).symm

/-- The conformer convolution leaves its arguments as they were. -/
theorem quiescent_Conformer : Cert.quiescent_Conformer := fun m g _ => Cert.Conformer.Run.frame m g

/-- The idealized conformer convolution leaves its arguments as they were. -/
theorem quiescent_ConformerIdeal : Cert.quiescent_ConformerIdeal := fun m g _ => Cert.ConformerIdeal.Run.frame m g

/-- The conformer convolution's reference leaves its arguments as they were. -/
theorem quiescent_ConformerRefIdeal : Cert.quiescent_ConformerRefIdeal := by
  intro m g _
  refine θ_run_mono (Cert.ConformerRefIdeal.Value.run m g) fun r h => ⟨fun c => (h c).2, sem_eq_zero_of_no_sems rfl _⟩

/-- No operation of the conformer convolution was changed by the idealization. -/
theorem preserves_Conformer_ConformerIdeal : Cert.preserves_Conformer_ConformerIdeal := trivial

/-- The idealized conformer convolution computes its reference. -/
theorem algebraic_ConformerIdeal_ConformerRefIdeal : Cert.algebraic_ConformerIdeal_ConformerRefIdeal := by
  intro m g m' g' _ hagree
  refine ⟨fun c => (Cert.ConformerIdeal.Run.dats m 0 c).arrAt 5 (Cert.ConformerIdeal.cfgs 0).N, ?_, ?_⟩
  · refine θ_run_mono (θ_run_and (Cert.ConformerIdeal.Run.run_main m g) (Cert.ConformerIdeal.Run.unchanged m g)) fun r h c => ?_
    exact ⟨h.1.out_eq c 5, h.2 c⟩
  · refine θ_run_mono (Cert.ConformerRefIdeal.Value.run m' g') fun r h c => ⟨(h c).1.trans ?_, (h c).2⟩
    have h2 := (Cert.Own.Con.final m c).symm
    obtain ⟨e0, e1, e2, e3, e4⟩ := hagree c
    rw [← e0, ← e1, ← e2, ← e3, ← e4] at h2
    rw [Cert.ConformerRefIdeal.Read.val_main_v257_eq]
    exact h2

/-- Everything the certificate claims. -/
theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.Experts.Gen.facts, Cert.ExpertsIdeal.Gen.facts, Cert.ExpertsRefIdeal.Gen.facts, Cert.Premix.Gen.facts, Cert.PremixIdeal.Gen.facts, Cert.PremixRefIdeal.Gen.facts, Cert.Postmix.Gen.facts, Cert.PostmixIdeal.Gen.facts, Cert.PostmixRefIdeal.Gen.facts, Cert.Modulation.Gen.facts, Cert.ModulationIdeal.Gen.facts, Cert.ModulationRefIdeal.Gen.facts, Cert.Conformer.Gen.facts, Cert.ConformerIdeal.Gen.facts, Cert.ConformerRefIdeal.Gen.facts, Cert.Pre_finite_inputs.Gen.facts, Cert.Pre_tables_in_range.Gen.facts, Cert.Pre_finite_router.Gen.facts,
   quiescent_Kernel,
   quiescent_KernelIdeal,
   quiescent_KernelIdeal_pre_finite_inputs,
   quiescent_ReferenceIdeal,
   quiescent_ReferenceIdeal_pre_finite_inputs,
   quiescent_Ffn,
   quiescent_FfnIdeal,
   quiescent_FfnRefIdeal,
   quiescent_Experts,
   quiescent_ExpertsIdeal,
   quiescent_ExpertsRefIdeal,
   quiescent_ExpertsRefIdeal_pre_tables_in_range,
   quiescent_Premix,
   quiescent_PremixIdeal,
   quiescent_PremixRefIdeal,
   quiescent_Postmix,
   quiescent_PostmixIdeal,
   quiescent_PostmixIdeal_pre_finite_router,
   quiescent_PostmixRefIdeal,
   quiescent_PostmixRefIdeal_pre_finite_router,
   quiescent_Modulation,
   quiescent_ModulationIdeal,
   quiescent_ModulationRefIdeal,
   quiescent_Conformer,
   quiescent_ConformerIdeal,
   quiescent_ConformerRefIdeal,
   preserves_Kernel_KernelIdeal,
   algebraic_KernelIdeal_ReferenceIdeal_pre_finite_inputs,
   preserves_Ffn_FfnIdeal,
   algebraic_FfnIdeal_FfnRefIdeal,
   preserves_Experts_ExpertsIdeal,
   algebraic_ExpertsIdeal_ExpertsRefIdeal,
   preserves_Premix_PremixIdeal,
   algebraic_PremixIdeal_PremixRefIdeal,
   preserves_Postmix_PostmixIdeal,
   algebraic_PostmixIdeal_PostmixRefIdeal_pre_finite_router,
   preserves_Modulation_ModulationIdeal,
   algebraic_ModulationIdeal_ModulationRefIdeal,
   preserves_Conformer_ConformerIdeal,
   algebraic_ConformerIdeal_ConformerRefIdeal⟩

end Cert.Proof

end
